-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens [hPre_finite_tokens : Cert.Pre_finite_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens [hPre_finite_tokens : Cert.Pre_finite_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_tokens [hKernelIdeal : Cert.KernelIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_tokens [hReferenceIdeal : Cert.ReferenceIdeal.Facts] [hPre_finite_tokens : Cert.Pre_finite_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_tokens [hKernelIdeal : Cert.KernelIdeal.Facts] [hReferenceIdeal : Cert.ReferenceIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_tokens : Cert.Pre_finite_tokens.Facts),
    quiescent_Kernel (hKernel := hKernel)
    ∧ quiescent_KernelIdeal (hKernelIdeal := hKernelIdeal)
    ∧ quiescent_KernelIdeal_pre_finite_tokens (hKernelIdeal := hKernelIdeal) (hPre_finite_tokens := hPre_finite_tokens)
    ∧ quiescent_ReferenceIdeal (hReferenceIdeal := hReferenceIdeal)
    ∧ quiescent_ReferenceIdeal_pre_finite_tokens (hReferenceIdeal := hReferenceIdeal) (hPre_finite_tokens := hPre_finite_tokens)
    ∧ preserves_Kernel_KernelIdeal
    ∧ algebraic_KernelIdeal_ReferenceIdeal_pre_finite_tokens (hKernelIdeal := hKernelIdeal) (hReferenceIdeal := hReferenceIdeal) (hPre_finite_tokens := hPre_finite_tokens)
-- ==== Pre_finite_tokens.lean ====
abbrev S64x1x4608 : Shape := ⟨3, ![64, 1, 4608]⟩
abbrev S4608x32000 : Shape := ⟨2, ![4608, 32000]⟩
abbrev S32000 : Shape := ⟨1, ![32000]⟩
abbrev S_ : Shape := ⟨0, ![]⟩

class Facts : Prop where
  bitsLt_bf16_f32 : FTy.bits .bf16 < FTy.bits .f32
  bcast_S_S64x1x4608 : S_.BroadcastsInDim S64x1x4608 (![] : Fin 0 → Fin S64x1x4608.rank)

variable [Facts]

def fn {F : FTy → Type} [FloatOps F] (main_arg0 : FVec F S64x1x4608 .bf16) (main_arg1 : FVec F S4608x32000 .fp8e4m3) (main_arg2 : FVec F S32000 .f32) (main_arg3 : FVec F S32000 .f32) : IVec S64x1x4608 1 :=
  let main_v0 : FVec F S64x1x4608 .f32 := (extf .f32 · bitsLt_bf16_f32) main_arg0
  let main_v1 : FVec F S64x1x4608 .f32 := Host.absf main_v0
  let main_cst : FVec F S_ .f32 := constant S_ .f32 0x7F7F0000#32
  let main_v2 : FVec F S64x1x4608 .f32 := broadcastInDim S64x1x4608 ![] bcast_S_S64x1x4608 main_cst
  let main_v3 : IVec S64x1x4608 1 := cmpf .ole main_v1 main_v2
  main_v3
-- ==== Kernel.lean ====
abbrev S64x1x4608 : Shape := ⟨3, ![64, 1, 4608]⟩
abbrev S4608x32000 : Shape := ⟨2, ![4608, 32000]⟩
abbrev S32000 : Shape := ⟨1, ![32000]⟩
abbrev S64x4608 : Shape := ⟨2, ![64, 4608]⟩
abbrev S250x128 : Shape := ⟨2, ![250, 128]⟩
abbrev S8x64 : Shape := ⟨2, ![8, 64]⟩
abbrev S1x64 : Shape := ⟨2, ![1, 64]⟩
abbrev S64x128 : Shape := ⟨2, ![64, 128]⟩
abbrev S12x4608x512 : Shape := ⟨3, ![12, 4608, 512]⟩
abbrev S2x4608x128 : Shape := ⟨3, ![2, 4608, 128]⟩
abbrev S8x64x128 : Shape := ⟨3, ![8, 64, 128]⟩
abbrev S64x512 : Shape := ⟨2, ![64, 512]⟩
abbrev S3 : Shape := ⟨1, ![3]⟩
abbrev S12 : Shape := ⟨1, ![12]⟩
abbrev S2 : Shape := ⟨1, ![2]⟩
abbrev S1 : Shape := ⟨1, ![1]⟩
abbrev S_ : Shape := ⟨0, ![]⟩
abbrev S1x4608x512 : Shape := ⟨3, ![1, 4608, 512]⟩
abbrev S4608x512 : Shape := ⟨2, ![4608, 512]⟩
abbrev S64 : Shape := ⟨1, ![64]⟩
abbrev S64x1 : Shape := ⟨2, ![64, 1]⟩
abbrev S64x256 : Shape := ⟨2, ![64, 256]⟩
abbrev S128x64 : Shape := ⟨2, ![128, 64]⟩
abbrev S8x128 : Shape := ⟨2, ![8, 128]⟩
abbrev S1x4608x128 : Shape := ⟨3, ![1, 4608, 128]⟩
abbrev S4608x128 : Shape := ⟨2, ![4608, 128]⟩
abbrev S1x8x128 : Shape := ⟨3, ![1, 8, 128]⟩
abbrev S64x1152 : Shape := ⟨2, ![64, 1152]⟩
abbrev S1x1152x512 : Shape := ⟨3, ![1, 1152, 512]⟩
abbrev S1152x512 : Shape := ⟨2, ![1152, 512]⟩
abbrev S1x128 : Shape := ⟨2, ![1, 128]⟩
abbrev S1x128x128 : Shape := ⟨3, ![1, 128, 128]⟩
abbrev S128x128 : Shape := ⟨2, ![128, 128]⟩
abbrev S1x64x128 : Shape := ⟨3, ![1, 64, 128]⟩
abbrev S64x8 : Shape := ⟨2, ![64, 8]⟩
abbrev S64x1x8 : Shape := ⟨3, ![64, 1, 8]⟩
abbrev S64x1x1 : Shape := ⟨3, ![64, 1, 1]⟩

abbrev nBuf : Space → Nat
  | .hbm => 15
  | .vmem => 13
  | .smem => 0
  | _ => 0

abbrev bufTy : (tb : Table) → Fin (tcTables nBuf tb) → BufTy
  | .hbm, ⟨0, _⟩ => ⟨S64x1x4608, .bf16⟩
  | .hbm, ⟨1, _⟩ => ⟨S4608x32000, .fp8e4m3⟩
  | .hbm, ⟨2, _⟩ => ⟨S32000, .f32⟩
  | .hbm, ⟨3, _⟩ => ⟨S32000, .f32⟩
  | .hbm, ⟨4, _⟩ => ⟨S64x4608, .bf16⟩
  | .hbm, ⟨5, _⟩ => ⟨S250x128, .f32⟩
  | .hbm, ⟨6, _⟩ => ⟨S250x128, .f32⟩
  | .hbm, ⟨7, _⟩ => ⟨S8x64, .f32⟩
  | .hbm, ⟨8, _⟩ => ⟨S8x64, .i32⟩
  | .hbm, ⟨9, _⟩ => ⟨S64x4608, .fp8e4m3⟩
  | .hbm, ⟨10, _⟩ => ⟨S1x64, .f32⟩
  | .hbm, ⟨11, _⟩ => ⟨S64x8, .f32⟩
  | .hbm, ⟨12, _⟩ => ⟨S64x1x8, .f32⟩
  | .hbm, ⟨13, _⟩ => ⟨S64x1x4608, .fp8e4m3⟩
  | .hbm, ⟨14, _⟩ => ⟨S64x1x1, .f32⟩
  | .local _ .vmem, ⟨0, _⟩ => ⟨S8x64, .f32⟩
  | .local _ .vmem, ⟨1, _⟩ => ⟨S8x64, .i32⟩
  | .local _ .vmem, ⟨2, _⟩ => ⟨S1x64, .f32⟩
  | .local _ .vmem, ⟨3, _⟩ => ⟨S64x4608, .bf16⟩
  | .local _ .vmem, ⟨4, _⟩ => ⟨S64x4608, .fp8e4m3⟩
  | .local _ .vmem, ⟨5, _⟩ => ⟨S64x128, .f32⟩
  | .local _ .vmem, ⟨6, _⟩ => ⟨S250x128, .f32⟩
  | .local _ .vmem, ⟨7, _⟩ => ⟨S250x128, .f32⟩
  | .local _ .vmem, ⟨8, _⟩ => ⟨S12x4608x512, .fp8e4m3⟩
  | .local _ .vmem, ⟨9, _⟩ => ⟨S2x4608x128, .fp8e4m3⟩
  | .local _ .vmem, ⟨10, _⟩ => ⟨S8x64x128, .f32⟩
  | .local _ .vmem, ⟨11, _⟩ => ⟨S8x64x128, .i32⟩
  | .local _ .vmem, ⟨12, _⟩ => ⟨S64x512, .f32⟩
  | _, _ => ⟨S64x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32_1 : BitVec 32 := 0#32
  c0_i32_1
def k0_off1 (c0_i32_0 : BitVec 32) : Fin 1 → Nat :=
  let c12_i32 : BitVec 32 := 12#32
  let v2 : BitVec 32 := Scalar.remsi c0_i32_0 c12_i32
  ![v2.toNat]
def k0_off2 (c0_i32_0 : BitVec 32) : Fin 3 → Nat :=
  let c12_i32 : BitVec 32 := 12#32
  let v2 : BitVec 32 := Scalar.remsi c0_i32_0 c12_i32
  let c0_i32_2 : BitVec 32 := 0#32
  let c0_i32_3 : BitVec 32 := 0#32
  ![v2.toNat, 0, 0]
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
def k0_mult9 : BitVec 32 :=
  let c4096_i32 : BitVec 32 := 4096#32
  c4096_i32
def k0_mult10 : BitVec 32 :=
  let c4608_i32 : BitVec 32 := 4608#32
  c4608_i32
def k0_mult11 : BitVec 32 :=
  let c5120_i32 : BitVec 32 := 5120#32
  c5120_i32
@[reducible] def k0_t1_loop : Scf.Loop 32 :=
  let c0_i32_81 : BitVec 32 := 0#32
  let c62_i32 : BitVec 32 := 62#32
  let v159 : BitVec 32 := Scalar.addi c0_i32_81 c62_i32
  let c1_i32_82 : BitVec 32 := 1#32
  ⟨c0_i32_81, v159, c1_i32_82⟩
def k0_mult12 (k0_t1 : Fin k0_t1_loop.trips) : BitVec 32 :=
  let c0_i32_81 : BitVec 32 := 0#32
  let c1_i32_82 : BitVec 32 := 1#32
  let arg22 : BitVec 32 := Scf.iv c0_i32_81 c1_i32_82 k0_t1
  let c512_i32_3010 : BitVec 32 := 512#32
  let v5252 : BitVec 32 := Scalar.muli arg22 c512_i32_3010
  let c0_i32_3011 : BitVec 32 := 0#32
  let v5254 : BitVec 1 := Scalar.cmpi .sgt arg22 c0_i32_3011
  let v5255 : BitVec 32 := Scalar.extui v5254
  let c0_i32_3012 : BitVec 32 := 0#32
  let v5256 : BitVec 1 := Scalar.cmpi .slt arg22 c0_i32_3012
  let v5257 : BitVec 32 := Scalar.extui v5256
  let v5258 : BitVec 32 := Scalar.subi v5255 v5257
  let c31_i32 : BitVec 32 := 31#32
  let c0_i32_3013 : BitVec 32 := 0#32
  let v5259 : BitVec 1 := Scalar.cmpi .sgt c31_i32 c0_i32_3013
  let v5260 : BitVec 32 := Scalar.extui v5259
  let c0_i32_3014 : BitVec 32 := 0#32
  let v5261 : BitVec 1 := Scalar.cmpi .slt c31_i32 c0_i32_3014
  let v5262 : BitVec 32 := Scalar.extui v5261
  let v5263 : BitVec 32 := Scalar.subi v5260 v5262
  let v5264 : BitVec 1 := Scalar.cmpi .ne v5258 v5263
  let v5265 : BitVec 32 := Scalar.remsi arg22 c31_i32
  let c0_i32_3015 : BitVec 32 := 0#32
  let v5266 : BitVec 1 := Scalar.cmpi .ne v5265 c0_i32_3015
  let v5267 : BitVec 1 := Scalar.andi v5264 v5266
  let v5253 : BitVec 32 := Scalar.divsi arg22 c31_i32
  let c1_i32_3016 : BitVec 32 := 1#32
  let v5268 : BitVec 32 := Scalar.subi v5253 c1_i32_3016
  let v5269 : BitVec 32 := Scalar.select v5267 v5268 v5253
  let c128_i32_3017 : BitVec 32 := 128#32
  let v5270 : BitVec 32 := Scalar.muli v5269 c128_i32_3017
  let v5271 : BitVec 32 := Scalar.addi v5252 v5270
  v5271
def k0_off3 (k0_t1 : Fin k0_t1_loop.trips) : Fin 1 → Nat :=
  let c0_i32_81 : BitVec 32 := 0#32
  let c1_i32_82 : BitVec 32 := 1#32
  let arg22 : BitVec 32 := Scf.iv c0_i32_81 c1_i32_82 k0_t1
  let c12_i32_3009 : BitVec 32 := 12#32
  let v5251 : BitVec 32 := Scalar.remsi arg22 c12_i32_3009
  ![v5251.toNat]
def k0_off4 (k0_t1 : Fin k0_t1_loop.trips) : Fin 3 → Nat :=
  let c0_i32_81 : BitVec 32 := 0#32
  let c1_i32_82 : BitVec 32 := 1#32
  let arg22 : BitVec 32 := Scf.iv c0_i32_81 c1_i32_82 k0_t1
  let c12_i32_3009 : BitVec 32 := 12#32
  let v5251 : BitVec 32 := Scalar.remsi arg22 c12_i32_3009
  let c0_i32_3018 : BitVec 32 := 0#32
  let c0_i32_3019 : BitVec 32 := 0#32
  ![v5251.toNat, 0, 0]
def k0_off5 (k0_t1 : Fin k0_t1_loop.trips) : Fin 2 → Nat :=
  let c0_i32_3020 : BitVec 32 := 0#32
  let c0_i32_81 : BitVec 32 := 0#32
  let c1_i32_82 : BitVec 32 := 1#32
  let arg22 : BitVec 32 := Scf.iv c0_i32_81 c1_i32_82 k0_t1
  let c512_i32_3010 : BitVec 32 := 512#32
  let v5252 : BitVec 32 := Scalar.muli arg22 c512_i32_3010
  let c0_i32_3011 : BitVec 32 := 0#32
  let v5254 : BitVec 1 := Scalar.cmpi .sgt arg22 c0_i32_3011
  let v5255 : BitVec 32 := Scalar.extui v5254
  let c0_i32_3012 : BitVec 32 := 0#32
  let v5256 : BitVec 1 := Scalar.cmpi .slt arg22 c0_i32_3012
  let v5257 : BitVec 32 := Scalar.extui v5256
  let v5258 : BitVec 32 := Scalar.subi v5255 v5257
  let c31_i32 : BitVec 32 := 31#32
  let c0_i32_3013 : BitVec 32 := 0#32
  let v5259 : BitVec 1 := Scalar.cmpi .sgt c31_i32 c0_i32_3013
  let v5260 : BitVec 32 := Scalar.extui v5259
  let c0_i32_3014 : BitVec 32 := 0#32
  let v5261 : BitVec 1 := Scalar.cmpi .slt c31_i32 c0_i32_3014
  let v5262 : BitVec 32 := Scalar.extui v5261
  let v5263 : BitVec 32 := Scalar.subi v5260 v5262
  let v5264 : BitVec 1 := Scalar.cmpi .ne v5258 v5263
  let v5265 : BitVec 32 := Scalar.remsi arg22 c31_i32
  let c0_i32_3015 : BitVec 32 := 0#32
  let v5266 : BitVec 1 := Scalar.cmpi .ne v5265 c0_i32_3015
  let v5267 : BitVec 1 := Scalar.andi v5264 v5266
  let v5253 : BitVec 32 := Scalar.divsi arg22 c31_i32
  let c1_i32_3016 : BitVec 32 := 1#32
  let v5268 : BitVec 32 := Scalar.subi v5253 c1_i32_3016
  let v5269 : BitVec 32 := Scalar.select v5267 v5268 v5253
  let c128_i32_3017 : BitVec 32 := 128#32
  let v5270 : BitVec 32 := Scalar.muli v5269 c128_i32_3017
  let v5271 : BitVec 32 := Scalar.addi v5252 v5270
  let v5272 : BitVec 32 := v5271
  ![0, v5272.toNat]
def k0_cond1 (k0_t1 : Fin k0_t1_loop.trips) : BitVec 1 :=
  let c0_i32_81 : BitVec 32 := 0#32
  let c1_i32_82 : BitVec 32 := 1#32
  let arg22 : BitVec 32 := Scf.iv c0_i32_81 c1_i32_82 k0_t1
  let c12_i32_3021 : BitVec 32 := 12#32
  let v5278 : BitVec 32 := Scalar.addi arg22 c12_i32_3021
  let c1_i32_3022 : BitVec 32 := 1#32
  let v5279 : BitVec 32 := Scalar.subi v5278 c1_i32_3022
  let c62_i32_3023 : BitVec 32 := 62#32
  let v5280 : BitVec 1 := Scalar.cmpi .slt v5279 c62_i32_3023
  let v5281 : BitVec 32 := Scalar.extui v5280
  let c0_i32_3024 : BitVec 32 := 0#32
  let v5282 : BitVec 1 := Scalar.cmpi .ne v5281 c0_i32_3024
  v5282

def k0_mult13 (k0_t1 : Fin k0_t1_loop.trips) : BitVec 32 :=
  let c0_i32_81 : BitVec 32 := 0#32
  let c1_i32_82 : BitVec 32 := 1#32
  let arg22 : BitVec 32 := Scf.iv c0_i32_81 c1_i32_82 k0_t1
  let c12_i32_3993 : BitVec 32 := 12#32
  let v7510 : BitVec 32 := Scalar.addi arg22 c12_i32_3993
  let c1_i32_3994 : BitVec 32 := 1#32
  let v7511 : BitVec 32 := Scalar.subi v7510 c1_i32_3994
  let c512_i32_3996 : BitVec 32 := 512#32
  let v7513 : BitVec 32 := Scalar.muli v7511 c512_i32_3996
  let c0_i32_3998 : BitVec 32 := 0#32
  let v7515 : BitVec 1 := Scalar.cmpi .sgt v7511 c0_i32_3998
  let v7516 : BitVec 32 := Scalar.extui v7515
  let c0_i32_3999 : BitVec 32 := 0#32
  let v7517 : BitVec 1 := Scalar.cmpi .slt v7511 c0_i32_3999
  let v7518 : BitVec 32 := Scalar.extui v7517
  let v7519 : BitVec 32 := Scalar.subi v7516 v7518
  let c31_i32_3997 : BitVec 32 := 31#32
  let c0_i32_4000 : BitVec 32 := 0#32
  let v7520 : BitVec 1 := Scalar.cmpi .sgt c31_i32_3997 c0_i32_4000
  let v7521 : BitVec 32 := Scalar.extui v7520
  let c0_i32_4001 : BitVec 32 := 0#32
  let v7522 : BitVec 1 := Scalar.cmpi .slt c31_i32_3997 c0_i32_4001
  let v7523 : BitVec 32 := Scalar.extui v7522
  let v7524 : BitVec 32 := Scalar.subi v7521 v7523
  let v7525 : BitVec 1 := Scalar.cmpi .ne v7519 v7524
  let v7526 : BitVec 32 := Scalar.remsi v7511 c31_i32_3997
  let c0_i32_4002 : BitVec 32 := 0#32
  let v7527 : BitVec 1 := Scalar.cmpi .ne v7526 c0_i32_4002
  let v7528 : BitVec 1 := Scalar.andi v7525 v7527
  let v7514 : BitVec 32 := Scalar.divsi v7511 c31_i32_3997
  let c1_i32_4003 : BitVec 32 := 1#32
  let v7529 : BitVec 32 := Scalar.subi v7514 c1_i32_4003
  let v7530 : BitVec 32 := Scalar.select v7528 v7529 v7514
  let c128_i32_4004 : BitVec 32 := 128#32
  let v7531 : BitVec 32 := Scalar.muli v7530 c128_i32_4004
  let v7532 : BitVec 32 := Scalar.addi v7513 v7531
  v7532
def k0_off6 (k0_t1 : Fin k0_t1_loop.trips) : Fin 1 → Nat :=
  let c0_i32_81 : BitVec 32 := 0#32
  let c1_i32_82 : BitVec 32 := 1#32
  let arg22 : BitVec 32 := Scf.iv c0_i32_81 c1_i32_82 k0_t1
  let c12_i32_3993 : BitVec 32 := 12#32
  let v7510 : BitVec 32 := Scalar.addi arg22 c12_i32_3993
  let c1_i32_3994 : BitVec 32 := 1#32
  let v7511 : BitVec 32 := Scalar.subi v7510 c1_i32_3994
  let c12_i32_3995 : BitVec 32 := 12#32
  let v7512 : BitVec 32 := Scalar.remsi v7511 c12_i32_3995
  ![v7512.toNat]
def k0_off7 (k0_t1 : Fin k0_t1_loop.trips) : Fin 3 → Nat :=
  let c0_i32_81 : BitVec 32 := 0#32
  let c1_i32_82 : BitVec 32 := 1#32
  let arg22 : BitVec 32 := Scf.iv c0_i32_81 c1_i32_82 k0_t1
  let c12_i32_3993 : BitVec 32 := 12#32
  let v7510 : BitVec 32 := Scalar.addi arg22 c12_i32_3993
  let c1_i32_3994 : BitVec 32 := 1#32
  let v7511 : BitVec 32 := Scalar.subi v7510 c1_i32_3994
  let c12_i32_3995 : BitVec 32 := 12#32
  let v7512 : BitVec 32 := Scalar.remsi v7511 c12_i32_3995
  let c0_i32_4005 : BitVec 32 := 0#32
  let c0_i32_4006 : BitVec 32 := 0#32
  ![v7512.toNat, 0, 0]
def k0_off8 (k0_t1 : Fin k0_t1_loop.trips) : Fin 2 → Nat :=
  let c0_i32_4007 : BitVec 32 := 0#32
  let c0_i32_81 : BitVec 32 := 0#32
  let c1_i32_82 : BitVec 32 := 1#32
  let arg22 : BitVec 32 := Scf.iv c0_i32_81 c1_i32_82 k0_t1
  let c12_i32_3993 : BitVec 32 := 12#32
  let v7510 : BitVec 32 := Scalar.addi arg22 c12_i32_3993
  let c1_i32_3994 : BitVec 32 := 1#32
  let v7511 : BitVec 32 := Scalar.subi v7510 c1_i32_3994
  let c512_i32_3996 : BitVec 32 := 512#32
  let v7513 : BitVec 32 := Scalar.muli v7511 c512_i32_3996
  let c0_i32_3998 : BitVec 32 := 0#32
  let v7515 : BitVec 1 := Scalar.cmpi .sgt v7511 c0_i32_3998
  let v7516 : BitVec 32 := Scalar.extui v7515
  let c0_i32_3999 : BitVec 32 := 0#32
  let v7517 : BitVec 1 := Scalar.cmpi .slt v7511 c0_i32_3999
  let v7518 : BitVec 32 := Scalar.extui v7517
  let v7519 : BitVec 32 := Scalar.subi v7516 v7518
  let c31_i32_3997 : BitVec 32 := 31#32
  let c0_i32_4000 : BitVec 32 := 0#32
  let v7520 : BitVec 1 := Scalar.cmpi .sgt c31_i32_3997 c0_i32_4000
  let v7521 : BitVec 32 := Scalar.extui v7520
  let c0_i32_4001 : BitVec 32 := 0#32
  let v7522 : BitVec 1 := Scalar.cmpi .slt c31_i32_3997 c0_i32_4001
  let v7523 : BitVec 32 := Scalar.extui v7522
  let v7524 : BitVec 32 := Scalar.subi v7521 v7523
  let v7525 : BitVec 1 := Scalar.cmpi .ne v7519 v7524
  let v7526 : BitVec 32 := Scalar.remsi v7511 c31_i32_3997
  let c0_i32_4002 : BitVec 32 := 0#32
  let v7527 : BitVec 1 := Scalar.cmpi .ne v7526 c0_i32_4002
  let v7528 : BitVec 1 := Scalar.andi v7525 v7527
  let v7514 : BitVec 32 := Scalar.divsi v7511 c31_i32_3997
  let c1_i32_4003 : BitVec 32 := 1#32
  let v7529 : BitVec 32 := Scalar.subi v7514 c1_i32_4003
  let v7530 : BitVec 32 := Scalar.select v7528 v7529 v7514
  let c128_i32_4004 : BitVec 32 := 128#32
  let v7531 : BitVec 32 := Scalar.muli v7530 c128_i32_4004
  let v7532 : BitVec 32 := Scalar.addi v7513 v7531
  let v7533 : BitVec 32 := v7532
  ![0, v7533.toNat]
def k0_mult14 (k0_t1 : Fin k0_t1_loop.trips) : BitVec 32 :=
  let c0_i32_81 : BitVec 32 := 0#32
  let c1_i32_82 : BitVec 32 := 1#32
  let arg22 : BitVec 32 := Scf.iv c0_i32_81 c1_i32_82 k0_t1
  let c1_i32_3032 : BitVec 32 := 1#32
  let v5293 : BitVec 32 := Scalar.subi arg22 c1_i32_3032
  let c0_i32_3033 : BitVec 32 := 0#32
  let v5294 : BitVec 32 := Scalar.maxsi v5293 c0_i32_3033
  let c512_i32_3034 : BitVec 32 := 512#32
  let v5295 : BitVec 32 := Scalar.muli v5294 c512_i32_3034
  let c0_i32_3036 : BitVec 32 := 0#32
  let v5297 : BitVec 1 := Scalar.cmpi .sgt v5294 c0_i32_3036
  let v5298 : BitVec 32 := Scalar.extui v5297
  let c0_i32_3037 : BitVec 32 := 0#32
  let v5299 : BitVec 1 := Scalar.cmpi .slt v5294 c0_i32_3037
  let v5300 : BitVec 32 := Scalar.extui v5299
  let v5301 : BitVec 32 := Scalar.subi v5298 v5300
  let c31_i32_3035 : BitVec 32 := 31#32
  let c0_i32_3038 : BitVec 32 := 0#32
  let v5302 : BitVec 1 := Scalar.cmpi .sgt c31_i32_3035 c0_i32_3038
  let v5303 : BitVec 32 := Scalar.extui v5302
  let c0_i32_3039 : BitVec 32 := 0#32
  let v5304 : BitVec 1 := Scalar.cmpi .slt c31_i32_3035 c0_i32_3039
  let v5305 : BitVec 32 := Scalar.extui v5304
  let v5306 : BitVec 32 := Scalar.subi v5303 v5305
  let v5307 : BitVec 1 := Scalar.cmpi .ne v5301 v5306
  let v5308 : BitVec 32 := Scalar.remsi v5294 c31_i32_3035
  let c0_i32_3040 : BitVec 32 := 0#32
  let v5309 : BitVec 1 := Scalar.cmpi .ne v5308 c0_i32_3040
  let v5310 : BitVec 1 := Scalar.andi v5307 v5309
  let v5296 : BitVec 32 := Scalar.divsi v5294 c31_i32_3035
  let c1_i32_3041 : BitVec 32 := 1#32
  let v5311 : BitVec 32 := Scalar.subi v5296 c1_i32_3041
  let v5312 : BitVec 32 := Scalar.select v5310 v5311 v5296
  let c128_i32_3042 : BitVec 32 := 128#32
  let v5313 : BitVec 32 := Scalar.muli v5312 c128_i32_3042
  let v5314 : BitVec 32 := Scalar.addi v5295 v5313
  v5314
def k0_mult15 (k0_t1 : Fin k0_t1_loop.trips) : BitVec 32 :=
  let c0_i32_81 : BitVec 32 := 0#32
  let c1_i32_82 : BitVec 32 := 1#32
  let arg22 : BitVec 32 := Scf.iv c0_i32_81 c1_i32_82 k0_t1
  let c1_i32_3032 : BitVec 32 := 1#32
  let v5293 : BitVec 32 := Scalar.subi arg22 c1_i32_3032
  let c0_i32_3033 : BitVec 32 := 0#32
  let v5294 : BitVec 32 := Scalar.maxsi v5293 c0_i32_3033
  let c512_i32_3044 : BitVec 32 := 512#32
  let v5317 : BitVec 32 := Scalar.muli v5294 c512_i32_3044
  let c0_i32_3046 : BitVec 32 := 0#32
  let v5319 : BitVec 1 := Scalar.cmpi .sgt v5294 c0_i32_3046
  let v5320 : BitVec 32 := Scalar.extui v5319
  let c0_i32_3047 : BitVec 32 := 0#32
  let v5321 : BitVec 1 := Scalar.cmpi .slt v5294 c0_i32_3047
  let v5322 : BitVec 32 := Scalar.extui v5321
  let v5323 : BitVec 32 := Scalar.subi v5320 v5322
  let c31_i32_3045 : BitVec 32 := 31#32
  let c0_i32_3048 : BitVec 32 := 0#32
  let v5324 : BitVec 1 := Scalar.cmpi .sgt c31_i32_3045 c0_i32_3048
  let v5325 : BitVec 32 := Scalar.extui v5324
  let c0_i32_3049 : BitVec 32 := 0#32
  let v5326 : BitVec 1 := Scalar.cmpi .slt c31_i32_3045 c0_i32_3049
  let v5327 : BitVec 32 := Scalar.extui v5326
  let v5328 : BitVec 32 := Scalar.subi v5325 v5327
  let v5329 : BitVec 1 := Scalar.cmpi .ne v5323 v5328
  let v5330 : BitVec 32 := Scalar.remsi v5294 c31_i32_3045
  let c0_i32_3050 : BitVec 32 := 0#32
  let v5331 : BitVec 1 := Scalar.cmpi .ne v5330 c0_i32_3050
  let v5332 : BitVec 1 := Scalar.andi v5329 v5331
  let v5318 : BitVec 32 := Scalar.divsi v5294 c31_i32_3045
  let c1_i32_3051 : BitVec 32 := 1#32
  let v5333 : BitVec 32 := Scalar.subi v5318 c1_i32_3051
  let v5334 : BitVec 32 := Scalar.select v5332 v5333 v5318
  let c128_i32_3052 : BitVec 32 := 128#32
  let v5335 : BitVec 32 := Scalar.muli v5334 c128_i32_3052
  let v5336 : BitVec 32 := Scalar.addi v5317 v5335
  v5336
def k0_mult16 (k0_t1 : Fin k0_t1_loop.trips) : BitVec 32 :=
  let c0_i32_81 : BitVec 32 := 0#32
  let c1_i32_82 : BitVec 32 := 1#32
  let arg22 : BitVec 32 := Scf.iv c0_i32_81 c1_i32_82 k0_t1
  let c1_i32_3032 : BitVec 32 := 1#32
  let v5293 : BitVec 32 := Scalar.subi arg22 c1_i32_3032
  let c0_i32_3033 : BitVec 32 := 0#32
  let v5294 : BitVec 32 := Scalar.maxsi v5293 c0_i32_3033
  let c512_i32_3054 : BitVec 32 := 512#32
  let v5339 : BitVec 32 := Scalar.muli v5294 c512_i32_3054
  let c0_i32_3056 : BitVec 32 := 0#32
  let v5341 : BitVec 1 := Scalar.cmpi .sgt v5294 c0_i32_3056
  let v5342 : BitVec 32 := Scalar.extui v5341
  let c0_i32_3057 : BitVec 32 := 0#32
  let v5343 : BitVec 1 := Scalar.cmpi .slt v5294 c0_i32_3057
  let v5344 : BitVec 32 := Scalar.extui v5343
  let v5345 : BitVec 32 := Scalar.subi v5342 v5344
  let c31_i32_3055 : BitVec 32 := 31#32
  let c0_i32_3058 : BitVec 32 := 0#32
  let v5346 : BitVec 1 := Scalar.cmpi .sgt c31_i32_3055 c0_i32_3058
  let v5347 : BitVec 32 := Scalar.extui v5346
  let c0_i32_3059 : BitVec 32 := 0#32
  let v5348 : BitVec 1 := Scalar.cmpi .slt c31_i32_3055 c0_i32_3059
  let v5349 : BitVec 32 := Scalar.extui v5348
  let v5350 : BitVec 32 := Scalar.subi v5347 v5349
  let v5351 : BitVec 1 := Scalar.cmpi .ne v5345 v5350
  let v5352 : BitVec 32 := Scalar.remsi v5294 c31_i32_3055
  let c0_i32_3060 : BitVec 32 := 0#32
  let v5353 : BitVec 1 := Scalar.cmpi .ne v5352 c0_i32_3060
  let v5354 : BitVec 1 := Scalar.andi v5351 v5353
  let v5340 : BitVec 32 := Scalar.divsi v5294 c31_i32_3055
  let c1_i32_3061 : BitVec 32 := 1#32
  let v5355 : BitVec 32 := Scalar.subi v5340 c1_i32_3061
  let v5356 : BitVec 32 := Scalar.select v5354 v5355 v5340
  let c128_i32_3062 : BitVec 32 := 128#32
  let v5357 : BitVec 32 := Scalar.muli v5356 c128_i32_3062
  let v5358 : BitVec 32 := Scalar.addi v5339 v5357
  v5358
def k0_mult17 (k0_t1 : Fin k0_t1_loop.trips) : BitVec 32 :=
  let c0_i32_81 : BitVec 32 := 0#32
  let c1_i32_82 : BitVec 32 := 1#32
  let arg22 : BitVec 32 := Scf.iv c0_i32_81 c1_i32_82 k0_t1
  let c1_i32_3032 : BitVec 32 := 1#32
  let v5293 : BitVec 32 := Scalar.subi arg22 c1_i32_3032
  let c0_i32_3033 : BitVec 32 := 0#32
  let v5294 : BitVec 32 := Scalar.maxsi v5293 c0_i32_3033
  let c512_i32_3064 : BitVec 32 := 512#32
  let v5361 : BitVec 32 := Scalar.muli v5294 c512_i32_3064
  let c0_i32_3066 : BitVec 32 := 0#32
  let v5363 : BitVec 1 := Scalar.cmpi .sgt v5294 c0_i32_3066
  let v5364 : BitVec 32 := Scalar.extui v5363
  let c0_i32_3067 : BitVec 32 := 0#32
  let v5365 : BitVec 1 := Scalar.cmpi .slt v5294 c0_i32_3067
  let v5366 : BitVec 32 := Scalar.extui v5365
  let v5367 : BitVec 32 := Scalar.subi v5364 v5366
  let c31_i32_3065 : BitVec 32 := 31#32
  let c0_i32_3068 : BitVec 32 := 0#32
  let v5368 : BitVec 1 := Scalar.cmpi .sgt c31_i32_3065 c0_i32_3068
  let v5369 : BitVec 32 := Scalar.extui v5368
  let c0_i32_3069 : BitVec 32 := 0#32
  let v5370 : BitVec 1 := Scalar.cmpi .slt c31_i32_3065 c0_i32_3069
  let v5371 : BitVec 32 := Scalar.extui v5370
  let v5372 : BitVec 32 := Scalar.subi v5369 v5371
  let v5373 : BitVec 1 := Scalar.cmpi .ne v5367 v5372
  let v5374 : BitVec 32 := Scalar.remsi v5294 c31_i32_3065
  let c0_i32_3070 : BitVec 32 := 0#32
  let v5375 : BitVec 1 := Scalar.cmpi .ne v5374 c0_i32_3070
  let v5376 : BitVec 1 := Scalar.andi v5373 v5375
  let v5362 : BitVec 32 := Scalar.divsi v5294 c31_i32_3065
  let c1_i32_3071 : BitVec 32 := 1#32
  let v5377 : BitVec 32 := Scalar.subi v5362 c1_i32_3071
  let v5378 : BitVec 32 := Scalar.select v5376 v5377 v5362
  let c128_i32_3072 : BitVec 32 := 128#32
  let v5379 : BitVec 32 := Scalar.muli v5378 c128_i32_3072
  let v5380 : BitVec 32 := Scalar.addi v5361 v5379
  v5380
def k0_off9 (k0_t1 : Fin k0_t1_loop.trips) : Fin 3 → Nat :=
  let c0_i32_81 : BitVec 32 := 0#32
  let c1_i32_82 : BitVec 32 := 1#32
  let arg22 : BitVec 32 := Scf.iv c0_i32_81 c1_i32_82 k0_t1
  let c12_i32_3906 : BitVec 32 := 12#32
  let v7335 : BitVec 32 := Scalar.remsi arg22 c12_i32_3906
  let v7338 : Index := Scalar.indexCast v7335
  let c0_3910 : Index := 0#32
  let c0_3911 : Index := 0#32
  ![v7338.toNat, 0, 0]
def k0_off10 (k0_t1 : Fin k0_t1_loop.trips) : Fin 3 → Nat :=
  let c0_i32_81 : BitVec 32 := 0#32
  let c1_i32_82 : BitVec 32 := 1#32
  let arg22 : BitVec 32 := Scf.iv c0_i32_81 c1_i32_82 k0_t1
  let c12_i32_3906 : BitVec 32 := 12#32
  let v7335 : BitVec 32 := Scalar.remsi arg22 c12_i32_3906
  let v7344 : Index := Scalar.indexCast v7335
  let c1152_3915 : Index := 1152#32
  let c0_3916 : Index := 0#32
  ![v7344.toNat, 1152, 0]
def k0_off11 (k0_t1 : Fin k0_t1_loop.trips) : Fin 3 → Nat :=
  let c0_i32_81 : BitVec 32 := 0#32
  let c1_i32_82 : BitVec 32 := 1#32
  let arg22 : BitVec 32 := Scf.iv c0_i32_81 c1_i32_82 k0_t1
  let c12_i32_3906 : BitVec 32 := 12#32
  let v7335 : BitVec 32 := Scalar.remsi arg22 c12_i32_3906
  let v7350 : Index := Scalar.indexCast v7335
  let c2304_3920 : Index := 2304#32
  let c0_3921 : Index := 0#32
  ![v7350.toNat, 2304, 0]
def k0_off12 (k0_t1 : Fin k0_t1_loop.trips) : Fin 3 → Nat :=
  let c0_i32_81 : BitVec 32 := 0#32
  let c1_i32_82 : BitVec 32 := 1#32
  let arg22 : BitVec 32 := Scf.iv c0_i32_81 c1_i32_82 k0_t1
  let c12_i32_3906 : BitVec 32 := 12#32
  let v7335 : BitVec 32 := Scalar.remsi arg22 c12_i32_3906
  let v7356 : Index := Scalar.indexCast v7335
  let c3456_3925 : Index := 3456#32
  let c0_3926 : Index := 0#32
  ![v7356.toNat, 3456, 0]
def k0_mult18 (k0_t1 : Fin k0_t1_loop.trips) : BitVec 32 :=
  let c0_i32_81 : BitVec 32 := 0#32
  let c1_i32_82 : BitVec 32 := 1#32
  let arg22 : BitVec 32 := Scf.iv c0_i32_81 c1_i32_82 k0_t1
  let c512_i32_3928 : BitVec 32 := 512#32
  let v7361 : BitVec 32 := Scalar.muli arg22 c512_i32_3928
  let c0_i32_3930 : BitVec 32 := 0#32
  let v7363 : BitVec 1 := Scalar.cmpi .sgt arg22 c0_i32_3930
  let v7364 : BitVec 32 := Scalar.extui v7363
  let c0_i32_3931 : BitVec 32 := 0#32
  let v7365 : BitVec 1 := Scalar.cmpi .slt arg22 c0_i32_3931
  let v7366 : BitVec 32 := Scalar.extui v7365
  let v7367 : BitVec 32 := Scalar.subi v7364 v7366
  let c31_i32_3929 : BitVec 32 := 31#32
  let c0_i32_3932 : BitVec 32 := 0#32
  let v7368 : BitVec 1 := Scalar.cmpi .sgt c31_i32_3929 c0_i32_3932
  let v7369 : BitVec 32 := Scalar.extui v7368
  let c0_i32_3933 : BitVec 32 := 0#32
  let v7370 : BitVec 1 := Scalar.cmpi .slt c31_i32_3929 c0_i32_3933
  let v7371 : BitVec 32 := Scalar.extui v7370
  let v7372 : BitVec 32 := Scalar.subi v7369 v7371
  let v7373 : BitVec 1 := Scalar.cmpi .ne v7367 v7372
  let v7374 : BitVec 32 := Scalar.remsi arg22 c31_i32_3929
  let c0_i32_3934 : BitVec 32 := 0#32
  let v7375 : BitVec 1 := Scalar.cmpi .ne v7374 c0_i32_3934
  let v7376 : BitVec 1 := Scalar.andi v7373 v7375
  let v7362 : BitVec 32 := Scalar.divsi arg22 c31_i32_3929
  let c1_i32_3935 : BitVec 32 := 1#32
  let v7377 : BitVec 32 := Scalar.subi v7362 c1_i32_3935
  let v7378 : BitVec 32 := Scalar.select v7376 v7377 v7362
  let c128_i32_3936 : BitVec 32 := 128#32
  let v7379 : BitVec 32 := Scalar.muli v7378 c128_i32_3936
  let v7380 : BitVec 32 := Scalar.addi v7361 v7379
  v7380
def k0_off13 (k0_t1 : Fin k0_t1_loop.trips) (c0_i32_3944 : BitVec 32) : Fin 2 → Nat :=
  let c0_i32_81 : BitVec 32 := 0#32
  let c1_i32_82 : BitVec 32 := 1#32
  let arg22 : BitVec 32 := Scf.iv c0_i32_81 c1_i32_82 k0_t1
  let c512_i32_3928 : BitVec 32 := 512#32
  let v7361 : BitVec 32 := Scalar.muli arg22 c512_i32_3928
  let c0_i32_3930 : BitVec 32 := 0#32
  let v7363 : BitVec 1 := Scalar.cmpi .sgt arg22 c0_i32_3930
  let v7364 : BitVec 32 := Scalar.extui v7363
  let c0_i32_3931 : BitVec 32 := 0#32
  let v7365 : BitVec 1 := Scalar.cmpi .slt arg22 c0_i32_3931
  let v7366 : BitVec 32 := Scalar.extui v7365
  let v7367 : BitVec 32 := Scalar.subi v7364 v7366
  let c31_i32_3929 : BitVec 32 := 31#32
  let c0_i32_3932 : BitVec 32 := 0#32
  let v7368 : BitVec 1 := Scalar.cmpi .sgt c31_i32_3929 c0_i32_3932
  let v7369 : BitVec 32 := Scalar.extui v7368
  let c0_i32_3933 : BitVec 32 := 0#32
  let v7370 : BitVec 1 := Scalar.cmpi .slt c31_i32_3929 c0_i32_3933
  let v7371 : BitVec 32 := Scalar.extui v7370
  let v7372 : BitVec 32 := Scalar.subi v7369 v7371
  let v7373 : BitVec 1 := Scalar.cmpi .ne v7367 v7372
  let v7374 : BitVec 32 := Scalar.remsi arg22 c31_i32_3929
  let c0_i32_3934 : BitVec 32 := 0#32
  let v7375 : BitVec 1 := Scalar.cmpi .ne v7374 c0_i32_3934
  let v7376 : BitVec 1 := Scalar.andi v7373 v7375
  let v7362 : BitVec 32 := Scalar.divsi arg22 c31_i32_3929
  let c1_i32_3935 : BitVec 32 := 1#32
  let v7377 : BitVec 32 := Scalar.subi v7362 c1_i32_3935
  let v7378 : BitVec 32 := Scalar.select v7376 v7377 v7362
  let c128_i32_3936 : BitVec 32 := 128#32
  let v7379 : BitVec 32 := Scalar.muli v7378 c128_i32_3936
  let v7380 : BitVec 32 := Scalar.addi v7361 v7379
  let v7381 : BitVec 32 := v7380
  let c0_i32_3938 : BitVec 32 := 0#32
  let v7383 : BitVec 1 := Scalar.cmpi .sgt v7381 c0_i32_3938
  let v7384 : BitVec 32 := Scalar.extui v7383
  let c0_i32_3939 : BitVec 32 := 0#32
  let v7385 : BitVec 1 := Scalar.cmpi .slt v7381 c0_i32_3939
  let v7386 : BitVec 32 := Scalar.extui v7385
  let v7387 : BitVec 32 := Scalar.subi v7384 v7386
  let c128_i32_3937 : BitVec 32 := 128#32
  let c0_i32_3940 : BitVec 32 := 0#32
  let v7388 : BitVec 1 := Scalar.cmpi .sgt c128_i32_3937 c0_i32_3940
  let v7389 : BitVec 32 := Scalar.extui v7388
  let c0_i32_3941 : BitVec 32 := 0#32
  let v7390 : BitVec 1 := Scalar.cmpi .slt c128_i32_3937 c0_i32_3941
  let v7391 : BitVec 32 := Scalar.extui v7390
  let v7392 : BitVec 32 := Scalar.subi v7389 v7391
  let v7393 : BitVec 1 := Scalar.cmpi .ne v7387 v7392
  let v7394 : BitVec 32 := Scalar.remsi v7381 c128_i32_3937
  let c0_i32_3942 : BitVec 32 := 0#32
  let v7395 : BitVec 1 := Scalar.cmpi .ne v7394 c0_i32_3942
  let v7396 : BitVec 1 := Scalar.andi v7393 v7395
  let v7382 : BitVec 32 := Scalar.divsi v7381 c128_i32_3937
  let c1_i32_3943 : BitVec 32 := 1#32
  let v7397 : BitVec 32 := Scalar.subi v7382 c1_i32_3943
  let v7398 : BitVec 32 := Scalar.select v7396 v7397 v7382
  let v7399 : BitVec 32 := Scalar.addi v7398 c0_i32_3944
  let v7400 : Index := Scalar.indexCast v7399
  let c0_3945 : Index := 0#32
  ![v7400.toNat, 0]
def k0_mult19 : BitVec 32 :=
  let c31360_i32 : BitVec 32 := 31360#32
  c31360_i32
def k0_mult20 : BitVec 32 :=
  let c31360_i32_86 : BitVec 32 := 31360#32
  c31360_i32_86
def k0_mult21 : BitVec 32 :=
  let c31360_i32_87 : BitVec 32 := 31360#32
  c31360_i32_87
def k0_mult22 : BitVec 32 :=
  let c31360_i32_88 : BitVec 32 := 31360#32
  c31360_i32_88
abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x1x4608 : Shape := ⟨3, ![64, 1, 4608]⟩
abbrev S4608x32000 : Shape := ⟨2, ![4608, 32000]⟩
abbrev S32000 : Shape := ⟨1, ![32000]⟩
abbrev S64x4608 : Shape := ⟨2, ![64, 4608]⟩
abbrev S1x32000 : Shape := ⟨2, ![1, 32000]⟩
abbrev S64x32000 : Shape := ⟨2, ![64, 32000]⟩
abbrev S64x1 : Shape := ⟨2, ![64, 1]⟩
abbrev S64 : Shape := ⟨1, ![64]⟩
abbrev S64x8 : Shape := ⟨2, ![64, 8]⟩
abbrev S64x1x8 : Shape := ⟨3, ![64, 1, 8]⟩
abbrev S64x1x1 : Shape := ⟨3, ![64, 1, 1]⟩

abbrev nBuf : Space → Nat
  | .hbm => 15
  | .vmem => 7
  | .smem => 0
  | _ => 0

abbrev bufTy : (tb : Table) → Fin (tcTables nBuf tb) → BufTy
  | .hbm, ⟨0, _⟩ => ⟨S64x1x4608, .bf16⟩
  | .hbm, ⟨1, _⟩ => ⟨S4608x32000, .fp8e4m3⟩
  | .hbm, ⟨2, _⟩ => ⟨S32000, .f32⟩
  | .hbm, ⟨3, _⟩ => ⟨S32000, .f32⟩
  | .hbm, ⟨4, _⟩ => ⟨S64x4608, .bf16⟩
  | .hbm, ⟨5, _⟩ => ⟨S1x32000, .f32⟩
  | .hbm, ⟨6, _⟩ => ⟨S1x32000, .f32⟩
  | .hbm, ⟨7, _⟩ => ⟨S64x32000, .f32⟩
  | .hbm, ⟨8, _⟩ => ⟨S64x4608, .fp8e4m3⟩
  | .hbm, ⟨9, _⟩ => ⟨S64x1, .f32⟩
  | .hbm, ⟨10, _⟩ => ⟨S64x8, .f32⟩
  | .hbm, ⟨11, _⟩ => ⟨S64x8, .i32⟩
  | .hbm, ⟨12, _⟩ => ⟨S64x1x8, .f32⟩
  | .hbm, ⟨13, _⟩ => ⟨S64x1x4608, .fp8e4m3⟩
  | .hbm, ⟨14, _⟩ => ⟨S64x1x1, .f32⟩
  | .local _ .vmem, ⟨0, _⟩ => ⟨S64x4608, .bf16⟩
  | .local _ .vmem, ⟨1, _⟩ => ⟨S4608x32000, .fp8e4m3⟩
  | .local _ .vmem, ⟨2, _⟩ => ⟨S1x32000, .f32⟩
  | .local _ .vmem, ⟨3, _⟩ => ⟨S1x32000, .f32⟩
  | .local _ .vmem, ⟨4, _⟩ => ⟨S64x32000, .f32⟩
  | .local _ .vmem, ⟨5, _⟩ => ⟨S64x4608, .fp8e4m3⟩
  | .local _ .vmem, ⟨6, _⟩ => ⟨S64x1, .f32⟩
  | _, _ => ⟨S64x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_values : Ref sig .tc := ⟨.hbm, 10, rfl⟩
abbrev main_indices : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S64x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Struct.lean ====
module

public import proofs.«01_k».proof.Kernel

/-! The kernel's body written once more by its pieces: the start of a block's transfer, the insertion of one group of eight rows, the
insertion of a block, the product of a block, the storing of its logits, the tails, the extraction of the first eight. The pieces make
the effects of the printed body in its order; `SameIdeal.lean` and `SameBits.lean` prove the two equal. -/

@[expose] public section

noncomputable section

namespace Cert.KS

open Cert.Kernel Idealize.ShloMosaic Idealize.SL.Sem
open Cert.Kernel.Facts₀ Cert.Kernel.Facts

variable {F : FTy → Type} [FloatOps F] [Cert.Kernel.Facts]

/-- Eight sorted tiles with their indices: rank `k` of every row and lane. -/
structure L8 (F : FTy → Type) [FloatOps F] where
  v0 : FVec F S8x128 .f32
  v1 : FVec F S8x128 .f32
  v2 : FVec F S8x128 .f32
  v3 : FVec F S8x128 .f32
  v4 : FVec F S8x128 .f32
  v5 : FVec F S8x128 .f32
  v6 : FVec F S8x128 .f32
  v7 : FVec F S8x128 .f32
  i0 : IVec S8x128 32
  i1 : IVec S8x128 32
  i2 : IVec S8x128 32
  i3 : IVec S8x128 32
  i4 : IVec S8x128 32
  i5 : IVec S8x128 32
  i6 : IVec S8x128 32
  i7 : IVec S8x128 32

/-- Whether a new entry goes above an old one, where the new one's index is larger than all before it. -/
def aboveIn (v a : FVec F S8x128 .f32) (i j : IVec S8x128 32) : IVec S8x128 1 := cmpf .ogt v a

/-- Whether a new entry goes above an old one in any order: the smaller index first among equals. -/
def aboveTie (v a : FVec F S8x128 .f32) (i j : IVec S8x128 32) : IVec S8x128 1 :=
  ori (cmpf .ogt v a) (andi (cmpf .oeq v a) (cmpi .slt i j))

abbrev Above (F : FTy → Type) [FloatOps F] := FVec F S8x128 .f32 → FVec F S8x128 .f32 → IVec S8x128 32 → IVec S8x128 32 → IVec S8x128 1

/-- What the entry of a rank becomes, and what goes on to the next rank. -/
def keepI (ab : Above F) (a v : FVec F S8x128 .f32) (j i : IVec S8x128 32) : IVec S8x128 32 := select (ab v a i j) i j
def passI (ab : Above F) (a v : FVec F S8x128 .f32) (j i : IVec S8x128 32) : IVec S8x128 32 := select (ab v a i j) j i

/-- One tile inserted. -/
def L8.ins (ab : Above F) (s : L8 F) (v : FVec F S8x128 .f32) (i : IVec S8x128 32) : L8 F :=
  have w1 := minimumf s.v0 v
  have j1 := passI ab s.v0 v s.i0 i
  have w2 := minimumf s.v1 w1
  have j2 := passI ab s.v1 w1 s.i1 j1
  have w3 := minimumf s.v2 w2
  have j3 := passI ab s.v2 w2 s.i2 j2
  have w4 := minimumf s.v3 w3
  have j4 := passI ab s.v3 w3 s.i3 j3
  have w5 := minimumf s.v4 w4
  have j5 := passI ab s.v4 w4 s.i4 j4
  have w6 := minimumf s.v5 w5
  have j6 := passI ab s.v5 w5 s.i5 j5
  have w7 := minimumf s.v6 w6
  have j7 := passI ab s.v6 w6 s.i6 j6
  { v0 := maximumf s.v0 v, i0 := keepI ab s.v0 v s.i0 i
    v1 := maximumf s.v1 w1, i1 := keepI ab s.v1 w1 s.i1 j1
    v2 := maximumf s.v2 w2, i2 := keepI ab s.v2 w2 s.i2 j2
    v3 := maximumf s.v3 w3, i3 := keepI ab s.v3 w3 s.i3 j3
    v4 := maximumf s.v4 w4, i4 := keepI ab s.v4 w4 s.i4 j4
    v5 := maximumf s.v5 w5, i5 := keepI ab s.v5 w5 s.i5 j5
    v6 := maximumf s.v6 w6, i6 := keepI ab s.v6 w6 s.i6 j6
    v7 := maximumf s.v7 w7, i7 := keepI ab s.v7 w7 s.i7 j7 }

theorem inbV (k r : ℕ) (hk : k < 8) (hr : r + 8 ≤ 64) : ∀ a, (![k, r, 0] : Fin 3 → Nat) a + S1x8x128.size a ≤ S8x64x128.size a := by
  intro a; match a with
  | 0 => change k + 1 ≤ 8; omega
  | 1 => change r + 8 ≤ 64; omega
  | 2 => change 0 + 128 ≤ 128; omega

theorem inbL (r t : ℕ) (ht : t + 128 ≤ 512) (hr : r + 8 ≤ 64) : ∀ a, (![r, t] : Fin 2 → Nat) a + S8x128.size a ≤ S64x512.size a := by
  intro a; match a with
  | 0 => change r + 8 ≤ 64; omega
  | 1 => change t + 128 ≤ 512; omega

section
variable (arg15 : Memref sig .tc .vmem S8x64x128 .f32) (arg16 : Memref sig .tc .vmem S8x64x128 .i32)
  (arg17 : Memref sig .tc .vmem S64x512 .f32)

/-- Rank `k` of the group of rows from `r`. -/
def ldV (r : ℕ) (hr : r + 8 ≤ 64) (k : ℕ) (hk : k < 8) : Prog (TpuEff nD τ sig (Elt F) Λ₀ .tc) (FVec F S8x128 .f32) :=
  Prog.bind (Prog.lift (.load arg15 (Rect.unit (s := S8x64x128) ![k, r, 0] S1x8x128.size (inbV k r hk hr)).toLoadRect
    (View.loadsAt_vmem h_S1x8x128))) fun (x : Vec F S1x8x128 .f32) => .ret (shapeCast S8x128 x shapeCasts_S1x8x128_S8x128)

def ldI (r : ℕ) (hr : r + 8 ≤ 64) (k : ℕ) (hk : k < 8) : Prog (TpuEff nD τ sig (Elt F) Λ₀ .tc) (IVec S8x128 32) :=
  Prog.bind (Prog.lift (.load arg16 (Rect.unit (s := S8x64x128) ![k, r, 0] S1x8x128.size (inbV k r hk hr)).toLoadRect
    (View.loadsAt_vmem h_S1x8x128))) fun (x : Vec F S1x8x128 .i32) => .ret (shapeCast S8x128 x shapeCasts_S1x8x128_S8x128)

def stV (r : ℕ) (hr : r + 8 ≤ 64) (k : ℕ) (hk : k < 8) (x : FVec F S8x128 .f32) : Prog (TpuEff nD τ sig (Elt F) Λ₀ .tc) PUnit :=
  Prog.bind (ldV arg15 r hr k hk) fun _ =>
  Prog.lift (.store arg15 (Rect.unit (s := S8x64x128) ![k, r, 0] S1x8x128.size (inbV k r hk hr))
    (shapeCast S1x8x128 x shapeCasts_S8x128_S1x8x128) Finset.univ (View.stores_vmem_bits_univ h_S1x8x128 rfl) (.inl rfl))

def stI (r : ℕ) (hr : r + 8 ≤ 64) (k : ℕ) (hk : k < 8) (x : IVec S8x128 32) : Prog (TpuEff nD τ sig (Elt F) Λ₀ .tc) PUnit :=
  Prog.bind (ldI arg16 r hr k hk) fun _ =>
  Prog.lift (.store arg16 (Rect.unit (s := S8x64x128) ![k, r, 0] S1x8x128.size (inbV k r hk hr))
    (shapeCast S1x8x128 x shapeCasts_S8x128_S1x8x128) Finset.univ (View.stores_vmem_bits_univ h_S1x8x128 rfl) (.inl rfl))

/-- The eight ranks of a group of rows. -/
def ld8 (r : ℕ) (hr : r + 8 ≤ 64) : Prog (TpuEff nD τ sig (Elt F) Λ₀ .tc) (L8 F) := do
  let v0 ← ldV arg15 r hr 0 (by decide)
  let v1 ← ldV arg15 r hr 1 (by decide)
  let v2 ← ldV arg15 r hr 2 (by decide)
  let v3 ← ldV arg15 r hr 3 (by decide)
  let v4 ← ldV arg15 r hr 4 (by decide)
  let v5 ← ldV arg15 r hr 5 (by decide)
  let v6 ← ldV arg15 r hr 6 (by decide)
  let v7 ← ldV arg15 r hr 7 (by decide)
  let i0 ← ldI arg16 r hr 0 (by decide)
  let i1 ← ldI arg16 r hr 1 (by decide)
  let i2 ← ldI arg16 r hr 2 (by decide)
  let i3 ← ldI arg16 r hr 3 (by decide)
  let i4 ← ldI arg16 r hr 4 (by decide)
  let i5 ← ldI arg16 r hr 5 (by decide)
  let i6 ← ldI arg16 r hr 6 (by decide)
  let i7 ← ldI arg16 r hr 7 (by decide)
  pure ⟨v0, v1, v2, v3, v4, v5, v6, v7, i0, i1, i2, i3, i4, i5, i6, i7⟩

def st8 (r : ℕ) (hr : r + 8 ≤ 64) (s : L8 F) : Prog (TpuEff nD τ sig (Elt F) Λ₀ .tc) PUnit := do
  stV arg15 r hr 0 (by decide) s.v0
  stI arg16 r hr 0 (by decide) s.i0
  stV arg15 r hr 1 (by decide) s.v1
  stI arg16 r hr 1 (by decide) s.i1
  stV arg15 r hr 2 (by decide) s.v2
  stI arg16 r hr 2 (by decide) s.i2
  stV arg15 r hr 3 (by decide) s.v3
  stI arg16 r hr 3 (by decide) s.i3
  stV arg15 r hr 4 (by decide) s.v4
  stI arg16 r hr 4 (by decide) s.i4
  stV arg15 r hr 5 (by decide) s.v5
  stI arg16 r hr 5 (by decide) s.i5
  stV arg15 r hr 6 (by decide) s.v6
  stI arg16 r hr 6 (by decide) s.i6
  stV arg15 r hr 7 (by decide) s.v7
  stI arg16 r hr 7 (by decide) s.i7

/-- The logits of eight rows and one tile of lanes. -/
def ldL (r : ℕ) (hr : r + 8 ≤ 64) (t : ℕ) (ht : t + 128 ≤ 512) : Prog (TpuEff nD τ sig (Elt F) Λ₀ .tc) (FVec F S8x128 .f32) :=
  Prog.bind (Prog.lift (.load arg17 (Rect.unit (s := S64x512) ![r, t] S8x128.size (inbL r t ht hr)).toLoadRect
    (View.loadsAt_vmem h_S8x128))) fun (x : Vec F S8x128 .f32) => .ret x

/-- The vocabulary index of every lane of a tile that starts at `b`. -/
def laneIdx (lane : IVec S8x128 32) (b : BitVec 32) : IVec S8x128 32 := addi lane (broadcast S8x128 b)

/-- One group of rows takes in the four tiles of a block. -/
def insGroup4 (lane : IVec S8x128 32) (b0 b1 b2 b3 : BitVec 32) (r : ℕ) (hr : r + 8 ≤ 64) : Prog (TpuEff nD τ sig (Elt F) Λ₀ .tc) PUnit := do
  let s ← ld8 arg15 arg16 r hr
  let t0 ← ldL arg17 r hr 0 (by decide)
  let t1 ← ldL arg17 r hr 128 (by decide)
  let t2 ← ldL arg17 r hr 256 (by decide)
  let t3 ← ldL arg17 r hr 384 (by decide)
  st8 arg15 arg16 r hr ((((s.ins aboveIn t0 (laneIdx lane b0)).ins aboveIn t1 (laneIdx lane b1)).ins aboveIn t2
    (laneIdx lane b2)).ins aboveIn t3 (laneIdx lane b3))

/-- One group of rows takes in the one tile of a tail. -/
def insGroup1 (lane : IVec S8x128 32) (b0 : BitVec 32) (r : ℕ) (hr : r + 8 ≤ 64) : Prog (TpuEff nD τ sig (Elt F) Λ₀ .tc) PUnit := do
  let s ← ld8 arg15 arg16 r hr
  let t0 ← ldL arg17 r hr 0 (by decide)
  st8 arg15 arg16 r hr (s.ins aboveTie t0 (laneIdx lane b0))

/-- The eight groups of eight rows, one after another. -/
def rowsLoop (f : (r : ℕ) → r + 8 ≤ 64 → Prog (TpuEff nD τ sig (Elt F) Λ₀ .tc) PUnit) : Prog (TpuEff nD τ sig (Elt F) Λ₀ .tc) PUnit := do
  f 0 (by decide)
  f 8 (by decide)
  f 16 (by decide)
  f 24 (by decide)
  f 32 (by decide)
  f 40 (by decide)
  f 48 (by decide)
  f 56 (by decide)

def ins4 (lane : IVec S8x128 32) (b0 b1 b2 b3 : BitVec 32) : Prog (TpuEff nD τ sig (Elt F) Λ₀ .tc) PUnit :=
  rowsLoop fun r hr => insGroup4 arg15 arg16 arg17 lane b0 b1 b2 b3 r hr

def ins1 (lane : IVec S8x128 32) (b0 : BitVec 32) : Prog (TpuEff nD τ sig (Elt F) Λ₀ .tc) PUnit :=
  rowsLoop fun r hr => insGroup1 arg15 arg16 arg17 lane b0 r hr
end

/-- The word of a block's first column, as the kernel computes it: `512 c + 128 (c / 31)`, the quotient rounded down. -/
def blockStart (c : BitVec 32) : BitVec 32 :=
  let d := Scalar.divsi c 31#32
  let p := Scalar.subi (Scalar.extui (Scalar.cmpi .sgt c 0#32)) (Scalar.extui (Scalar.cmpi .slt c 0#32))
  let q := Scalar.subi (Scalar.extui (Scalar.cmpi .sgt 31#32 0#32)) (Scalar.extui (Scalar.cmpi .slt 31#32 0#32))
  let z := Scalar.andi (Scalar.cmpi .ne p q) (Scalar.cmpi .ne (Scalar.remsi c 31#32) 0#32)
  Scalar.addi (Scalar.muli c 512#32) (Scalar.muli (Scalar.select z (Scalar.subi d 1#32) d) 128#32)

section
variable (arg9 : Memref sig .tc .vmem S64x4608 .fp8e4m3) (arg10 : Memref sig .tc .vmem S64x128 .f32)
  (arg11 arg12 : Memref sig .tc .vmem S250x128 .f32)
  (arg13 : Memref sig .tc .vmem S12x4608x512 .fp8e4m3) (arg17 : Memref sig .tc .vmem S64x512 .f32)

theorem inbC (k : ℕ) (hk : k + 1152 ≤ 4608) : ∀ a, (![0, k] : Fin 2 → Nat) a + S64x1152.size a ≤ S64x4608.size a := by
  intro a; match a with
  | 0 => change 0 + 64 ≤ 64; omega
  | 1 => change k + 1152 ≤ 4608; omega

/-- One chunk of a block's product. -/
def chunk (k : ℕ) (hk : k + 1152 ≤ 4608) (off : Fin 3 → ℕ) (ho : ∀ a, off a + S1x1152x512.size a ≤ S12x4608x512.size a)
    (acc : FVec F S64x512 .f32) : Prog (TpuEff nD τ sig (Elt F) Λ₀ .tc) (FVec F S64x512 .f32) := do
  let x : Vec F S64x1152 .fp8e4m3 ← Prog.lift (.load arg9 (Rect.unit (s := S64x4608) ![0, k] S64x1152.size (inbC k hk)).toLoadRect (View.loadsAt_vmem h_S64x1152))
  let w : Vec F S1x1152x512 .fp8e4m3 ← Prog.lift (.load arg13 (Rect.unit (s := S12x4608x512) off S1x1152x512.size ho).toLoadRect (View.loadsAt_vmem h_S1x1152x512))
  pure (addf acc (matmul dot_S64x1152_S1152x512_S64x512_1_0_0_1_n_n none x (shapeCast S1152x512 w shapeCasts_S1x1152x512_S1152x512)
    (constant S64x512 .f32 0x00000000#32)))

def blockDot (k0_t1 : Fin k0_t1_loop.trips) : Prog (TpuEff nD τ sig (Elt F) Λ₀ .tc) (FVec F S64x512 .f32) := do
  let a ← chunk arg9 arg13 0 (by decide) (k0_off9 k0_t1) (k0_off9_inb k0_t1) (broadcast S64x512 (Scalar.ofBits .f32 0x00000000#32))
  let a ← chunk arg9 arg13 1152 (by decide) (k0_off10 k0_t1) (k0_off10_inb k0_t1) a
  let a ← chunk arg9 arg13 2304 (by decide) (k0_off11 k0_t1) (k0_off11_inb k0_t1) a
  chunk arg9 arg13 3456 (by decide) (k0_off12 k0_t1) (k0_off12_inb k0_t1) a

theorem inbS (t : ℕ) (ht : t + 128 ≤ 512) : ∀ a, (![0, t] : Fin 2 → Nat) a + S64x128.size a ≤ S64x512.size a := by
  intro a; match a with
  | 0 => change 0 + 64 ≤ 64; omega
  | 1 => change t + 128 ≤ 512; omega

/-- One tile of a product made logits: scaled by the row's scale and the column's, the bias added. -/
def scaled (acc : FVec F S64x128 .f32) (ws b : Vec F S1x128 .f32) (sc : Vec F S64x128 .f32) : FVec F S64x128 .f32 :=
  addf (mulf (mulf acc sc) (broadcastTo S64x128 ws broadcasts_S1x128_S64x128)) (broadcastTo S64x128 b broadcasts_S1x128_S64x128)

def storeTile (t : ℕ) (ht : t + 128 ≤ 512) (off : Fin 2 → ℕ) (ho : ∀ a, off a + S1x128.size a ≤ S250x128.size a)
    (acc : FVec F S64x128 .f32) : Prog (TpuEff nD τ sig (Elt F) Λ₀ .tc) PUnit := do
  let ws : Vec F S1x128 .f32 ← Prog.lift (.load arg11 (Rect.unit (s := S250x128) off S1x128.size ho).toLoadRect (View.loadsAt_vmem h_S1x128))
  let b : Vec F S1x128 .f32 ← Prog.lift (.load arg12 (Rect.unit (s := S250x128) off S1x128.size ho).toLoadRect (View.loadsAt_vmem h_S1x128))
  let sc : Vec F S64x128 .f32 ← Prog.lift (.load arg10 (Rect.unit (s := S64x128) ![0, 0] S64x128.size inb_S64x128_S64x128_0_0).toLoadRect (View.loadsAt_vmem h_S64x128))
  let _ : Vec F S64x128 .f32 ← Prog.lift (.load arg17 (Rect.unit (s := S64x512) ![0, t] S64x128.size (inbS t ht)).toLoadRect (View.loadsAt_vmem h_S64x128))
  Prog.lift (.store arg17 (Rect.unit (s := S64x512) ![0, t] S64x128.size (inbS t ht))
    (shapeCast S64x128 (scaled acc ws b sc) shapeCasts_S64x128_S64x128) Finset.univ (View.stores_vmem_bits_univ h_S64x128 rfl) (.inl rfl))

def storeBlock (k0_t1 : Fin k0_t1_loop.trips) (acc : FVec F S64x512 .f32) : Prog (TpuEff nD τ sig (Elt F) Λ₀ .tc) PUnit := do
  storeTile arg10 arg11 arg12 arg17 0 (by decide) (k0_off13 k0_t1 0#32) (k0_off13_inb k0_t1 0) (extractStridedSlice S64x128 ![0, 0] acc slices_S64x512_o0_0_S64x128)
  storeTile arg10 arg11 arg12 arg17 128 (by decide) (k0_off13 k0_t1 1#32) (k0_off13_inb k0_t1 1) (extractStridedSlice S64x128 ![0, 128] acc slices_S64x512_o0_128_S64x128)
  storeTile arg10 arg11 arg12 arg17 256 (by decide) (k0_off13 k0_t1 2#32) (k0_off13_inb k0_t1 2) (extractStridedSlice S64x128 ![0, 256] acc slices_S64x512_o0_256_S64x128)
  storeTile arg10 arg11 arg12 arg17 384 (by decide) (k0_off13 k0_t1 3#32) (k0_off13_inb k0_t1 3) (extractStridedSlice S64x128 ![0, 384] acc slices_S64x512_o0_384_S64x128)
end

section
variable (arg1 : Memref sig .tc .hbm S4608x32000 .fp8e4m3) (harg1 : arg1.IsWhole)
  (arg13 : Memref sig .tc .vmem S12x4608x512 .fp8e4m3) (harg13 : arg13.IsWhole)
  (arg14 : Memref sig .tc .vmem S2x4608x128 .fp8e4m3) (harg14 : arg14.IsWhole)
  (arg19 : DmaSems sig S12) (arg20 : DmaSems sig S2)

def startBlk (o1 : Fin 1 → ℕ) (h1 : ∀ a, o1 a + S1.size a ≤ S12.size a)
    (o2 : Fin 3 → ℕ) (h2 : ∀ a, o2 a + S1x4608x512.size a ≤ S12x4608x512.size a)
    (w2 : (Rect.unit (s := S12x4608x512) o2 S1x4608x512.size h2).WholeWords (EltTy.packing .fp8e4m3))
    (o3 : Fin 2 → ℕ) (h3 : ∀ a, o3 a + S4608x512.size a ≤ S4608x32000.size a)
    (w3 : (Rect.unit (s := S4608x32000) o3 S4608x512.size h3).WholeWords (EltTy.packing .fp8e4m3)) : Prog (TpuEff nD τ sig (Elt F) Λ₀ .tc) PUnit :=
  let w : Memref sig .tc .hbm S4608x512 .fp8e4m3 := arg1.slice (Rect.unit (s := S4608x32000) o3 S4608x512.size h3) (fun _ => rfl)
  let d' : Memref sig .tc .vmem S1x4608x512 .fp8e4m3 := arg13.slice (Rect.unit (s := S12x4608x512) o2 S1x4608x512.size h2) (fun _ => rfl)
  let d : Memref sig .tc .vmem S4608x512 .fp8e4m3 := d'.squeeze S4608x512 squeezes_S1x4608x512_S4608x512
  let q' : DmaSems sig S1 := arg19.slice (Rect.unit (s := S12) o1 S1.size h1)
  let q : DmaSems sig S_ := q'.squeeze S_ squeezes_S1_S_
  Prog.lift (.enqueueDma w (.here d) (.dma q.sem)
    (harg1.wordExact_slice rfl _ w3) ((harg13.wordExact_slice rfl _ w2).reshape _ _) ⟨Or.inl rfl, trivial⟩)

def startTail0 : Prog (TpuEff nD τ sig (Elt F) Λ₀ .tc) PUnit :=
  let w : Memref sig .tc .hbm S4608x128 .fp8e4m3 := arg1.slice (Rect.unit (s := S4608x32000) ![0, 15872] S4608x128.size inb_S4608x32000_S4608x128_0_15872) (fun _ => rfl)
  let d' : Memref sig .tc .vmem S1x4608x128 .fp8e4m3 := arg14.slice (Rect.unit (s := S2x4608x128) ![0, 0, 0] S1x4608x128.size inb_S2x4608x128_S1x4608x128_0_0_0) (fun _ => rfl)
  let d : Memref sig .tc .vmem S4608x128 .fp8e4m3 := d'.squeeze S4608x128 squeezes_S1x4608x128_S4608x128
  let q' : DmaSems sig S1 := arg20.slice (Rect.unit (s := S2) ![0] S1.size inb_S2_S1_0)
  let q : DmaSems sig S_ := q'.squeeze S_ squeezes_S1_S_
  Prog.lift (.enqueueDma w (.here d) (.dma q.sem)
    (harg1.wordExact_slice rfl _ wordsfp8e4m3_S4608x32000_S4608x128_0_15872)
    ((harg14.wordExact_slice rfl _ wordsfp8e4m3_S2x4608x128_S1x4608x128_0_0_0).reshape _ _) ⟨Or.inl rfl, trivial⟩)

def startTail1 : Prog (TpuEff nD τ sig (Elt F) Λ₀ .tc) PUnit :=
  let w : Memref sig .tc .hbm S4608x128 .fp8e4m3 := arg1.slice (Rect.unit (s := S4608x32000) ![0, 31872] S4608x128.size inb_S4608x32000_S4608x128_0_31872) (fun _ => rfl)
  let d' : Memref sig .tc .vmem S1x4608x128 .fp8e4m3 := arg14.slice (Rect.unit (s := S2x4608x128) ![1, 0, 0] S1x4608x128.size inb_S2x4608x128_S1x4608x128_1_0_0) (fun _ => rfl)
  let d : Memref sig .tc .vmem S4608x128 .fp8e4m3 := d'.squeeze S4608x128 squeezes_S1x4608x128_S4608x128
  let q' : DmaSems sig S1 := arg20.slice (Rect.unit (s := S2) ![1] S1.size inb_S2_S1_1)
  let q : DmaSems sig S_ := q'.squeeze S_ squeezes_S1_S_
  Prog.lift (.enqueueDma w (.here d) (.dma q.sem)
    (harg1.wordExact_slice rfl _ wordsfp8e4m3_S4608x32000_S4608x128_0_31872)
    ((harg14.wordExact_slice rfl _ wordsfp8e4m3_S2x4608x128_S1x4608x128_1_0_0).reshape _ _) ⟨Or.inl rfl, trivial⟩)

/-- The condition under which a trip starts tail `h`, where `n = 62 + h`. -/
def tailCond (c n : BitVec 32) : BitVec 1 :=
  Scalar.cmpi .ne (Scalar.extui (Scalar.cmpi .eq (Scalar.subi (Scalar.addi c 12#32) 1#32) n)) 0#32

/-- A trip's transfers: its own block awaited, the block eleven ahead started while there is one, then the tails. -/
def tripDma (k0_t1 : Fin k0_t1_loop.trips) : Prog (TpuEff nD τ sig (Elt F) Λ₀ .tc) PUnit := do
  let w : Memref sig .tc .hbm S4608x512 .fp8e4m3 := arg1.slice (Rect.unit (s := S4608x32000) (k0_off5 k0_t1) S4608x512.size (k0_off5_inb k0_t1)) (fun _ => rfl)
  let d' : Memref sig .tc .vmem S1x4608x512 .fp8e4m3 := arg13.slice (Rect.unit (s := S12x4608x512) (k0_off4 k0_t1) S1x4608x512.size (k0_off4_inb k0_t1)) (fun _ => rfl)
  let d : Memref sig .tc .vmem S4608x512 .fp8e4m3 := d'.squeeze S4608x512 squeezes_S1x4608x512_S4608x512
  let q' : DmaSems sig S1 := arg19.slice (Rect.unit (s := S12) (k0_off3 k0_t1) S1.size (k0_off3_inb k0_t1))
  let q : DmaSems sig S_ := q'.squeeze S_ squeezes_S1_S_
  Prog.lift (.waitDma2 q.sem w d (harg1.wordExact_slice rfl _ (k0_off5_wordsfp8e4m3 k0_t1))
    ((harg13.wordExact_slice rfl _ (k0_off4_wordsfp8e4m3 k0_t1)).reshape _ _))
  if h : k0_cond1 k0_t1 = 1#1 then
    startBlk arg1 harg1 arg13 harg13 arg19 (k0_off6 k0_t1) (k0_off6_inb k0_t1 h) (k0_off7 k0_t1) (k0_off7_inb k0_t1 h)
      (k0_off7_wordsfp8e4m3 k0_t1 h) (k0_off8 k0_t1) (k0_off8_inb k0_t1 h) (k0_off8_wordsfp8e4m3 k0_t1 h)
  else pure ⟨⟩
  if h : Scalar.cmpi .ne (Scalar.extui (Scalar.cmpi .eq (Scalar.subi (Scalar.addi (Scf.iv 0#32 1#32 k0_t1) 12#32) 1#32) 62#32)) 0#32 = 1#1 then startTail0 arg1 harg1 arg14 harg14 arg20 else pure ⟨⟩
  if h : Scalar.cmpi .ne (Scalar.extui (Scalar.cmpi .eq (Scalar.subi (Scalar.addi (Scf.iv 0#32 1#32 k0_t1) 12#32) 1#32) 63#32)) 0#32 = 1#1 then startTail1 arg1 harg1 arg14 harg14 arg20 else pure ⟨⟩

variable (arg9 : Memref sig .tc .vmem S64x4608 .fp8e4m3) (arg10 : Memref sig .tc .vmem S64x128 .f32)
  (arg11 arg12 : Memref sig .tc .vmem S250x128 .f32) (arg15 : Memref sig .tc .vmem S8x64x128 .f32)
  (arg16 : Memref sig .tc .vmem S8x64x128 .i32) (arg17 : Memref sig .tc .vmem S64x512 .f32)

/-- The word a trip inserts at: the start of the block before, of block 0 at the first trip. -/
def prevStart (k0_t1 : Fin k0_t1_loop.trips) : BitVec 32 := blockStart (Scalar.maxsi (Scalar.subi (Scf.iv 0#32 1#32 k0_t1) 1#32) 0#32)

def trip (lane : IVec S8x128 32) (k0_t1 : Fin k0_t1_loop.trips) : Prog (TpuEff nD τ sig (Elt F) Λ₀ .tc) Unit := do
  tripDma arg1 harg1 arg13 harg13 arg14 harg14 arg19 arg20 k0_t1
  ins4 arg15 arg16 arg17 lane (Scalar.addi (prevStart k0_t1) 0#32) (Scalar.addi (prevStart k0_t1) 128#32)
    (Scalar.addi (prevStart k0_t1) 256#32) (Scalar.addi (prevStart k0_t1) 384#32)
  let acc ← blockDot arg9 arg13 k0_t1
  storeBlock arg10 arg11 arg12 arg17 k0_t1 acc
  pure ⟨⟩
end

section
variable (arg1 : Memref sig .tc .hbm S4608x32000 .fp8e4m3) (harg1 : arg1.IsWhole)
  (arg9 : Memref sig .tc .vmem S64x4608 .fp8e4m3) (arg10 : Memref sig .tc .vmem S64x128 .f32)
  (arg11 arg12 : Memref sig .tc .vmem S250x128 .f32)
  (arg14 : Memref sig .tc .vmem S2x4608x128 .fp8e4m3) (harg14 : arg14.IsWhole)
  (arg15 : Memref sig .tc .vmem S8x64x128 .f32) (arg16 : Memref sig .tc .vmem S8x64x128 .i32)
  (arg17 : Memref sig .tc .vmem S64x512 .f32) (arg20 : DmaSems sig S2)

theorem inbC1 (k : ℕ) (hk : k + 128 ≤ 4608) : ∀ a, (![0, k] : Fin 2 → Nat) a + S64x128.size a ≤ S64x4608.size a := by
  intro a; match a with
  | 0 => change 0 + 64 ≤ 64; omega
  | 1 => change k + 128 ≤ 4608; omega

theorem inbT (h k : ℕ) (hh : h < 2) (hk : k + 128 ≤ 4608) : ∀ a, (![h, k, 0] : Fin 3 → Nat) a + S1x128x128.size a ≤ S2x4608x128.size a := by
  intro a; match a with
  | 0 => change h + 1 ≤ 2; omega
  | 1 => change k + 128 ≤ 4608; omega
  | 2 => change 0 + 128 ≤ 128; omega

/-- One chunk of a tail's product. -/
def tchunk (h : ℕ) (hh : h < 2) (k : ℕ) (hk : k + 128 ≤ 4608) (acc : FVec F S64x128 .f32) : Prog (TpuEff nD τ sig (Elt F) Λ₀ .tc) (FVec F S64x128 .f32) := do
  let x : Vec F S64x128 .fp8e4m3 ← Prog.lift (.load arg9 (Rect.unit (s := S64x4608) ![0, k] S64x128.size (inbC1 k hk)).toLoadRect (View.loadsAt_vmem h_S64x128))
  let w : Vec F S1x128x128 .fp8e4m3 ← Prog.lift (.load arg14 (Rect.unit (s := S2x4608x128) ![h, k, 0] S1x128x128.size (inbT h k hh hk)).toLoadRect (View.loadsAt_vmem h_S1x128x128))
  pure (addf acc (matmul dot_S64x128_S128x128_S64x128_1_0_0_1_n_n none x (shapeCast S128x128 w shapeCasts_S1x128x128_S128x128)
    (constant S64x128 .f32 0x00000000#32)))

def tailDot (h : ℕ) (hh : h < 2) : Prog (TpuEff nD τ sig (Elt F) Λ₀ .tc) (FVec F S64x128 .f32) := do
  let a ← tchunk arg9 arg14 h hh 0 (by decide) (broadcast S64x128 (Scalar.ofBits .f32 0x00000000#32))
  let a ← tchunk arg9 arg14 h hh 128 (by decide) a
  let a ← tchunk arg9 arg14 h hh 256 (by decide) a
  let a ← tchunk arg9 arg14 h hh 384 (by decide) a
  let a ← tchunk arg9 arg14 h hh 512 (by decide) a
  let a ← tchunk arg9 arg14 h hh 640 (by decide) a
  let a ← tchunk arg9 arg14 h hh 768 (by decide) a
  let a ← tchunk arg9 arg14 h hh 896 (by decide) a
  let a ← tchunk arg9 arg14 h hh 1024 (by decide) a
  let a ← tchunk arg9 arg14 h hh 1152 (by decide) a
  let a ← tchunk arg9 arg14 h hh 1280 (by decide) a
  let a ← tchunk arg9 arg14 h hh 1408 (by decide) a
  let a ← tchunk arg9 arg14 h hh 1536 (by decide) a
  let a ← tchunk arg9 arg14 h hh 1664 (by decide) a
  let a ← tchunk arg9 arg14 h hh 1792 (by decide) a
  let a ← tchunk arg9 arg14 h hh 1920 (by decide) a
  let a ← tchunk arg9 arg14 h hh 2048 (by decide) a
  let a ← tchunk arg9 arg14 h hh 2176 (by decide) a
  let a ← tchunk arg9 arg14 h hh 2304 (by decide) a
  let a ← tchunk arg9 arg14 h hh 2432 (by decide) a
  let a ← tchunk arg9 arg14 h hh 2560 (by decide) a
  let a ← tchunk arg9 arg14 h hh 2688 (by decide) a
  let a ← tchunk arg9 arg14 h hh 2816 (by decide) a
  let a ← tchunk arg9 arg14 h hh 2944 (by decide) a
  let a ← tchunk arg9 arg14 h hh 3072 (by decide) a
  let a ← tchunk arg9 arg14 h hh 3200 (by decide) a
  let a ← tchunk arg9 arg14 h hh 3328 (by decide) a
  let a ← tchunk arg9 arg14 h hh 3456 (by decide) a
  let a ← tchunk arg9 arg14 h hh 3584 (by decide) a
  let a ← tchunk arg9 arg14 h hh 3712 (by decide) a
  let a ← tchunk arg9 arg14 h hh 3840 (by decide) a
  let a ← tchunk arg9 arg14 h hh 3968 (by decide) a
  let a ← tchunk arg9 arg14 h hh 4096 (by decide) a
  let a ← tchunk arg9 arg14 h hh 4224 (by decide) a
  let a ← tchunk arg9 arg14 h hh 4352 (by decide) a
  tchunk arg9 arg14 h hh 4480 (by decide) a

def waitTail0 : Prog (TpuEff nD τ sig (Elt F) Λ₀ .tc) PUnit :=
  let w : Memref sig .tc .hbm S4608x128 .fp8e4m3 := arg1.slice (Rect.unit (s := S4608x32000) ![0, 15872] S4608x128.size inb_S4608x32000_S4608x128_0_15872) (fun _ => rfl)
  let d' : Memref sig .tc .vmem S1x4608x128 .fp8e4m3 := arg14.slice (Rect.unit (s := S2x4608x128) ![0, 0, 0] S1x4608x128.size inb_S2x4608x128_S1x4608x128_0_0_0) (fun _ => rfl)
  let d : Memref sig .tc .vmem S4608x128 .fp8e4m3 := d'.squeeze S4608x128 squeezes_S1x4608x128_S4608x128
  let q' : DmaSems sig S1 := arg20.slice (Rect.unit (s := S2) ![0] S1.size inb_S2_S1_0)
  let q : DmaSems sig S_ := q'.squeeze S_ squeezes_S1_S_
  Prog.lift (.waitDma2 q.sem w d
    (harg1.wordExact_slice rfl _ wordsfp8e4m3_S4608x32000_S4608x128_0_15872)
    ((harg14.wordExact_slice rfl _ wordsfp8e4m3_S2x4608x128_S1x4608x128_0_0_0).reshape _ _))

def waitTail1 : Prog (TpuEff nD τ sig (Elt F) Λ₀ .tc) PUnit :=
  let w : Memref sig .tc .hbm S4608x128 .fp8e4m3 := arg1.slice (Rect.unit (s := S4608x32000) ![0, 31872] S4608x128.size inb_S4608x32000_S4608x128_0_31872) (fun _ => rfl)
  let d' : Memref sig .tc .vmem S1x4608x128 .fp8e4m3 := arg14.slice (Rect.unit (s := S2x4608x128) ![1, 0, 0] S1x4608x128.size inb_S2x4608x128_S1x4608x128_1_0_0) (fun _ => rfl)
  let d : Memref sig .tc .vmem S4608x128 .fp8e4m3 := d'.squeeze S4608x128 squeezes_S1x4608x128_S4608x128
  let q' : DmaSems sig S1 := arg20.slice (Rect.unit (s := S2) ![1] S1.size inb_S2_S1_1)
  let q : DmaSems sig S_ := q'.squeeze S_ squeezes_S1_S_
  Prog.lift (.waitDma2 q.sem w d
    (harg1.wordExact_slice rfl _ wordsfp8e4m3_S4608x32000_S4608x128_0_31872)
    ((harg14.wordExact_slice rfl _ wordsfp8e4m3_S2x4608x128_S1x4608x128_1_0_0).reshape _ _))

/-- A tail after its transfer: its product, its logits, their insertion. -/
def tailRest (lane : IVec S8x128 32) (h : ℕ) (hh : h < 2) (off : Fin 2 → ℕ) (ho : ∀ a, off a + S1x128.size a ≤ S250x128.size a)
    (b : BitVec 32) : Prog (TpuEff nD τ sig (Elt F) Λ₀ .tc) PUnit := do
  let acc ← tailDot arg9 arg14 h hh
  storeTile arg10 arg11 arg12 arg17 0 (by decide) off ho acc
  ins1 arg15 arg16 arg17 lane b
end

/-- The candidates of every row and lane in the extraction: eight values and eight indices as floats. -/
structure X8 (F : FTy → Type) [FloatOps F] where
  v0 : FVec F S64x128 .f32
  v1 : FVec F S64x128 .f32
  v2 : FVec F S64x128 .f32
  v3 : FVec F S64x128 .f32
  v4 : FVec F S64x128 .f32
  v5 : FVec F S64x128 .f32
  v6 : FVec F S64x128 .f32
  v7 : FVec F S64x128 .f32
  i0 : FVec F S64x128 .f32
  i1 : FVec F S64x128 .f32
  i2 : FVec F S64x128 .f32
  i3 : FVec F S64x128 .f32
  i4 : FVec F S64x128 .f32
  i5 : FVec F S64x128 .f32
  i6 : FVec F S64x128 .f32
  i7 : FVec F S64x128 .f32

/-- The greatest value of each row. -/
def rowMax (v : FVec F S64x128 .f32) : FVec F S64x1 .f32 :=
  shapeCast S64x1 (multiReduction .maximumf [1] S64 v 0xFF800000#32 reduces_S64x128_S64 (.inl rfl) rfl) shapeCasts_S64_S64x1

/-- The least index among the lanes that hold the row's greatest value. -/
def rowIdx (v i : FVec F S64x128 .f32) : FVec F S64x1 .f32 :=
  shapeCast S64x1 (multiReduction .minimumf [1] S64
    (select (cmpf .oeq v (broadcastTo S64x128 (rowMax v) broadcasts_S64x1_S64x128)) i (broadcast S64x128 (Scalar.ofBits .f32 0x7F800000#32)))
    0x7F800000#32 reduces_S64x128_S64 (.inl rfl) rfl) shapeCasts_S64_S64x1

/-- Where a round takes its entry from. -/
def hit (v i : FVec F S64x128 .f32) : IVec S64x128 1 :=
  andi (cmpf .oeq v (broadcastTo S64x128 (rowMax v) broadcasts_S64x1_S64x128))
    (cmpf .oeq i (broadcastTo S64x128 (rowIdx v i) broadcasts_S64x1_S64x128))

/-- The lanes after one round: the lane that gave its entry moves up. -/
def X8.next (s : X8 F) : X8 F :=
  have h := hit s.v0 s.i0
  { v0 := select h s.v1 s.v0, i0 := select h s.i1 s.i0
    v1 := select h s.v2 s.v1, i1 := select h s.i2 s.i1
    v2 := select h s.v3 s.v2, i2 := select h s.i3 s.i2
    v3 := select h s.v4 s.v3, i3 := select h s.i4 s.i3
    v4 := select h s.v5 s.v4, i4 := select h s.i5 s.i4
    v5 := select h s.v6 s.v5, i5 := select h s.i6 s.i5
    v6 := select h s.v7 s.v6, i6 := select h s.i7 s.i6
    v7 := s.v7, i7 := s.i7 }

/-- Column `r` of a result replaced. -/
def setCol (r : BitVec 32) (m : FVec F S64x1 .f32) (t : FVec F S64x128 .f32) : FVec F S64x128 .f32 :=
  select (cmpi .eq (iota .tc S64x128 32 [1] iota_S64x128_d1_w32) (broadcast S64x128 r))
    (broadcastTo S64x128 (shapeCast S64x1 m shapeCasts_S64x1_S64x1) broadcasts_S64x1_S64x128) t

def X8.setV (s : X8 F) (r : BitVec 32) (t : FVec F S64x128 .f32) : FVec F S64x128 .f32 := setCol r (rowMax s.v0) t
def X8.setI (s : X8 F) (r : BitVec 32) (t : FVec F S64x128 .f32) : FVec F S64x128 .f32 := setCol r (rowIdx s.v0 s.i0) t

def X8.outV (s : X8 F) : FVec F S64x128 .f32 :=
  s.next.next.next.next.next.next.next.setV 7#32 <| s.next.next.next.next.next.next.setV 6#32 <| s.next.next.next.next.next.setV 5#32 <|
  s.next.next.next.next.setV 4#32 <| s.next.next.next.setV 3#32 <| s.next.next.setV 2#32 <| s.next.setV 1#32 <|
  s.setV 0#32 (broadcast S64x128 (Scalar.ofBits .f32 0x00000000#32))

def X8.outI (s : X8 F) : FVec F S64x128 .f32 :=
  s.next.next.next.next.next.next.next.setI 7#32 <| s.next.next.next.next.next.next.setI 6#32 <| s.next.next.next.next.next.setI 5#32 <|
  s.next.next.next.next.setI 4#32 <| s.next.next.next.setI 3#32 <| s.next.next.setI 2#32 <| s.next.setI 1#32 <|
  s.setI 0#32 (broadcast S64x128 (Scalar.ofBits .f32 0x00000000#32))

section
variable (arg4 : Memref sig .tc .vmem S8x64 .f32) (arg5 : Memref sig .tc .vmem S8x64 .i32)
  (arg15 : Memref sig .tc .vmem S8x64x128 .f32) (arg16 : Memref sig .tc .vmem S8x64x128 .i32)

theorem inbX (k : ℕ) (hk : k < 8) : ∀ a, (![k, 0, 0] : Fin 3 → Nat) a + S1x64x128.size a ≤ S8x64x128.size a := by
  intro a; match a with
  | 0 => change k + 1 ≤ 8; omega
  | 1 => change 0 + 64 ≤ 64; omega
  | 2 => change 0 + 128 ≤ 128; omega

def ldXV (k : ℕ) (hk : k < 8) : Prog (TpuEff nD τ sig (Elt F) Λ₀ .tc) (FVec F S64x128 .f32) :=
  Prog.bind (Prog.lift (.load arg15 (Rect.unit (s := S8x64x128) ![k, 0, 0] S1x64x128.size (inbX k hk)).toLoadRect
    (View.loadsAt_vmem h_S1x64x128))) fun (x : Vec F S1x64x128 .f32) => .ret (shapeCast S64x128 x shapeCasts_S1x64x128_S64x128)

def ldXI (k : ℕ) (hk : k < 8) : Prog (TpuEff nD τ sig (Elt F) Λ₀ .tc) (FVec F S64x128 .f32) :=
  Prog.bind (Prog.lift (.load arg16 (Rect.unit (s := S8x64x128) ![k, 0, 0] S1x64x128.size (inbX k hk)).toLoadRect
    (View.loadsAt_vmem h_S1x64x128))) fun (x : Vec F S1x64x128 .i32) => .ret (sitofp .f32 (shapeCast S64x128 x shapeCasts_S1x64x128_S64x128))

def ldX : Prog (TpuEff nD τ sig (Elt F) Λ₀ .tc) (X8 F) := do
  let v0 ← ldXV arg15 0 (by decide)
  let v1 ← ldXV arg15 1 (by decide)
  let v2 ← ldXV arg15 2 (by decide)
  let v3 ← ldXV arg15 3 (by decide)
  let v4 ← ldXV arg15 4 (by decide)
  let v5 ← ldXV arg15 5 (by decide)
  let v6 ← ldXV arg15 6 (by decide)
  let v7 ← ldXV arg15 7 (by decide)
  let i0 ← ldXI arg16 0 (by decide)
  let i1 ← ldXI arg16 1 (by decide)
  let i2 ← ldXI arg16 2 (by decide)
  let i3 ← ldXI arg16 3 (by decide)
  let i4 ← ldXI arg16 4 (by decide)
  let i5 ← ldXI arg16 5 (by decide)
  let i6 ← ldXI arg16 6 (by decide)
  let i7 ← ldXI arg16 7 (by decide)
  pure ⟨v0, v1, v2, v3, v4, v5, v6, v7, i0, i1, i2, i3, i4, i5, i6, i7⟩

/-- A result's first eight columns, as rows. -/
def first8 (t : FVec F S64x128 .f32) : FVec F S8x64 .f32 :=
  extractStridedSlice S8x64 ![0, 0] (transpose S128x64 [1, 0] t transposes_S64x128_p1_0_S128x64) slices_S128x64_o0_0_S8x64

def extract : Prog (TpuEff nD τ sig (Elt F) Λ₀ .tc) PUnit := do
  let s ← ldX arg15 arg16
  let _ : Vec F S8x64 .f32 ← Prog.lift (.load arg4 (Rect.unit (s := S8x64) ![0, 0] S8x64.size inb_S8x64_S8x64_0_0).toLoadRect (View.loadsAt_vmem h_S8x64))
  Prog.lift (.store arg4 (Rect.unit (s := S8x64) ![0, 0] S8x64.size inb_S8x64_S8x64_0_0) (first8 s.outV) Finset.univ (View.stores_vmem_bits_univ h_S8x64 rfl) (.inl rfl))
  let _ : Vec F S8x64 .i32 ← Prog.lift (.load arg5 (Rect.unit (s := S8x64) ![0, 0] S8x64.size inb_S8x64_S8x64_0_0).toLoadRect (View.loadsAt_vmem h_S8x64))
  Prog.lift (.store arg5 (Rect.unit (s := S8x64) ![0, 0] S8x64.size inb_S8x64_S8x64_0_0) (fptosi 32 (first8 s.outI)) Finset.univ (View.stores_vmem_bits_univ h_S8x64 rfl) (.inl rfl))
end

/-- The largest `j` for which `2 ^ (j - 127)` (zero for `j = 0`) is at most `y`, row by row. -/
def biased (y : FVec F S64x1 .f32) : IVec S64x1 32 :=
  have j : IVec S64x256 32 := iota .tc S64x256 32 [1] iota_S64x256_d1_w32
  shapeCast S64x1 (multiReductionI .maxsi [1] S64
    (select (cmpf .oge (broadcastTo S64x256 y broadcasts_S64x1_S64x256) (bitcastToFloat .f32 (shli j (broadcast S64x256 23#32)))) j
      (broadcast S64x256 0#32)) 2147483648#32 reduces_S64x256_S64 rfl) shapeCasts_S64_S64x1

/-- The power of two of an exponent. -/
def pow2 (e : IVec S64x1 32) : FVec F S64x1 .f32 :=
  bitcastToFloat .f32 (shli (addi e (broadcast S64x1 127#32)) (broadcast S64x1 23#32))

/-- A row's greatest magnitude over the largest code. -/
def amax (x : FVec F S64x4608 .f32) : FVec F S64x1 .f32 :=
  mulf (shapeCast S64x1 (multiReduction .maximumf [1] S64 (absf x) 0xFF800000#32 reduces_S64x4608_S64 (.inl rfl) rfl) shapeCasts_S64_S64x1)
    (broadcast S64x1 (Scalar.ofBits .f32 0x3B124925#32))

/-- The exponent of a row's scale. -/
def expo (x : FVec F S64x4608 .f32) : IVec S64x1 32 :=
  have b : IVec S64x1 32 := biased (amax x)
  select (ori (cmpi .eq b (broadcast S64x1 0#32)) (cmpi .eq b (broadcast S64x1 255#32))) (broadcast S64x1 0#32)
    (subi b (broadcast S64x1 126#32))

/-- The scale along 128 equal lanes. -/
def scaleTile (x : FVec F S64x4608 .f32) : FVec F S64x128 .f32 :=
  broadcastTo S64x128 (shapeCast S64x1 (pow2 (expo x)) shapeCasts_S64x1_S64x1) broadcasts_S64x1_S64x128

/-- The codes. -/
def codes (x : FVec F S64x4608 .f32) : FVec F S64x4608 .fp8e4m3 :=
  truncf .fp8e4m3 (minimumf (broadcast S64x4608 (Scalar.ofBits .f32 0x43E00000#32)) (maximumf
    (broadcast S64x4608 (Scalar.ofBits .f32 0xC3E00000#32))
    (mulf x (broadcastTo S64x4608 (pow2 (subi (broadcast S64x1 0#32) (expo x))) broadcasts_S64x1_S64x4608)))) bitsLt_fp8e4m3_f32

/-- The first lane of the scale, as a row. -/
def scaleRow (s : Vec F S64x128 .f32) : FVec F S1x64 .f32 :=
  extractStridedSlice S1x64 ![0, 0] (transpose S128x64 [1, 0] s transposes_S64x128_p1_0_S128x64) slices_S128x64_o0_0_S1x64

section
variable (arg0 : Memref sig .tc .hbm S64x4608 .bf16) (harg0 : arg0.IsWhole) (arg1 : Memref sig .tc .hbm S4608x32000 .fp8e4m3) (harg1 : arg1.IsWhole) (arg2 : Memref sig .tc .hbm S250x128 .f32) (harg2 : arg2.IsWhole) (arg3 : Memref sig .tc .hbm S250x128 .f32) (harg3 : arg3.IsWhole) (arg4 : Memref sig .tc .vmem S8x64 .f32) (harg4 : arg4.IsWhole) (arg5 : Memref sig .tc .vmem S8x64 .i32) (harg5 : arg5.IsWhole) (arg6 : Memref sig .tc .hbm S64x4608 .fp8e4m3) (harg6 : arg6.IsWhole) (arg7 : Memref sig .tc .vmem S1x64 .f32) (harg7 : arg7.IsWhole) (arg8 : Memref sig .tc .vmem S64x4608 .bf16) (harg8 : arg8.IsWhole) (arg9 : Memref sig .tc .vmem S64x4608 .fp8e4m3) (harg9 : arg9.IsWhole) (arg10 : Memref sig .tc .vmem S64x128 .f32) (harg10 : arg10.IsWhole) (arg11 : Memref sig .tc .vmem S250x128 .f32) (harg11 : arg11.IsWhole) (arg12 : Memref sig .tc .vmem S250x128 .f32) (harg12 : arg12.IsWhole) (arg13 : Memref sig .tc .vmem S12x4608x512 .fp8e4m3) (harg13 : arg13.IsWhole) (arg14 : Memref sig .tc .vmem S2x4608x128 .fp8e4m3) (harg14 : arg14.IsWhole) (arg15 : Memref sig .tc .vmem S8x64x128 .f32) (harg15 : arg15.IsWhole) (arg16 : Memref sig .tc .vmem S8x64x128 .i32) (harg16 : arg16.IsWhole) (arg17 : Memref sig .tc .vmem S64x512 .f32) (harg17 : arg17.IsWhole) (arg18 : DmaSems sig S3) (arg19 : DmaSems sig S12) (arg20 : DmaSems sig S2) (arg21 : DmaSems sig S1)

/-- The transfers that a launch begins with. -/
def starts : Prog (TpuEff nD τ sig (Elt F) Λ₀ .tc) PUnit := do
  let q180' : DmaSems sig S1 := arg18.slice (Rect.unit (s := S3) ![0] S1.size inb_S3_S1_0)
  let q180 : DmaSems sig S_ := q180'.squeeze S_ squeezes_S1_S_
  Prog.lift (.enqueueDma arg0 (.here arg8) (.dma q180.sem) harg0.wordExact harg8.wordExact ⟨Or.inl rfl, trivial⟩)
  startBlk arg1 harg1 arg13 harg13 arg19 (k0_off1 0#32) (k0_off1_inb 0) (k0_off2 0#32) (k0_off2_inb 0) (k0_off2_wordsfp8e4m3 0) ![0, 0] inb_S4608x32000_S4608x512_0_0 wordsfp8e4m3_S4608x32000_S4608x512_0_0
  startBlk arg1 harg1 arg13 harg13 arg19 (k0_off1 1#32) (k0_off1_inb 1) (k0_off2 1#32) (k0_off2_inb 1) (k0_off2_wordsfp8e4m3 1) ![0, 512] inb_S4608x32000_S4608x512_0_512 wordsfp8e4m3_S4608x32000_S4608x512_0_512
  let q181' : DmaSems sig S1 := arg18.slice (Rect.unit (s := S3) ![1] S1.size inb_S3_S1_1)
  let q181 : DmaSems sig S_ := q181'.squeeze S_ squeezes_S1_S_
  Prog.lift (.enqueueDma arg2 (.here arg11) (.dma q181.sem) harg2.wordExact harg11.wordExact ⟨Or.inl rfl, trivial⟩)
  let q182' : DmaSems sig S1 := arg18.slice (Rect.unit (s := S3) ![2] S1.size inb_S3_S1_2)
  let q182 : DmaSems sig S_ := q182'.squeeze S_ squeezes_S1_S_
  Prog.lift (.enqueueDma arg3 (.here arg12) (.dma q182.sem) harg3.wordExact harg12.wordExact ⟨Or.inl rfl, trivial⟩)
  startBlk arg1 harg1 arg13 harg13 arg19 (k0_off1 2#32) (k0_off1_inb 2) (k0_off2 2#32) (k0_off2_inb 2) (k0_off2_wordsfp8e4m3 2) ![0, 1024] inb_S4608x32000_S4608x512_0_1024 wordsfp8e4m3_S4608x32000_S4608x512_0_1024
  startBlk arg1 harg1 arg13 harg13 arg19 (k0_off1 3#32) (k0_off1_inb 3) (k0_off2 3#32) (k0_off2_inb 3) (k0_off2_wordsfp8e4m3 3) ![0, 1536] inb_S4608x32000_S4608x512_0_1536 wordsfp8e4m3_S4608x32000_S4608x512_0_1536
  startBlk arg1 harg1 arg13 harg13 arg19 (k0_off1 4#32) (k0_off1_inb 4) (k0_off2 4#32) (k0_off2_inb 4) (k0_off2_wordsfp8e4m3 4) ![0, 2048] inb_S4608x32000_S4608x512_0_2048 wordsfp8e4m3_S4608x32000_S4608x512_0_2048
  startBlk arg1 harg1 arg13 harg13 arg19 (k0_off1 5#32) (k0_off1_inb 5) (k0_off2 5#32) (k0_off2_inb 5) (k0_off2_wordsfp8e4m3 5) ![0, 2560] inb_S4608x32000_S4608x512_0_2560 wordsfp8e4m3_S4608x32000_S4608x512_0_2560
  startBlk arg1 harg1 arg13 harg13 arg19 (k0_off1 6#32) (k0_off1_inb 6) (k0_off2 6#32) (k0_off2_inb 6) (k0_off2_wordsfp8e4m3 6) ![0, 3072] inb_S4608x32000_S4608x512_0_3072 wordsfp8e4m3_S4608x32000_S4608x512_0_3072
  startBlk arg1 harg1 arg13 harg13 arg19 (k0_off1 7#32) (k0_off1_inb 7) (k0_off2 7#32) (k0_off2_inb 7) (k0_off2_wordsfp8e4m3 7) ![0, 3584] inb_S4608x32000_S4608x512_0_3584 wordsfp8e4m3_S4608x32000_S4608x512_0_3584
  startBlk arg1 harg1 arg13 harg13 arg19 (k0_off1 8#32) (k0_off1_inb 8) (k0_off2 8#32) (k0_off2_inb 8) (k0_off2_wordsfp8e4m3 8) ![0, 4096] inb_S4608x32000_S4608x512_0_4096 wordsfp8e4m3_S4608x32000_S4608x512_0_4096
  startBlk arg1 harg1 arg13 harg13 arg19 (k0_off1 9#32) (k0_off1_inb 9) (k0_off2 9#32) (k0_off2_inb 9) (k0_off2_wordsfp8e4m3 9) ![0, 4608] inb_S4608x32000_S4608x512_0_4608 wordsfp8e4m3_S4608x32000_S4608x512_0_4608
  startBlk arg1 harg1 arg13 harg13 arg19 (k0_off1 10#32) (k0_off1_inb 10) (k0_off2 10#32) (k0_off2_inb 10) (k0_off2_wordsfp8e4m3 10) ![0, 5120] inb_S4608x32000_S4608x512_0_5120 wordsfp8e4m3_S4608x32000_S4608x512_0_5120

/-- The lists emptied, the logits at minus infinity. -/
def fills : Prog (TpuEff nD τ sig (Elt F) Λ₀ .tc) PUnit := do
  let _ : Vec F S8x64x128 .f32 ← Prog.lift (.load arg15 (Rect.unit (s := S8x64x128) ![0, 0, 0] S8x64x128.size inb_S8x64x128_S8x64x128_0_0_0).toLoadRect (View.loadsAt_vmem h_S8x64x128))
  Prog.lift (.store arg15 (Rect.unit (s := S8x64x128) ![0, 0, 0] S8x64x128.size inb_S8x64x128_S8x64x128_0_0_0) (shapeCast S8x64x128 (broadcast S8x64x128 (Scalar.ofBits .f32 0xFF800000#32) : FVec F S8x64x128 .f32) shapeCasts_S8x64x128_S8x64x128) Finset.univ (View.stores_vmem_bits_univ h_S8x64x128 rfl) (.inl rfl))
  let _ : Vec F S8x64x128 .i32 ← Prog.lift (.load arg16 (Rect.unit (s := S8x64x128) ![0, 0, 0] S8x64x128.size inb_S8x64x128_S8x64x128_0_0_0).toLoadRect (View.loadsAt_vmem h_S8x64x128))
  Prog.lift (.store arg16 (Rect.unit (s := S8x64x128) ![0, 0, 0] S8x64x128.size inb_S8x64x128_S8x64x128_0_0_0) (shapeCast S8x64x128 (broadcast S8x64x128 0#32 : IVec S8x64x128 32) shapeCasts_S8x64x128_S8x64x128) Finset.univ (View.stores_vmem_bits_univ h_S8x64x128 rfl) (.inl rfl))
  let _ : Vec F S64x512 .f32 ← Prog.lift (.load arg17 (Rect.unit (s := S64x512) ![0, 0] S64x512.size inb_S64x512_S64x512_0_0).toLoadRect (View.loadsAt_vmem h_S64x512))
  Prog.lift (.store arg17 (Rect.unit (s := S64x512) ![0, 0] S64x512.size inb_S64x512_S64x512_0_0) (shapeCast S64x512 (broadcast S64x512 (Scalar.ofBits .f32 0xFF800000#32) : FVec F S64x512 .f32) shapeCasts_S64x512_S64x512) Finset.univ (View.stores_vmem_bits_univ h_S64x512 rfl) (.inl rfl))

/-- The tokens quantised: the scale, the codes and the scale's row stored. -/
def quant : Prog (TpuEff nD τ sig (Elt F) Λ₀ .tc) PUnit := do
  let x : Vec F S64x4608 .bf16 ← Prog.lift (.load arg8 (Rect.unit (s := S64x4608) ![0, 0] S64x4608.size inb_S64x4608_S64x4608_0_0).toLoadRect (View.loadsAt_vmem h_S64x4608))
  let _ : Vec F S64x128 .f32 ← Prog.lift (.load arg10 (Rect.unit (s := S64x128) ![0, 0] S64x128.size inb_S64x128_S64x128_0_0).toLoadRect (View.loadsAt_vmem h_S64x128))
  Prog.lift (.store arg10 (Rect.unit (s := S64x128) ![0, 0] S64x128.size inb_S64x128_S64x128_0_0) (shapeCast S64x128 (scaleTile (extf .f32 x bitsLt_bf16_f32)) shapeCasts_S64x128_S64x128) Finset.univ (View.stores_vmem_bits_univ h_S64x128 rfl) (.inl rfl))
  let _ : Vec F S64x4608 .fp8e4m3 ← Prog.lift (.load arg9 (Rect.unit (s := S64x4608) ![0, 0] S64x4608.size inb_S64x4608_S64x4608_0_0).toLoadRect (View.loadsAt_vmem h_S64x4608))
  Prog.lift (.store arg9 (Rect.unit (s := S64x4608) ![0, 0] S64x4608.size inb_S64x4608_S64x4608_0_0) (shapeCast S64x4608 (codes (extf .f32 x bitsLt_bf16_f32)) shapeCasts_S64x4608_S64x4608) Finset.univ (View.stores_vmem h_S64x4608 (harg9.storeExact_slice rfl _ packedfp8e4m3_S64x4608_S64x4608_0_0) (fun _ => rfl)) (.inl rfl))
  let s : Vec F S64x128 .f32 ← Prog.lift (.load arg10 (Rect.unit (s := S64x128) ![0, 0] S64x128.size inb_S64x128_S64x128_0_0).toLoadRect (View.loadsAt_vmem h_S64x128))
  let _ : Vec F S1x64 .f32 ← Prog.lift (.load arg7 (Rect.unit (s := S1x64) ![0, 0] S1x64.size inb_S1x64_S1x64_0_0).toLoadRect (View.loadsAt_vmem h_S1x64))
  Prog.lift (.store arg7 (Rect.unit (s := S1x64) ![0, 0] S1x64.size inb_S1x64_S1x64_0_0) (scaleRow s) Finset.univ (View.stores_vmem_bits_univ h_S1x64 rfl) (.inl rfl))

def waitX : Prog (TpuEff nD τ sig (Elt F) Λ₀ .tc) PUnit :=
  let q180' : DmaSems sig S1 := arg18.slice (Rect.unit (s := S3) ![0] S1.size inb_S3_S1_0)
  let q180 : DmaSems sig S_ := q180'.squeeze S_ squeezes_S1_S_
  Prog.lift (.waitDma2 q180.sem arg0 arg8 harg0.wordExact harg8.wordExact)
def waitWs : Prog (TpuEff nD τ sig (Elt F) Λ₀ .tc) PUnit :=
  let q181' : DmaSems sig S1 := arg18.slice (Rect.unit (s := S3) ![1] S1.size inb_S3_S1_1)
  let q181 : DmaSems sig S_ := q181'.squeeze S_ squeezes_S1_S_
  Prog.lift (.waitDma2 q181.sem arg2 arg11 harg2.wordExact harg11.wordExact)
def waitB : Prog (TpuEff nD τ sig (Elt F) Λ₀ .tc) PUnit :=
  let q182' : DmaSems sig S1 := arg18.slice (Rect.unit (s := S3) ![2] S1.size inb_S3_S1_2)
  let q182 : DmaSems sig S_ := q182'.squeeze S_ squeezes_S1_S_
  Prog.lift (.waitDma2 q182.sem arg3 arg12 harg3.wordExact harg12.wordExact)
def startCodes : Prog (TpuEff nD τ sig (Elt F) Λ₀ .tc) PUnit :=
  let q210' : DmaSems sig S1 := arg21.slice (Rect.unit (s := S1) ![0] S1.size inb_S1_S1_0)
  let q210 : DmaSems sig S_ := q210'.squeeze S_ squeezes_S1_S_
  Prog.lift (.enqueueDma arg9 (.here arg6) (.dma q210.sem) harg9.wordExact harg6.wordExact ⟨Or.inl rfl, trivial⟩)
def waitCodes : Prog (TpuEff nD τ sig (Elt F) Λ₀ .tc) PUnit :=
  let q210' : DmaSems sig S1 := arg21.slice (Rect.unit (s := S1) ![0] S1.size inb_S1_S1_0)
  let q210 : DmaSems sig S_ := q210'.squeeze S_ squeezes_S1_S_
  Prog.lift (.waitDma2 q210.sem arg9 arg6 harg9.wordExact harg6.wordExact)

/-- The lanes' numbers. -/
def lanes : IVec S8x128 32 := iota .tc S8x128 32 [1] iota_S8x128_d1_w32

def body (arg0 : Memref sig .tc .hbm S64x4608 .bf16) (harg0 : arg0.IsWhole) (arg1 : Memref sig .tc .hbm S4608x32000 .fp8e4m3) (harg1 : arg1.IsWhole) (arg2 : Memref sig .tc .hbm S250x128 .f32) (harg2 : arg2.IsWhole) (arg3 : Memref sig .tc .hbm S250x128 .f32) (harg3 : arg3.IsWhole) (arg4 : Memref sig .tc .vmem S8x64 .f32) (harg4 : arg4.IsWhole) (arg5 : Memref sig .tc .vmem S8x64 .i32) (harg5 : arg5.IsWhole) (arg6 : Memref sig .tc .hbm S64x4608 .fp8e4m3) (harg6 : arg6.IsWhole) (arg7 : Memref sig .tc .vmem S1x64 .f32) (harg7 : arg7.IsWhole) (arg8 : Memref sig .tc .vmem S64x4608 .bf16) (harg8 : arg8.IsWhole) (arg9 : Memref sig .tc .vmem S64x4608 .fp8e4m3) (harg9 : arg9.IsWhole) (arg10 : Memref sig .tc .vmem S64x128 .f32) (harg10 : arg10.IsWhole) (arg11 : Memref sig .tc .vmem S250x128 .f32) (harg11 : arg11.IsWhole) (arg12 : Memref sig .tc .vmem S250x128 .f32) (harg12 : arg12.IsWhole) (arg13 : Memref sig .tc .vmem S12x4608x512 .fp8e4m3) (harg13 : arg13.IsWhole) (arg14 : Memref sig .tc .vmem S2x4608x128 .fp8e4m3) (harg14 : arg14.IsWhole) (arg15 : Memref sig .tc .vmem S8x64x128 .f32) (harg15 : arg15.IsWhole) (arg16 : Memref sig .tc .vmem S8x64x128 .i32) (harg16 : arg16.IsWhole) (arg17 : Memref sig .tc .vmem S64x512 .f32) (harg17 : arg17.IsWhole) (arg18 : DmaSems sig S3) (arg19 : DmaSems sig S12) (arg20 : DmaSems sig S2) (arg21 : DmaSems sig S1) : Prog (TpuEff nD τ sig (Elt F) Λ₀ .tc) PUnit := do
  starts arg0 harg0 arg1 harg1 arg2 harg2 arg3 harg3 arg8 harg8 arg11 harg11 arg12 harg12 arg13 harg13 arg18 arg19
  fills arg15 arg16 arg17
  waitX arg0 harg0 arg8 harg8 arg18
  quant arg7 arg8 arg9 harg9 arg10
  waitWs arg2 harg2 arg11 harg11 arg18
  waitB arg3 harg3 arg12 harg12 arg18
  Scf.Loop.for k0_t1_loop k0_t1_ok ⟨⟩ fun k0_t1 _ =>
    trip arg1 harg1 arg13 harg13 arg14 harg14 arg19 arg20 arg9 arg10 arg11 arg12 arg15 arg16 arg17 lanes k0_t1
  startCodes arg6 harg6 arg9 harg9 arg21
  ins4 arg15 arg16 arg17 lanes (Scalar.addi 31360#32 0#32) (Scalar.addi 31360#32 128#32) (Scalar.addi 31360#32 256#32) (Scalar.addi 31360#32 384#32)
  waitTail0 arg1 harg1 arg14 harg14 arg20
  tailRest arg9 arg10 arg11 arg12 arg14 arg15 arg16 arg17 lanes 0 (by decide) ![124, 0] inb_S250x128_S1x128_124_0 15872#32
  waitTail1 arg1 harg1 arg14 harg14 arg20
  tailRest arg9 arg10 arg11 arg12 arg14 arg15 arg16 arg17 lanes 1 (by decide) ![249, 0] inb_S250x128_S1x128_249_0 31872#32
  extract arg4 arg5 arg15 arg16
  waitCodes arg6 harg6 arg9 harg9 arg21
  pure ⟨⟩
end

end Cert.KS

end
-- ==== Proof.SameBits.lean ====
module

public import proofs.«01_k».proof.Proof.Struct
public import Idealize.ShloMosaic.Lib.Tactic.ProgEq
public import Idealize.ShloMosaic.PureOps.BitExact

/-! The printed kernel is the body of `Struct.lean`, over the formats' bits. -/

@[expose] public section

set_option maxHeartbeats 0
set_option maxRecDepth 100000

open Idealize.ShloMosaic Idealize.SL.Sem
open scoped Idealize.ShloMosaic.ProgEq

prog_eq Cert.KS.sameBits : Cert.Kernel.cc0_fp8_head_top8 Cert.KS.body from Cert.Kernel to Cert.Kernel at Bits inferInstance by intros; rfl
-- ==== Proof.SameIdeal.lean ====
module

public import proofs.«01_k».proof.Proof.Struct
public import Idealize.ShloMosaic.Lib.Tactic.ProgEq
public import Idealize.ShloMosaic.PureOps.Ideal

/-! The printed kernel is the body of `Struct.lean`, over the extended reals. -/

@[expose] public section

set_option maxHeartbeats 0
set_option maxRecDepth 100000

open Idealize.ShloMosaic Idealize.SL.Sem
open scoped Idealize.ShloMosaic.ProgEq

prog_eq Cert.KS.sameIdeal : Cert.Kernel.cc0_fp8_head_top8 Cert.KS.body from Cert.Kernel to Cert.Kernel at Ideal inferInstance by intros; rfl
-- ==== Proof.Carry.lean ====
module

public import proofs.«01_k».proof.Kernel
public import proofs.«01_k».proof.KernelIdeal
public import Idealize.ShloMosaic.Lib.Tactic.ProgEq
public import Idealize.ShloMosaic.PureOps.Ideal

/-! The idealized kernel is the printed one over the extended reals: the bodies, then the body tables. -/

@[expose] public section

set_option maxHeartbeats 0
set_option maxRecDepth 100000

open Idealize.ShloMosaic Idealize.SL.Sem
open scoped Idealize.ShloMosaic.ProgEq

prog_eq Cert.KS.carry : Cert.KernelIdeal.cc0_fp8_head_top8 Cert.Kernel.cc0_fp8_head_top8 from Cert.KernelIdeal to Cert.Kernel at Ideal inferInstance by intros; rfl

lift_eq Cert.KS.carryTable : Cert.KernelIdeal.defs₀ Cert.Kernel.defs₀ via Cert.KS.carry of Cert.KernelIdeal.cc0_fp8_head_top8 Cert.Kernel.cc0_fp8_head_top8 from Cert.KernelIdeal to Cert.Kernel at Ideal inferInstance

lift_eq Cert.KS.carryDefs : Cert.KernelIdeal.defs Cert.Kernel.defs via Cert.KS.carryTable of Cert.KernelIdeal.defs₀ Cert.Kernel.defs₀ from Cert.KernelIdeal to Cert.Kernel at Ideal inferInstance
-- ==== Proof.Wp.lean ====
module

public import proofs.«01_k».proof.Proof.Struct
public import Idealize.ShloMosaic.Lib.Memref
public import Idealize.ShloMosaic.Lib.Transfers
public import Idealize.ShloMosaic.Lib.Pipeline.FrameBody
public import Idealize.ShloMosaic.Lib.Tactic

/-! Triples of program pieces: a piece that ends with one value and one state, composed without the logic's connectives. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.Kernel.Facts]

local notation "𝕄" => MT nD τ sig Unit (Elt F) ℕ (Pipeline.UD sig nD τ) ℕ

variable (defs : Defs nD τ sig (Elt F) Λ₀) (c : Dev nD)

/-- The weakest precondition on device `c`'s TensorCore. -/
abbrev W {α : Type} (p : Prog (TpuEff nD τ sig (Elt F) Λ₀ .tc) α) (K : α → sProp 𝕄) : sProp 𝕄 :=
  wp frame (wpE defs Variants.none (c : Thread nD τ) none) Set.univ p K

/-- From `P`, the piece `p` ends with the value `a` and in `Q`. -/
def Does {α : Type} (P : sProp 𝕄) (p : Prog (TpuEff nD τ sig (Elt F) Λ₀ .tc) α) (a : α) (Q : sProp 𝕄) : Prop :=
  ∀ K : α → sProp 𝕄, iprop(P ∗ (Q -∗ K a)) ⊢ W defs c p K

variable {defs c}

theorem Does.bind {α β : Type} {P Q R : sProp 𝕄} {p : Prog (TpuEff nD τ sig (Elt F) Λ₀ .tc) α} {k : α → Prog (TpuEff nD τ sig (Elt F) Λ₀ .tc) β}
    {a : α} {b : β} (h : Does defs c P p a Q) (hk : Does defs c Q (k a) b R) : Does defs c P (p.bind k) b R := by
  intro K
  have e : W defs c (p.bind k) K = W defs c p (fun a => W defs c (k a) K) := wp_bind _ _ _ p k K
  rw [e]
  iintro ⟨HP, HK⟩
  iapply (h (fun a => W defs c (k a) K))
  isplitl [HP]; · iexact HP
  iintro HQ
  iapply (hk K)
  isplitl [HQ] <;> iassumption

theorem W_ret {α : Type} (a : α) (K : α → sProp 𝕄) : K a ⊢ W defs c (.ret a) K := by
  have e : W defs c (.ret a) K = iprop(|={Set.univ}=> K a) := wp_ret _ _ _ a K
  rw [e]
  iintro HK
  imodintro
  iexact HK

theorem Does.ret {α : Type} {P : sProp 𝕄} (a : α) : Does defs c P (.ret a) a P := by
  intro K
  have e : W defs c (.ret a) K = iprop(|={Set.univ}=> K a) := wp_ret _ _ _ a K
  rw [e]
  iintro ⟨HP, HK⟩
  imodintro
  iapply HK; iexact HP

theorem Does.conseq {α : Type} {P P' Q Q' : sProp 𝕄} {p : Prog (TpuEff nD τ sig (Elt F) Λ₀ .tc) α} {a : α}
    (h : Does defs c P p a Q) (hP : P' ⊢ P) (hQ : Q ⊢ Q') : Does defs c P' p a Q' := by
  intro K
  iintro ⟨HP, HK⟩
  iapply (h K)
  isplitl [HP]; · iapply hP; iexact HP
  iintro HQ
  iapply HK; iapply hQ; iexact HQ

theorem Does.frameR {α : Type} {P Q : sProp 𝕄} (R : sProp 𝕄) {p : Prog (TpuEff nD τ sig (Elt F) Λ₀ .tc) α} {a : α}
    (h : Does defs c P p a Q) : Does defs c iprop(P ∗ R) p a iprop(Q ∗ R) := by
  intro K
  iintro ⟨⟨HP, HR⟩, HK⟩
  iapply (h K)
  isplitl [HP]; · iexact HP
  iintro HQ
  iapply HK; isplitl [HQ] <;> iassumption

theorem Does.frameL {α : Type} {P Q : sProp 𝕄} (R : sProp 𝕄) {p : Prog (TpuEff nD τ sig (Elt F) Λ₀ .tc) α} {a : α}
    (h : Does defs c P p a Q) : Does defs c iprop(R ∗ P) p a iprop(R ∗ Q) := by
  intro K
  iintro ⟨⟨HR, HP⟩, HK⟩
  iapply (h K)
  isplitl [HP]; · iexact HP
  iintro HQ
  iapply HK; isplitl [HR] <;> iassumption

/-- Under a pure fact. -/
theorem Does.ite_true {α : Type} {P Q : sProp 𝕄} {φ : Prop} [Decidable φ] {p : φ → Prog (TpuEff nD τ sig (Elt F) Λ₀ .tc) α} {q : ¬ φ → Prog (TpuEff nD τ sig (Elt F) Λ₀ .tc) α} {a : α}
    (hφ : φ) (h : Does defs c P (p hφ) a Q) : Does defs c P (if h : φ then p h else q h) a Q := by rw [dif_pos hφ]; exact h

theorem Does.ite_false {α : Type} {P Q : sProp 𝕄} {φ : Prop} [Decidable φ] {p : φ → Prog (TpuEff nD τ sig (Elt F) Λ₀ .tc) α} {q : ¬ φ → Prog (TpuEff nD τ sig (Elt F) Λ₀ .tc) α} {a : α}
    (hφ : ¬ φ) (h : Does defs c P (q hφ) a Q) : Does defs c P (if h : φ then p h else q h) a Q := by rw [dif_neg hφ]; exact h

/-- The memref `m` owned at share `q` and contents `X` on this core. -/
abbrev own (c : Dev nD) {sp : Space} {s : Shape} {e : EltTy} (m : Memref sig .tc sp s e) (q : PosShare TreeShare) (X : s.Idx → Elt F e) : sProp 𝕄 :=
  owns (c : Thread nD τ) m q X

theorem read_load {cs : CoreSpace} {s : Shape} {e : EltTy} (m : Memref sig .tc cs s e) (r : Rect s) (f : m.view.ty.Contents (Elt F)) :
    m.view.readAt (Elt F) r.toLoadRect f = fun i => m.view.read (Elt F) f (r.emb i) := by
  funext i; rfl

theorem read_store {cs : CoreSpace} {s : Shape} {e : EltTy} (m : Memref sig .tc cs s e) (r : Rect s) (f : m.view.ty.Contents (Elt F))
    (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change _ = r.overlay _ w (r.emb i)
    rw [Rect.overlay_emb]
    exact View.read_slice_write_emb (h := Finset.mem_univ i) ..
  · rw [Rect.overlay_of_not_mem _ _ _ hj]
    exact View.read_slice_write_of_not_mem (h := by rw [Rect.map_emb_univ]; exact hj) ..

theorem does_load {cs : CoreSpace} {s : Shape} {e : EltTy} (m : Memref sig .tc cs s e) (r : Rect s) (hl : m.view.LoadsAt r.toLoadRect)
    (q : PosShare TreeShare) (X : s.Idx → Elt F e) :
    Does defs c (own c m q X) (Prog.lift (.load m r.toLoadRect hl)) (fun i => X (r.emb i)) (own c m q X) := by
  intro K
  iintro ⟨H, HK⟩
  ihave H' := (show own c m q X ⊢ iprop(∃ g, ⌜m.view.read (Elt F) g = X⌝ ∗ m.view.loc (c : Thread nD τ) ↦[m.view.set]{q} g) from .rfl) $$ H
  icases H' with ⟨%g, %hg, H⟩
  subst hg
  iapply (wp_load (c := (c : Thread nD τ)) (defs := defs) Variants.none none Set.univ (S := m.view.set) (View.setOn_subset_set _ _)) $$ H
  iintro H
  rw [read_load]
  iapply (W_ret (defs := defs) (c := c) _ K)
  iapply HK
  iapply (owns_intro (c : Thread nD τ) m q)
  iexact H

theorem does_store {cs : CoreSpace} {s : Shape} {e : EltTy} (m : Memref sig .tc cs s e) (r : Rect s) (w : r.shape.Idx → Elt F e)
    (hx : (m.access r).Stores Finset.univ) (hm) (X : s.Idx → Elt F e) :
    Does defs c (own c m fullShare X) (Prog.lift (.store m r w Finset.univ hx hm)) ⟨⟩ (own c m fullShare (r.overlay X w)) := by
  intro K
  iintro ⟨H, HK⟩
  ihave H' := (show own c m fullShare X ⊢ iprop(∃ g, ⌜m.view.read (Elt F) g = X⌝ ∗ m.view.loc (c : Thread nD τ) ↦[m.view.set]{fullShare} g) from .rfl) $$ H
  icases H' with ⟨%g, %hg, H⟩
  subst hg
  iapply (wp_store (c := (c : Thread nD τ)) (defs := defs) Variants.none none Set.univ (m := m) (r := r) (S := m.view.set) (f := g) (hx := hx) (hm := hm)
    (by rw [View.setOn_univ]; exact m.view.set_slice_subset r)) $$ H
  iintro H
  iapply (W_ret (defs := defs) (c := c) _ K)
  iapply HK
  rw [← read_store]
  iapply (owns_intro (c : Thread nD τ) m fullShare)
  iexact H

end Cert.KS

end
-- ==== Proof.Dma.lean ====
module

public import proofs.«01_k».proof.Proof.Wp
public import Idealize.ShloMosaic.Lib.SparseCore.Scatter

/-! Triples of the transfers: a start lends a destination and a share of the source to a flight, a wait brings them back. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.Kernel.Facts]

local notation "𝕄" => MT nD τ sig Unit (Elt F) ℕ (Pipeline.UD sig nD τ) ℕ

variable {defs : Defs nD τ sig (Elt F) Λ₀} {c : Dev nD}

/-- A transfer in flight on the cell `sem`: `D` when it is awaited. -/
abbrev Fl (c : Dev nD) (sem : DmaSem sig) (N : ℕ) (D : sProp 𝕄) : sProp 𝕄 :=
  Transfers.Flight (countersEmb (U := Pipeline.UD sig nD τ)) (c : Thread nD τ) (.dma sem) () N D

/-- The cell `sem` at zero. -/
abbrev cell0 (c : Dev nD) (sem : DmaSem sig) : sProp 𝕄 := semVal ((c : Thread nD τ), SemLoc.dma sem) 0

/-- What the core has awaited so far; it owes nothing. -/
def ow (c : Dev nD) : sProp 𝕄 := iprop(∃ W, owes (c : Thread nD τ) 0 W)

theorem does_start {sp sp' : Space} {s : Shape} {e : EltTy} (src : Memref sig .tc sp s e) (dst : Memref sig .tc sp' s e) (sem : DmaSem sig)
    (h1) (h2) (h3) (q : PosShare TreeShare) (X Y : s.Idx → Elt F e) (hN : 0 < dst.view.dmaCredit) :
    Does defs c iprop(own c src q X ∗ own c dst fullShare Y ∗ cell0 c sem) (Prog.lift (.enqueueDma src (.here dst) (.dma sem) h1 h2 h3)) ⟨⟩
      (Fl c sem dst.view.dmaCredit iprop(own c dst fullShare X ∗ own c src q X)) := by
  intro K
  iintro ⟨⟨Hs, Hd, Hv⟩, HK⟩
  ihave Hs' := (show own c src q X ⊢ iprop(∃ g, ⌜src.view.read (Elt F) g = X⌝ ∗ src.view.loc (c : Thread nD τ) ↦[src.view.set]{q} g) from .rfl) $$ Hs
  icases Hs' with ⟨%g, %hg, Hs⟩
  subst hg
  ihave Hd' := (show own c dst fullShare Y ⊢ iprop(∃ g, ⌜dst.view.read (Elt F) g = Y⌝ ∗ dst.view.loc (c : Thread nD τ) ↦[dst.view.set]{fullShare} g) from .rfl) $$ Hd
  icases Hd' with ⟨%f, %hf, Hd⟩
  iapply (Transfers.wp_dmaLocal (countersEmb (U := Pipeline.UD sig nD τ)) (defs := defs) Variants.none (c : Thread nD τ) none (src := src) (dst := dst) (sm := .dma sem)
    (via := ReadAs.same) (fs := g) (fd := f) (q := q) () dst.view.dmaCredit rfl hN (Finset.Subset.refl dst.view.set)) $$ [Hs Hd Hv]
  · isplitl [Hs]; · iexact Hs
    isplitl [Hd] <;> iassumption
  iintro HF
  iapply (W_ret (defs := defs) (c := c) _ K)
  iapply HK
  iapply (Transfers.Flight_mono (countersEmb (U := Pipeline.UD sig nD τ)) (c : Thread nD τ) (D := iprop((dst.view.loc (c : Thread nD τ) ↦[dst.view.set]{fullShare} (dst.view.write (Elt F) f (src.view.read (Elt F) g) Finset.univ)) ∗ (src.view.loc (c : Thread nD τ) ↦[src.view.set]{q} g))) ?_) $$ HF
  iintro ⟨H1, H2⟩
  isplitl [H1]
  · ihave H := (owns_intro (c : Thread nD τ) dst fullShare) $$ H1
    rw [View.read_write_univ]
    iexact H
  · iapply (owns_intro (c : Thread nD τ) src q); iexact H2

theorem does_wait {sp sp' : Space} {s s' : Shape} {e e' : EltTy} (srcw : Memref sig .tc sp' s' e') (dstw : Memref sig .tc sp s e) (sem : DmaSem sig) (h1) (h2)
    (N : ℕ) (hN : dstw.view.dmaCredit = N) (D : sProp 𝕄) :
    Does defs c iprop(Fl c sem N D ∗ ow c) (Prog.lift (.waitDma2 sem srcw dstw h1 h2)) ⟨⟩ iprop((D ∗ cell0 c sem) ∗ ow c) := by
  intro K
  unfold ow
  iintro ⟨⟨HF, ⟨%W, HW⟩⟩, HK⟩
  iapply (Transfers.wp_waitLocal (countersEmb (U := Pipeline.UD sig nD τ)) (defs := defs) Variants.none (c : Thread nD τ) none (dstw := dstw) (srcw := srcw) () hN) $$ [HF HW]
  · isplitl [HF] <;> iassumption
  iintro ⟨HD, HS, HW⟩
  iapply (W_ret (defs := defs) (c := c) _ K)
  iapply HK
  isplitl [HD HS]
  · isplitl [HD] <;> iassumption
  iexists _; iexact HW

theorem overlay_self {s : Shape} {α : Type} (r : Rect s) (X : s.Idx → α) : r.overlay X (fun i => X (r.emb i)) = X := by
  funext j
  by_cases hj : j ∈ r.set
  · obtain ⟨i, rfl⟩ := r.exists_idx_of_mem hj
    change r.overlay _ _ (r.emb i) = _
    rw [Rect.overlay_emb]; rfl
  · rw [Rect.overlay_of_not_mem _ _ _ hj]

/-- A memref's squeezed form holds the same elements. -/
theorem own_squeeze {sp : Space} {s s' : Shape} {e : EltTy} (m : Memref sig .tc sp s e) (h : s.Squeezes s') (q : PosShare TreeShare) (X : s.Idx → Elt F e) :
    own c m q X ⊢ own c (m.squeeze s' h) q (fun i => X (Shape.reshapeEquiv h.numel_eq i)) := by
  iintro H
  ihave H' := (show own c m q X ⊢ iprop(∃ g, ⌜m.view.read (Elt F) g = X⌝ ∗ m.view.loc (c : Thread nD τ) ↦[m.view.set]{q} g) from .rfl) $$ H
  icases H' with ⟨%g, %hg, H⟩
  subst hg
  have hs : (m.squeeze s' h).view.set = m.view.set := View.set_reshape _ _
  have hx : (m.view.loc (c : Thread nD τ) ↦[m.view.set]{q} g : sProp 𝕄) ⊢ own c (m.squeeze s' h) q (fun i => m.view.read (Elt F) g (Shape.reshapeEquiv h.numel_eq i)) := by
    rw [← hs]
    exact owns_intro (Ix := Unit) (Name := ℕ) (U := Pipeline.UD sig nD τ) (Lvl := ℕ) (c : Thread nD τ) (m.squeeze s' h) q g
  iapply hx
  iexact H

theorem own_unsqueeze {sp : Space} {s s' : Shape} {e : EltTy} (m : Memref sig .tc sp s e) (h : s.Squeezes s') (q : PosShare TreeShare) (X : s'.Idx → Elt F e) :
    own c (m.squeeze s' h) q X ⊢ own c m q (fun i => X ((Shape.reshapeEquiv h.numel_eq).symm i)) := by
  iintro H
  ihave H' := (show own c (m.squeeze s' h) q X ⊢ iprop(∃ g, ⌜(m.squeeze s' h).view.read (Elt F) g = X⌝ ∗ (m.squeeze s' h).view.loc (c : Thread nD τ) ↦[(m.squeeze s' h).view.set]{q} g) from .rfl) $$ H
  icases H' with ⟨%g, %hg, H⟩
  subst hg
  have hs : (m.squeeze s' h).view.set = m.view.set := View.set_reshape _ _
  have he : (fun i => (m.squeeze s' h).view.read (Elt F) g ((Shape.reshapeEquiv h.numel_eq).symm i)) = m.view.read (Elt F) g := by
    funext i
    change m.view.read (Elt F) g (Shape.reshapeEquiv h.numel_eq ((Shape.reshapeEquiv h.numel_eq).symm i)) = _
    rw [Equiv.apply_symm_apply]
  have hx : ((m.squeeze s' h).view.loc (c : Thread nD τ) ↦[(m.squeeze s' h).view.set]{q} g : sProp 𝕄) ⊢ own c m q (fun i => (m.squeeze s' h).view.read (Elt F) g ((Shape.reshapeEquiv h.numel_eq).symm i)) := by
    rw [hs, he]
    exact owns_intro (Ix := Unit) (Name := ℕ) (U := Pipeline.UD sig nD τ) (Lvl := ℕ) (c : Thread nD τ) m q g
  iapply hx
  iexact H

/-- A start out of a part of a buffer into a squeezed memref. -/
theorem does_startPart {sp sp' : Space} {s s1 : Shape} {e : EltTy} (m : Memref sig .tc sp s e) (r : Rect s) (hr : ∀ a, r.stride a = 1)
    (dst : Memref sig .tc sp' s1 e) (hq : s1.Squeezes r.shape) (sem : DmaSem sig)
    (h1) (h2) (h3) (q : PosShare TreeShare) (X : s.Idx → Elt F e) (Y : s1.Idx → Elt F e) (hN : 0 < (dst.squeeze r.shape hq).view.dmaCredit) :
    Does defs c iprop(own c m q X ∗ own c dst fullShare Y ∗ cell0 c sem)
      (Prog.lift (.enqueueDma (m.slice r hr) (.here (dst.squeeze r.shape hq)) (.dma sem) h1 h2 h3)) ⟨⟩
      (Fl c sem (dst.squeeze r.shape hq).view.dmaCredit
        iprop(own c dst fullShare (fun i => X (r.emb ((Shape.reshapeEquiv hq.numel_eq).symm i))) ∗ own c m q X)) := by
  intro K
  iintro ⟨⟨Hs, Hd, Hv⟩, HK⟩
  ihave Hs' := (owns_slice_split (c : Thread nD τ) m q r hr X) $$ Hs
  icases Hs' with ⟨Hs, %f, %hf, Hr⟩
  ihave Hd' := (own_squeeze (c := c) dst hq fullShare Y) $$ Hd
  iapply (does_start (m.slice r hr) (dst.squeeze r.shape hq) sem h1 h2 h3 q _ _ hN K)
  isplitl [Hs Hd' Hv]
  · isplitl [Hs]; · iexact Hs
    isplitl [Hd'] <;> iassumption
  iintro HF
  iapply HK
  iapply (Transfers.Flight_mono (countersEmb (U := Pipeline.UD sig nD τ)) (c : Thread nD τ)
    (D := iprop((m.view.loc (c : Thread nD τ) ↦[m.view.set \ (m.slice r hr).view.set]{q} f) ∗ own c (dst.squeeze r.shape hq) fullShare (fun i => X (r.emb i)) ∗ own c (m.slice r hr) q (fun i => X (r.emb i)))) ?_)
  · iintro ⟨Hr, Hd, Hs⟩
    isplitl [Hd]
    · iapply (own_unsqueeze (c := c) dst hq fullShare (fun i => X (r.emb i))); iexact Hd
    · ihave H := (owns_slice_join (c : Thread nD τ) m q r hr (fun i => X (r.emb i)) f) $$ [Hs Hr]
      · isplitl [Hs] <;> iassumption
      rw [hf, overlay_self]
      iexact H
  · iapply (Transfers.Flight_frame (countersEmb (U := Pipeline.UD sig nD τ)) (c : Thread nD τ))
    isplitl [Hr] <;> iassumption

/-- A load within an owned part. -/
theorem does_loadPart {cs : CoreSpace} {s : Shape} {e : EltTy} (m : Memref sig .tc cs s e) (R : Rect s) (hR : ∀ a, R.stride a = 1) (r : Rect s) (hl : m.view.LoadsAt r.toLoadRect)
    (q : PosShare TreeShare) (X : R.shape.Idx → Elt F e) (φ : r.shape.Idx → R.shape.Idx) (hφ : ∀ i, r.emb i = R.emb (φ i)) :
    Does defs c (own c (m.slice R hR) q X) (Prog.lift (.load m r.toLoadRect hl)) (fun i => X (φ i)) (own c (m.slice R hR) q X) := by
  intro K
  iintro ⟨H, HK⟩
  ihave H' := (show own c (m.slice R hR) q X ⊢ iprop(∃ g, ⌜(m.slice R hR).view.read (Elt F) g = X⌝ ∗ m.view.loc (c : Thread nD τ) ↦[(m.slice R hR).view.set]{q} g) from .rfl) $$ H
  icases H' with ⟨%g, %hg, H⟩
  subst hg
  iapply (wp_load_rect (c := (c : Thread nD τ)) (defs := defs) Variants.none none Set.univ (m := m) (r := r) (S := (m.slice R hR).view.set) (f := g) (by
    intro x hx
    rw [View.set_slice] at hx
    change x ∈ (m.view.slice R).set
    rw [View.set_slice]
    obtain ⟨y, hy, rfl⟩ := Finset.mem_map.1 hx
    refine Finset.mem_map_of_mem _ ?_
    obtain ⟨i, rfl⟩ := r.exists_idx_of_mem hy
    have : r.idx i = R.emb (φ i) := hφ i
    rw [this, ← Rect.map_emb_univ]
    exact Finset.mem_map_of_mem _ (Finset.mem_univ _))) $$ H
  iintro H
  have e : (m.access r).read (Elt F) g = fun i => (m.slice R hR).view.read (Elt F) g (φ i) := by
    funext i
    change m.view.read (Elt F) g (r.emb i) = m.view.read (Elt F) g (R.emb (φ i))
    rw [hφ]
  rw [e]
  iapply (W_ret (defs := defs) (c := c) _ K)
  iapply HK
  iapply (owns_intro (c : Thread nD τ) (m.slice R hR) q)
  iexact H

end Cert.KS

end
-- ==== Proof.Pieces.lean ====
module

public import proofs.«01_k».proof.Proof.Dma

/-! The pieces that touch on-chip buffers alone: what each computes and what it leaves. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F] [Cert.Kernel.Facts]

local notation "𝕄" => MT nD τ sig Unit (Elt F) ℕ (Pipeline.UD sig nD τ) ℕ

variable {defs : Defs nD τ sig (Elt F) Λ₀} {c : Dev nD}

/-- The lists of every row and lane: eight values and their indices. -/
structure Lists (F : FTy → Type) where
  v : S8x64x128.Idx → Elt F .f32
  i : S8x64x128.Idx → Elt F .i32

def rectV (k r : ℕ) (hk : k < 8) (hr : r + 8 ≤ 64) : Rect S8x64x128 := Rect.unit (s := S8x64x128) ![k, r, 0] S1x8x128.size (inbV k r hk hr)

/-- Rank `k` of the rows from `r`. -/
def rdV {α : Type} (X : S8x64x128.Idx → α) (r : ℕ) (hr : r + 8 ≤ 64) (k : ℕ) (hk : k < 8) : S8x128.Idx → α :=
  shapeCast (s := S1x8x128) S8x128 (fun i => X ((rectV k r hk hr).emb i)) shapeCasts_S1x8x128_S8x128

/-- Rank `k` of the rows from `r` replaced. -/
def wrV {α : Type} (r : ℕ) (hr : r + 8 ≤ 64) (k : ℕ) (hk : k < 8) (x : S8x128.Idx → α) (X : S8x64x128.Idx → α) : S8x64x128.Idx → α :=
  (rectV k r hk hr).overlay X (shapeCast S1x8x128 x shapeCasts_S8x128_S1x8x128)

def get8 (s : Lists F) (r : ℕ) (hr : r + 8 ≤ 64) : L8 F :=
  ⟨rdV s.v r hr 0 (by decide), rdV s.v r hr 1 (by decide), rdV s.v r hr 2 (by decide), rdV s.v r hr 3 (by decide), rdV s.v r hr 4 (by decide), rdV s.v r hr 5 (by decide), rdV s.v r hr 6 (by decide), rdV s.v r hr 7 (by decide), rdV s.i r hr 0 (by decide), rdV s.i r hr 1 (by decide), rdV s.i r hr 2 (by decide), rdV s.i r hr 3 (by decide), rdV s.i r hr 4 (by decide), rdV s.i r hr 5 (by decide), rdV s.i r hr 6 (by decide), rdV s.i r hr 7 (by decide)⟩

def set8 {α : Type} (r : ℕ) (hr : r + 8 ≤ 64) (x0 x1 x2 x3 x4 x5 x6 x7 : S8x128.Idx → α) (X : S8x64x128.Idx → α) : S8x64x128.Idx → α :=
  wrV r hr 7 (by decide) x7 (wrV r hr 6 (by decide) x6 (wrV r hr 5 (by decide) x5 (wrV r hr 4 (by decide) x4 (wrV r hr 3 (by decide) x3 (wrV r hr 2 (by decide) x2 (wrV r hr 1 (by decide) x1 (wrV r hr 0 (by decide) x0 X)))))))

def put8 (s : Lists F) (r : ℕ) (hr : r + 8 ≤ 64) (t : L8 F) : Lists F := ⟨set8 r hr t.v0 t.v1 t.v2 t.v3 t.v4 t.v5 t.v6 t.v7 s.v, set8 r hr t.i0 t.i1 t.i2 t.i3 t.i4 t.i5 t.i6 t.i7 s.i⟩

/-- The logits of eight rows and one tile of lanes. -/
def rdL (L : S64x512.Idx → Elt F .f32) (r : ℕ) (hr : r + 8 ≤ 64) (t : ℕ) (ht : t + 128 ≤ 512) : FVec F S8x128 .f32 :=
  fun i => L ((Rect.unit (s := S64x512) ![r, t] S8x128.size (inbL r t ht hr)).emb i)

/-- What a group of rows becomes when a block's four tiles go in. -/
def group4 (lane : IVec S8x128 32) (b0 b1 b2 b3 : BitVec 32) (L : S64x512.Idx → Elt F .f32) (r : ℕ) (hr : r + 8 ≤ 64) (s : Lists F) : Lists F :=
  put8 s r hr (((((get8 s r hr).ins aboveIn (rdL L r hr 0 (by decide)) (laneIdx lane b0)).ins aboveIn (rdL L r hr 128 (by decide)) (laneIdx lane b1)).ins
    aboveIn (rdL L r hr 256 (by decide)) (laneIdx lane b2)).ins aboveIn (rdL L r hr 384 (by decide)) (laneIdx lane b3))

def group1 (lane : IVec S8x128 32) (b0 : BitVec 32) (L : S64x512.Idx → Elt F .f32) (r : ℕ) (hr : r + 8 ≤ 64) (s : Lists F) : Lists F :=
  put8 s r hr ((get8 s r hr).ins aboveTie (rdL L r hr 0 (by decide)) (laneIdx lane b0))

def rows8 {α : Type} (f : (r : ℕ) → r + 8 ≤ 64 → α → α) (s : α) : α :=
  f 56 (by decide) (f 48 (by decide) (f 40 (by decide) (f 32 (by decide) (f 24 (by decide) (f 16 (by decide) (f 8 (by decide) (f 0 (by decide) s)))))))

/-- The lists after a block's four tiles. -/
def insert4 (lane : IVec S8x128 32) (b0 b1 b2 b3 : BitVec 32) (L : S64x512.Idx → Elt F .f32) (s : Lists F) : Lists F := rows8 (group4 lane b0 b1 b2 b3 L) s
def insert1 (lane : IVec S8x128 32) (b0 : BitVec 32) (L : S64x512.Idx → Elt F .f32) (s : Lists F) : Lists F := rows8 (group1 lane b0 L) s

section
variable (arg15 : Memref sig .tc .vmem S8x64x128 .f32) (arg16 : Memref sig .tc .vmem S8x64x128 .i32)
  (arg17 : Memref sig .tc .vmem S64x512 .f32)

/-- The lists and the logits. -/
def VJ (c : Dev nD) (v : S8x64x128.Idx → Elt F .f32) (i : S8x64x128.Idx → Elt F .i32) (L : S64x512.Idx → Elt F .f32) : sProp 𝕄 :=
  iprop(own c arg15 fullShare v ∗ own c arg16 fullShare i ∗ own c arg17 fullShare L)

abbrev VI (c : Dev nD) (s : Lists F) (L : S64x512.Idx → Elt F .f32) : sProp 𝕄 := VJ arg15 arg16 arg17 c s.v s.i L

theorem does_ldV (v : S8x64x128.Idx → Elt F .f32) (i : S8x64x128.Idx → Elt F .i32) (L : S64x512.Idx → Elt F .f32) (r : ℕ) (hr : r + 8 ≤ 64) (k : ℕ) (hk : k < 8) :
    Does defs c (VJ arg15 arg16 arg17 c v i L) (ldV arg15 r hr k hk) (rdV v r hr k hk) (VJ arg15 arg16 arg17 c v i L) :=
  (Does.frameR _ (does_load arg15 _ _ _ v)).bind (Does.ret _)

theorem does_ldI (v : S8x64x128.Idx → Elt F .f32) (i : S8x64x128.Idx → Elt F .i32) (L : S64x512.Idx → Elt F .f32) (r : ℕ) (hr : r + 8 ≤ 64) (k : ℕ) (hk : k < 8) :
    Does defs c (VJ arg15 arg16 arg17 c v i L) (ldI (F := F) arg16 r hr k hk) (rdV i r hr k hk) (VJ arg15 arg16 arg17 c v i L) :=
  (Does.frameL _ (Does.frameR _ (does_load arg16 _ _ _ i))).bind (Does.ret _)

theorem does_ldL (v : S8x64x128.Idx → Elt F .f32) (i : S8x64x128.Idx → Elt F .i32) (L : S64x512.Idx → Elt F .f32) (r : ℕ) (hr : r + 8 ≤ 64) (t : ℕ) (ht : t + 128 ≤ 512) :
    Does defs c (VJ arg15 arg16 arg17 c v i L) (ldL arg17 r hr t ht) (rdL L r hr t ht) (VJ arg15 arg16 arg17 c v i L) :=
  (Does.frameL _ (Does.frameL _ (does_load arg17 _ _ _ L))).bind (Does.ret _)

theorem does_stV (v : S8x64x128.Idx → Elt F .f32) (i : S8x64x128.Idx → Elt F .i32) (L : S64x512.Idx → Elt F .f32) (r : ℕ) (hr : r + 8 ≤ 64) (k : ℕ) (hk : k < 8) (x : FVec F S8x128 .f32) :
    Does defs c (VJ arg15 arg16 arg17 c v i L) (stV arg15 r hr k hk x) ⟨⟩ (VJ arg15 arg16 arg17 c (wrV r hr k hk x v) i L) :=
  (does_ldV arg15 arg16 arg17 v i L r hr k hk).bind (Does.frameR _ (does_store arg15 _ _ _ _ v))

theorem does_stI (v : S8x64x128.Idx → Elt F .f32) (i : S8x64x128.Idx → Elt F .i32) (L : S64x512.Idx → Elt F .f32) (r : ℕ) (hr : r + 8 ≤ 64) (k : ℕ) (hk : k < 8) (x : IVec S8x128 32) :
    Does defs c (VJ arg15 arg16 arg17 c v i L) (stI (F := F) arg16 r hr k hk x) ⟨⟩ (VJ arg15 arg16 arg17 c v (wrV r hr k hk x i) L) :=
  (does_ldI arg15 arg16 arg17 v i L r hr k hk).bind (Does.frameL _ (Does.frameR _ (does_store arg16 _ _ _ _ i)))

theorem does_ld8 (v : S8x64x128.Idx → Elt F .f32) (i : S8x64x128.Idx → Elt F .i32) (L : S64x512.Idx → Elt F .f32) (r : ℕ) (hr : r + 8 ≤ 64) :
    Does defs c (VJ arg15 arg16 arg17 c v i L) (ld8 arg15 arg16 r hr) (get8 ⟨v, i⟩ r hr) (VJ arg15 arg16 arg17 c v i L) :=
  Does.bind (does_ldV arg15 arg16 arg17 v i L r hr 0 (by decide)) <| Does.bind (does_ldV arg15 arg16 arg17 v i L r hr 1 (by decide))
  <| Does.bind (does_ldV arg15 arg16 arg17 v i L r hr 2 (by decide)) <| Does.bind (does_ldV arg15 arg16 arg17 v i L r hr 3 (by decide))
  <| Does.bind (does_ldV arg15 arg16 arg17 v i L r hr 4 (by decide)) <| Does.bind (does_ldV arg15 arg16 arg17 v i L r hr 5 (by decide))
  <| Does.bind (does_ldV arg15 arg16 arg17 v i L r hr 6 (by decide)) <| Does.bind (does_ldV arg15 arg16 arg17 v i L r hr 7 (by decide))
  <| Does.bind (does_ldI arg15 arg16 arg17 v i L r hr 0 (by decide)) <| Does.bind (does_ldI arg15 arg16 arg17 v i L r hr 1 (by decide))
  <| Does.bind (does_ldI arg15 arg16 arg17 v i L r hr 2 (by decide)) <| Does.bind (does_ldI arg15 arg16 arg17 v i L r hr 3 (by decide))
  <| Does.bind (does_ldI arg15 arg16 arg17 v i L r hr 4 (by decide)) <| Does.bind (does_ldI arg15 arg16 arg17 v i L r hr 5 (by decide))
  <| Does.bind (does_ldI arg15 arg16 arg17 v i L r hr 6 (by decide)) <| Does.bind (does_ldI arg15 arg16 arg17 v i L r hr 7 (by decide))
  <| Does.ret _

theorem does_st8 (v : S8x64x128.Idx → Elt F .f32) (i : S8x64x128.Idx → Elt F .i32) (L : S64x512.Idx → Elt F .f32) (r : ℕ) (hr : r + 8 ≤ 64) (t : L8 F) :
    Does defs c (VJ arg15 arg16 arg17 c v i L) (st8 arg15 arg16 r hr t) ⟨⟩ (VI arg15 arg16 arg17 c (put8 ⟨v, i⟩ r hr t) L) := by
  unfold VI put8 set8
  dsimp only
  refine Does.bind (does_stV arg15 arg16 arg17 _ _ L r hr 0 (by decide) t.v0) ?_
  refine Does.bind (does_stI arg15 arg16 arg17 _ _ L r hr 0 (by decide) t.i0) ?_
  refine Does.bind (does_stV arg15 arg16 arg17 _ _ L r hr 1 (by decide) t.v1) ?_
  refine Does.bind (does_stI arg15 arg16 arg17 _ _ L r hr 1 (by decide) t.i1) ?_
  refine Does.bind (does_stV arg15 arg16 arg17 _ _ L r hr 2 (by decide) t.v2) ?_
  refine Does.bind (does_stI arg15 arg16 arg17 _ _ L r hr 2 (by decide) t.i2) ?_
  refine Does.bind (does_stV arg15 arg16 arg17 _ _ L r hr 3 (by decide) t.v3) ?_
  refine Does.bind (does_stI arg15 arg16 arg17 _ _ L r hr 3 (by decide) t.i3) ?_
  refine Does.bind (does_stV arg15 arg16 arg17 _ _ L r hr 4 (by decide) t.v4) ?_
  refine Does.bind (does_stI arg15 arg16 arg17 _ _ L r hr 4 (by decide) t.i4) ?_
  refine Does.bind (does_stV arg15 arg16 arg17 _ _ L r hr 5 (by decide) t.v5) ?_
  refine Does.bind (does_stI arg15 arg16 arg17 _ _ L r hr 5 (by decide) t.i5) ?_
  refine Does.bind (does_stV arg15 arg16 arg17 _ _ L r hr 6 (by decide) t.v6) ?_
  refine Does.bind (does_stI arg15 arg16 arg17 _ _ L r hr 6 (by decide) t.i6) ?_
  refine Does.bind (does_stV arg15 arg16 arg17 _ _ L r hr 7 (by decide) t.v7) ?_
  exact does_stI arg15 arg16 arg17 _ _ L r hr 7 (by decide) t.i7

theorem does_insGroup4 (lane : IVec S8x128 32) (b0 b1 b2 b3 : BitVec 32) (s : Lists F) (L : S64x512.Idx → Elt F .f32) (r : ℕ) (hr : r + 8 ≤ 64) :
    Does defs c (VI arg15 arg16 arg17 c s L) (insGroup4 arg15 arg16 arg17 lane b0 b1 b2 b3 r hr) ⟨⟩
      (VI arg15 arg16 arg17 c (group4 lane b0 b1 b2 b3 L r hr s) L) :=
  Does.bind (does_ld8 arg15 arg16 arg17 s.v s.i L r hr) <|
  Does.bind (does_ldL arg15 arg16 arg17 s.v s.i L r hr 0 (by decide)) <|
  Does.bind (does_ldL arg15 arg16 arg17 s.v s.i L r hr 128 (by decide)) <|
  Does.bind (does_ldL arg15 arg16 arg17 s.v s.i L r hr 256 (by decide)) <|
  Does.bind (does_ldL arg15 arg16 arg17 s.v s.i L r hr 384 (by decide)) <|
  does_st8 arg15 arg16 arg17 s.v s.i L r hr _

theorem does_insGroup1 (lane : IVec S8x128 32) (b0 : BitVec 32) (s : Lists F) (L : S64x512.Idx → Elt F .f32) (r : ℕ) (hr : r + 8 ≤ 64) :
    Does defs c (VI arg15 arg16 arg17 c s L) (insGroup1 arg15 arg16 arg17 lane b0 r hr) ⟨⟩
      (VI arg15 arg16 arg17 c (group1 lane b0 L r hr s) L) :=
  Does.bind (does_ld8 arg15 arg16 arg17 s.v s.i L r hr) <|
  Does.bind (does_ldL arg15 arg16 arg17 s.v s.i L r hr 0 (by decide)) <|
  does_st8 arg15 arg16 arg17 s.v s.i L r hr _

theorem does_rows {α : Type} (P : α → sProp 𝕄) (f : (r : ℕ) → r + 8 ≤ 64 → Prog (TpuEff nD τ sig (Elt F) Λ₀ .tc) PUnit) (g : (r : ℕ) → r + 8 ≤ 64 → α → α)
    (h : ∀ r hr s, Does defs c (P s) (f r hr) ⟨⟩ (P (g r hr s))) (s : α) : Does defs c (P s) (rowsLoop f) ⟨⟩ (P (rows8 g s)) :=
  Does.bind (h _ _ _) <| Does.bind (h _ _ _) <| Does.bind (h _ _ _) <| Does.bind (h _ _ _) <| Does.bind (h _ _ _) <| Does.bind (h _ _ _) <| Does.bind (h _ _ _) <| h _ _ _

theorem does_ins4 (lane : IVec S8x128 32) (b0 b1 b2 b3 : BitVec 32) (s : Lists F) (L : S64x512.Idx → Elt F .f32) :
    Does defs c (VI arg15 arg16 arg17 c s L) (ins4 arg15 arg16 arg17 lane b0 b1 b2 b3) ⟨⟩ (VI arg15 arg16 arg17 c (insert4 lane b0 b1 b2 b3 L s) L) :=
  does_rows (fun s => VI arg15 arg16 arg17 c s L) _ _ (fun r hr s => does_insGroup4 arg15 arg16 arg17 lane b0 b1 b2 b3 s L r hr) s

theorem does_ins1 (lane : IVec S8x128 32) (b0 : BitVec 32) (s : Lists F) (L : S64x512.Idx → Elt F .f32) :
    Does defs c (VI arg15 arg16 arg17 c s L) (ins1 arg15 arg16 arg17 lane b0) ⟨⟩ (VI arg15 arg16 arg17 c (insert1 lane b0 L s) L) :=
  does_rows (fun s => VI arg15 arg16 arg17 c s L) _ _ (fun r hr s => does_insGroup1 arg15 arg16 arg17 lane b0 s L r hr) s

/-- The buffers at their first contents. -/
def noLists : Lists F := ⟨broadcast S8x64x128 (Scalar.ofBits .f32 0xFF800000#32 : F .f32), broadcast S8x64x128 0#32⟩
def noLogits : S64x512.Idx → Elt F .f32 := broadcast S64x512 (Scalar.ofBits .f32 0xFF800000#32 : F .f32)

theorem overlay_all {s : Shape} {α : Type} (off : Fin s.rank → ℕ) (h0 : ∀ a, off a = 0) (inb : ∀ a, off a + s.size a ≤ s.size a) (X w : s.Idx → α) :
    (Rect.unit (s := s) off s.size inb).overlay X w = w := by
  funext j
  have e : (Rect.unit (s := s) off s.size inb).emb j = j := funext fun a => Fin.ext (by
    show off a + 1 * (j a).val = (j a).val
    rw [h0 a]; omega)
  conv_lhs => rw [← e]
  rw [Rect.overlay_emb]

theorem shapeCast_id {s : Shape} {α : Type} (h : s.ShapeCasts s) (x : s.Idx → α) : shapeCast s x h = x := by
  funext j; unfold shapeCast
  congr 1
  apply s.rowMajor.injective
  ext; exact Shape.rowMajor_reshapeEquiv _ _

theorem does_fill {s : Shape} {e : EltTy} (m : Memref sig .tc .vmem s e) (off : Fin s.rank → ℕ) (h0 : ∀ a, off a = 0) (inb : ∀ a, off a + s.size a ≤ s.size a)
    (hl) (w : s.Idx → Elt F e) (hx) (hm) (X : s.Idx → Elt F e) {β : Type} (k : PUnit → Prog (TpuEff nD τ sig (Elt F) Λ₀ .tc) β) (b : β) (P R : sProp 𝕄)
    (hk : Does defs c iprop(own c m fullShare w ∗ P) (k ⟨⟩) b R) :
    Does defs c iprop(own c m fullShare X ∗ P)
      (Prog.bind (Prog.lift (.load m (Rect.unit (s := s) off s.size inb).toLoadRect hl)) fun (_ : s.Idx → Elt F e) =>
        Prog.bind (Prog.lift (.store m (Rect.unit (s := s) off s.size inb) w Finset.univ hx hm)) k) b R := by
  refine Does.bind (Does.frameR _ (does_load m _ _ _ X)) ?_
  refine Does.bind (Does.frameR _ (does_store m _ _ _ _ X)) ?_
  rw [overlay_all off h0 inb]; exact hk
end

end Cert.KS

end
-- ==== Proof.Offs.lean ====
module

public import proofs.«01_k».proof.Proof.Struct

/-! The kernel's computed offsets in closed form. -/

@[expose] public section

set_option maxRecDepth 10000

noncomputable section

namespace Cert.KS

open Cert.Kernel Idealize.ShloMosaic

/-- The first column of block `b`. -/
def colOf (b : ℕ) : ℕ := 512 * b + 128 * (b / 31)

theorem trips_eq : k0_t1_loop.trips = 62 := by decide +kernel

theorem off3_eq : ∀ t : Fin k0_t1_loop.trips, k0_off3 t = ![t.val % 12] := by decide +kernel
theorem off4_eq : ∀ t : Fin k0_t1_loop.trips, k0_off4 t = ![t.val % 12, 0, 0] := by decide +kernel
theorem off5_eq : ∀ t : Fin k0_t1_loop.trips, k0_off5 t = ![0, colOf t.val] := by decide +kernel
theorem off6_eq : ∀ t : Fin k0_t1_loop.trips, k0_off6 t = ![(t.val + 11) % 12] := by decide +kernel
theorem off7_eq : ∀ t : Fin k0_t1_loop.trips, k0_off7 t = ![(t.val + 11) % 12, 0, 0] := by decide +kernel
theorem off8_eq : ∀ t : Fin k0_t1_loop.trips, k0_off8 t = ![0, colOf (t.val + 11)] := by decide +kernel
theorem off9_eq : ∀ t : Fin k0_t1_loop.trips, k0_off9 t = ![t.val % 12, 0, 0] := by decide +kernel
theorem off10_eq : ∀ t : Fin k0_t1_loop.trips, k0_off10 t = ![t.val % 12, 1152, 0] := by decide +kernel
theorem off11_eq : ∀ t : Fin k0_t1_loop.trips, k0_off11 t = ![t.val % 12, 2304, 0] := by decide +kernel
theorem off12_eq : ∀ t : Fin k0_t1_loop.trips, k0_off12 t = ![t.val % 12, 3456, 0] := by decide +kernel
theorem off13_eq0 : ∀ t : Fin k0_t1_loop.trips, k0_off13 t 0#32 = ![colOf t.val / 128, 0] := by decide +kernel
theorem off13_eq1 : ∀ t : Fin k0_t1_loop.trips, k0_off13 t 1#32 = ![colOf t.val / 128 + 1, 0] := by decide +kernel
theorem off13_eq2 : ∀ t : Fin k0_t1_loop.trips, k0_off13 t 2#32 = ![colOf t.val / 128 + 2, 0] := by decide +kernel
theorem off13_eq3 : ∀ t : Fin k0_t1_loop.trips, k0_off13 t 3#32 = ![colOf t.val / 128 + 3, 0] := by decide +kernel
theorem cond1_iff : ∀ t : Fin k0_t1_loop.trips, k0_cond1 t = 1#1 ↔ t.val + 11 < 62 := by decide +kernel
theorem tail0_iff : ∀ t : Fin k0_t1_loop.trips, tailCond (Scf.iv 0#32 1#32 t) 62#32 = 1#1 ↔ t.val = 51 := by decide +kernel
theorem tail1_iff : ∀ t : Fin k0_t1_loop.trips, tailCond (Scf.iv 0#32 1#32 t) 63#32 = 1#1 ↔ t.val = 52 := by decide +kernel
theorem prevStart_eq : ∀ t : Fin k0_t1_loop.trips, prevStart t = BitVec.ofNat 32 (colOf (t.val - 1)) := by decide +kernel
theorem off1_eq : ∀ j : Fin 11, k0_off1 (BitVec.ofNat 32 j.val) = ![j.val] := by decide +kernel
theorem off2_eq : ∀ j : Fin 11, k0_off2 (BitVec.ofNat 32 j.val) = ![j.val, 0, 0] := by decide +kernel

end Cert.KS

end
-- ==== Proof.Pieces2.lean ====
module

public import proofs.«01_k».proof.Proof.Pieces
public import proofs.«01_k».proof.Proof.Offs

/-! The products, the logits, the tails, the quantisation and the extraction: what each piece computes and leaves. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F] [Cert.Kernel.Facts]

local notation "𝕄" => MT nD τ sig Unit (Elt F) ℕ (Pipeline.UD sig nD τ) ℕ

variable {defs : Defs nD τ sig (Elt F) Λ₀} {c : Dev nD}

theorem read_all {s : Shape} {α : Type} (off : Fin s.rank → ℕ) (h0 : ∀ a, off a = 0) (inb : ∀ a, off a + s.size a ≤ s.size a) (X : s.Idx → α) :
    (fun i => X ((Rect.unit (s := s) off s.size inb).emb i)) = X := by
  funext j
  congr 1
  exact funext fun a => Fin.ext (by
    show off a + 1 * (j a).val = (j a).val
    rw [h0 a]; omega)

theorem zero2 : ∀ a, (![0, 0] : Fin 2 → ℕ) a = 0 := by decide
theorem zero3 : ∀ a, (![0, 0, 0] : Fin 3 → ℕ) a = 0 := by decide

theorem does_loadAll {cs : CoreSpace} {s : Shape} {e : EltTy} (m : Memref sig .tc cs s e) (off : Fin s.rank → ℕ) (h0 : ∀ a, off a = 0)
    (inb : ∀ a, off a + s.size a ≤ s.size a) (hl) (q : PosShare TreeShare) (X : s.Idx → Elt F e) :
    Does defs c (own c m q X) (Prog.lift (.load m (Rect.unit (s := s) off s.size inb).toLoadRect hl)) X (own c m q X) := by
  have h := does_load (defs := defs) (c := c) m (Rect.unit (s := s) off s.size inb) hl q X
  rw [read_all off h0 inb X] at h
  exact h

theorem does_storeAll {cs : CoreSpace} {s : Shape} {e : EltTy} (m : Memref sig .tc cs s e) (off : Fin s.rank → ℕ) (h0 : ∀ a, off a = 0)
    (inb : ∀ a, off a + s.size a ≤ s.size a) (w : s.Idx → Elt F e) (hx) (hm) (X : s.Idx → Elt F e) :
    Does defs c (own c m fullShare X) (Prog.lift (.store m (Rect.unit (s := s) off s.size inb) w Finset.univ hx hm)) ⟨⟩ (own c m fullShare w) := by
  have h := does_store (defs := defs) (c := c) m (Rect.unit (s := s) off s.size inb) w hx hm X
  rw [overlay_all off h0 inb] at h
  exact h

/-! ## A block's product -/

theorem inbSlot (j : ℕ) (hj : j < 12) : ∀ a, (![j, 0, 0] : Fin 3 → Nat) a + S1x4608x512.size a ≤ S12x4608x512.size a := by
  intro a; match a with
  | 0 => change j + 1 ≤ 12; omega
  | 1 => change 0 + 4608 ≤ 4608; omega
  | 2 => change 0 + 512 ≤ 512; omega

theorem inbRows (k : ℕ) (hk : k + 1152 ≤ 4608) : ∀ a, (![0, k, 0] : Fin 3 → Nat) a + S1x1152x512.size a ≤ S1x4608x512.size a := by
  intro a; match a with
  | 0 => change 0 + 1 ≤ 1; omega
  | 1 => change k + 1152 ≤ 4608; omega
  | 2 => change 0 + 512 ≤ 512; omega

/-- A slot of the ring, as a part of it. -/
abbrev slotR (j : ℕ) (hj : j < 12) : Rect S12x4608x512 := Rect.unit (s := S12x4608x512) ![j, 0, 0] S1x4608x512.size (inbSlot j hj)

abbrev slotP (arg13 : Memref sig .tc .vmem S12x4608x512 .fp8e4m3) (j : ℕ) (hj : j < 12) : Memref sig .tc .vmem S1x4608x512 .fp8e4m3 :=
  arg13.slice (slotR j hj) (fun _ => rfl)

/-- A product with one more chunk of the contracted axis. -/
def chunkVal (Y : S64x4608.Idx → Elt F .fp8e4m3) (G : S1x4608x512.Idx → Elt F .fp8e4m3) (k : ℕ) (hk : k + 1152 ≤ 4608) (acc : FVec F S64x512 .f32) : FVec F S64x512 .f32 :=
  addf acc (matmul (φ₁ := .fp8e4m3) (φ₂ := .fp8e4m3) dot_S64x1152_S1152x512_S64x512_1_0_0_1_n_n none
    (fun i => Y ((Rect.unit (s := S64x4608) ![0, k] S64x1152.size (inbC k hk)).emb i))
    (shapeCast (s := S1x1152x512) S1152x512 (fun i => G ((Rect.unit (s := S1x4608x512) ![0, k, 0] S1x1152x512.size (inbRows k hk)).emb i)) shapeCasts_S1x1152x512_S1152x512)
    (constant S64x512 .f32 0x00000000#32))

def blockVal (Y : S64x4608.Idx → Elt F .fp8e4m3) (G : S1x4608x512.Idx → Elt F .fp8e4m3) : FVec F S64x512 .f32 :=
  chunkVal Y G 3456 (by decide) (chunkVal Y G 2304 (by decide) (chunkVal Y G 1152 (by decide) (chunkVal Y G 0 (by decide)
    (broadcast S64x512 (Scalar.ofBits .f32 0x00000000#32)))))

section
variable (arg9 : Memref sig .tc .vmem S64x4608 .fp8e4m3) (arg10 : Memref sig .tc .vmem S64x128 .f32)
  (arg11 arg12 : Memref sig .tc .vmem S250x128 .f32)
  (arg13 : Memref sig .tc .vmem S12x4608x512 .fp8e4m3) (arg17 : Memref sig .tc .vmem S64x512 .f32)

theorem does_chunk_at (j : ℕ) (hj : j < 12) (k : ℕ) (hk : k + 1152 ≤ 4608) (ho) (i : S1x1152x512.Idx) :
    (Rect.unit (s := S12x4608x512) ![j, k, 0] S1x1152x512.size ho).emb i = (slotR j hj).emb ((Rect.unit (s := S1x4608x512) ![0, k, 0] S1x1152x512.size (inbRows k hk)).emb i) := by
  refine funext fun a => Fin.ext ?_
  match a with
  | 0 => exact (by omega : ∀ x y : ℕ, x + 1 * y = x + 1 * (0 + 1 * y)) _ _
  | 1 => exact (by omega : ∀ x y : ℕ, x + 1 * y = 0 + 1 * (x + 1 * y)) _ _
  | 2 => exact (by omega : ∀ y : ℕ, 0 + 1 * y = 0 + 1 * (0 + 1 * y)) _

theorem does_chunk (q : PosShare TreeShare) (Y : S64x4608.Idx → Elt F .fp8e4m3) (j : ℕ) (hj : j < 12) (G : S1x4608x512.Idx → Elt F .fp8e4m3)
    (k : ℕ) (hk : k + 1152 ≤ 4608) (off : Fin 3 → ℕ) (ho) (he : off = ![j, k, 0]) (acc : FVec F S64x512 .f32) :
    Does defs c iprop(own c arg9 q Y ∗ own c (slotP arg13 j hj) fullShare G) (chunk arg9 arg13 k hk off ho acc) (chunkVal Y G k hk acc)
      iprop(own c arg9 q Y ∗ own c (slotP arg13 j hj) fullShare G) := by
  subst he
  refine Does.bind (Does.frameR _ (does_load arg9 _ _ q Y)) ?_
  exact Does.bind (Does.frameL _ (does_loadPart arg13 (slotR j hj) (fun _ => rfl) _ _ fullShare G _ (does_chunk_at j _ k hk _))) (Does.ret _)

theorem does_blockDot (q : PosShare TreeShare) (Y : S64x4608.Idx → Elt F .fp8e4m3) (t : Fin k0_t1_loop.trips) (hj : t.val % 12 < 12) (G : S1x4608x512.Idx → Elt F .fp8e4m3) :
    Does defs c iprop(own c arg9 q Y ∗ own c (slotP arg13 (t.val % 12) hj) fullShare G) (blockDot arg9 arg13 t) (blockVal Y G)
      iprop(own c arg9 q Y ∗ own c (slotP arg13 (t.val % 12) hj) fullShare G) := by
  refine Does.bind (does_chunk arg9 arg13 q Y _ hj G 0 (by decide) _ _ (off9_eq t) _) ?_
  refine Does.bind (does_chunk arg9 arg13 q Y _ hj G 1152 (by decide) _ _ (off10_eq t) _) ?_
  refine Does.bind (does_chunk arg9 arg13 q Y _ hj G 2304 (by decide) _ _ (off11_eq t) _) ?_
  exact does_chunk arg9 arg13 q Y _ hj G 3456 (by decide) _ _ (off12_eq t) _

/-! ## Logits -/

theorem inbRow (g : ℕ) (hg : g < 250) : ∀ a, (![g, 0] : Fin 2 → Nat) a + S1x128.size a ≤ S250x128.size a := by
  intro a; match a with
  | 0 => change g + 1 ≤ 250; omega
  | 1 => change 0 + 128 ≤ 128; omega

/-- Row `g` of 128 columns' scales or biases. -/
def rdRow (B : S250x128.Idx → Elt F .f32) (g : ℕ) (hg : g < 250) : S1x128.Idx → Elt F .f32 :=
  fun i => B ((Rect.unit (s := S250x128) ![g, 0] S1x128.size (inbRow g hg)).emb i)

def putTile (A : S64x128.Idx → Elt F .f32) (B C : S250x128.Idx → Elt F .f32) (t : ℕ) (ht : t + 128 ≤ 512) (g : ℕ) (hg : g < 250) (acc : FVec F S64x128 .f32)
    (L : S64x512.Idx → Elt F .f32) : S64x512.Idx → Elt F .f32 :=
  (Rect.unit (s := S64x512) ![0, t] S64x128.size (inbS t ht)).overlay L (scaled acc (rdRow B g hg) (rdRow C g hg) A)

/-- The row's scale, the columns' scales and biases, the logits. -/
def VL (c : Dev nD) (A : S64x128.Idx → Elt F .f32) (B C : S250x128.Idx → Elt F .f32) (L : S64x512.Idx → Elt F .f32) : sProp 𝕄 :=
  iprop(own c arg10 fullShare A ∗ own c arg11 fullShare B ∗ own c arg12 fullShare C ∗ own c arg17 fullShare L)

theorem does_storeTile (A : S64x128.Idx → Elt F .f32) (B C : S250x128.Idx → Elt F .f32) (L : S64x512.Idx → Elt F .f32) (t : ℕ) (ht : t + 128 ≤ 512)
    (off : Fin 2 → ℕ) (ho) (g : ℕ) (hg : g < 250) (he : off = ![g, 0]) (acc : FVec F S64x128 .f32) :
    Does defs c (VL arg10 arg11 arg12 arg17 c A B C L) (storeTile arg10 arg11 arg12 arg17 t ht off ho acc) ⟨⟩
      (VL arg10 arg11 arg12 arg17 c A B C (putTile A B C t ht g hg acc L)) := by
  subst he
  have e : shapeCast S64x128 (scaled acc (rdRow B g hg) (rdRow C g hg) A) shapeCasts_S64x128_S64x128 = scaled acc (rdRow B g hg) (rdRow C g hg) A := shapeCast_id _ _
  unfold VL putTile
  rw [← e]
  refine Does.bind (Does.frameL _ (Does.frameR _ (does_load arg11 _ _ _ B))) ?_
  refine Does.bind (Does.frameL _ (Does.frameL _ (Does.frameR _ (does_load arg12 _ _ _ C)))) ?_
  refine Does.bind (Does.frameR _ (does_loadAll arg10 _ zero2 _ _ _ A)) ?_
  refine Does.bind (Does.frameL _ (Does.frameL _ (Does.frameL _ (does_load arg17 _ _ _ L)))) ?_
  exact Does.frameL _ (Does.frameL _ (Does.frameL _ (does_store arg17 _ _ _ _ L)))

/-- A block's logits: four tiles from row `g` of the scales on. -/
def putBlock (A : S64x128.Idx → Elt F .f32) (B C : S250x128.Idx → Elt F .f32) (g : ℕ) (hg : g + 3 < 250) (acc : FVec F S64x512 .f32)
    (L : S64x512.Idx → Elt F .f32) : S64x512.Idx → Elt F .f32 :=
  putTile A B C 384 (by decide) (g + 3) (by omega) (extractStridedSlice S64x128 ![0, 384] acc slices_S64x512_o0_384_S64x128) <|
  putTile A B C 256 (by decide) (g + 2) (by omega) (extractStridedSlice S64x128 ![0, 256] acc slices_S64x512_o0_256_S64x128) <|
  putTile A B C 128 (by decide) (g + 1) (by omega) (extractStridedSlice S64x128 ![0, 128] acc slices_S64x512_o0_128_S64x128) <|
  putTile A B C 0 (by decide) g (by omega) (extractStridedSlice S64x128 ![0, 0] acc slices_S64x512_o0_0_S64x128) L

theorem does_storeBlock (A : S64x128.Idx → Elt F .f32) (B C : S250x128.Idx → Elt F .f32) (L : S64x512.Idx → Elt F .f32) (t : Fin k0_t1_loop.trips)
    (hg : colOf t.val / 128 + 3 < 250) (acc : FVec F S64x512 .f32) :
    Does defs c (VL arg10 arg11 arg12 arg17 c A B C L) (storeBlock arg10 arg11 arg12 arg17 t acc) ⟨⟩
      (VL arg10 arg11 arg12 arg17 c A B C (putBlock A B C (colOf t.val / 128) hg acc L)) := by
  refine Does.bind (does_storeTile arg10 arg11 arg12 arg17 A B C L 0 (by decide) _ _ _ (by omega) (off13_eq0 t) _) ?_
  refine Does.bind (does_storeTile arg10 arg11 arg12 arg17 A B C _ 128 (by decide) _ _ _ (by omega) (off13_eq1 t) _) ?_
  refine Does.bind (does_storeTile arg10 arg11 arg12 arg17 A B C _ 256 (by decide) _ _ _ (by omega) (off13_eq2 t) _) ?_
  exact does_storeTile arg10 arg11 arg12 arg17 A B C _ 384 (by decide) _ _ _ (by omega) (off13_eq3 t) _
end

/-! ## A tail -/

theorem inbTail (h : ℕ) (hh : h < 2) : ∀ a, (![h, 0, 0] : Fin 3 → Nat) a + S1x4608x128.size a ≤ S2x4608x128.size a := by
  intro a; match a with
  | 0 => change h + 1 ≤ 2; omega
  | 1 => change 0 + 4608 ≤ 4608; omega
  | 2 => change 0 + 128 ≤ 128; omega

theorem inbRows1 (k : ℕ) (hk : k + 128 ≤ 4608) : ∀ a, (![0, k, 0] : Fin 3 → Nat) a + S1x128x128.size a ≤ S1x4608x128.size a := by
  intro a; match a with
  | 0 => change 0 + 1 ≤ 1; omega
  | 1 => change k + 128 ≤ 4608; omega
  | 2 => change 0 + 128 ≤ 128; omega

abbrev tailR (h : ℕ) (hh : h < 2) : Rect S2x4608x128 := Rect.unit (s := S2x4608x128) ![h, 0, 0] S1x4608x128.size (inbTail h hh)

abbrev tailP (arg14 : Memref sig .tc .vmem S2x4608x128 .fp8e4m3) (h : ℕ) (hh : h < 2) : Memref sig .tc .vmem S1x4608x128 .fp8e4m3 :=
  arg14.slice (tailR h hh) (fun _ => rfl)

def tchunkVal (Y : S64x4608.Idx → Elt F .fp8e4m3) (G : S1x4608x128.Idx → Elt F .fp8e4m3) (k : ℕ) (hk : k + 128 ≤ 4608) (acc : FVec F S64x128 .f32) : FVec F S64x128 .f32 :=
  addf acc (matmul (φ₁ := .fp8e4m3) (φ₂ := .fp8e4m3) dot_S64x128_S128x128_S64x128_1_0_0_1_n_n none
    (fun i => Y ((Rect.unit (s := S64x4608) ![0, k] S64x128.size (inbC1 k hk)).emb i))
    (shapeCast (s := S1x128x128) S128x128 (fun i => G ((Rect.unit (s := S1x4608x128) ![0, k, 0] S1x128x128.size (inbRows1 k hk)).emb i)) shapeCasts_S1x128x128_S128x128)
    (constant S64x128 .f32 0x00000000#32))

/-- A tail's product after its first `n` chunks. -/
def tailTo (Y : S64x4608.Idx → Elt F .fp8e4m3) (G : S1x4608x128.Idx → Elt F .fp8e4m3) : (n : ℕ) → n ≤ 36 → FVec F S64x128 .f32
  | 0, _ => broadcast S64x128 (Scalar.ofBits .f32 0x00000000#32)
  | n + 1, h => tchunkVal Y G (128 * n) (by omega) (tailTo Y G n (by omega))

section
variable (arg4 : Memref sig .tc .vmem S8x64 .f32) (arg5 : Memref sig .tc .vmem S8x64 .i32) (arg7 : Memref sig .tc .vmem S1x64 .f32)
  (arg8 : Memref sig .tc .vmem S64x4608 .bf16)
  (arg9 : Memref sig .tc .vmem S64x4608 .fp8e4m3) (harg9 : arg9.IsWhole) (arg10 : Memref sig .tc .vmem S64x128 .f32)
  (arg11 arg12 : Memref sig .tc .vmem S250x128 .f32)
  (arg14 : Memref sig .tc .vmem S2x4608x128 .fp8e4m3) (arg15 : Memref sig .tc .vmem S8x64x128 .f32)
  (arg16 : Memref sig .tc .vmem S8x64x128 .i32) (arg17 : Memref sig .tc .vmem S64x512 .f32)

theorem does_tchunk_at (h : ℕ) (hh : h < 2) (k : ℕ) (hk : k + 128 ≤ 4608) (ho) (i : S1x128x128.Idx) :
    (Rect.unit (s := S2x4608x128) ![h, k, 0] S1x128x128.size ho).emb i = (tailR h hh).emb ((Rect.unit (s := S1x4608x128) ![0, k, 0] S1x128x128.size (inbRows1 k hk)).emb i) := by
  refine funext fun a => Fin.ext ?_
  match a with
  | 0 => exact (by omega : ∀ x y : ℕ, x + 1 * y = x + 1 * (0 + 1 * y)) _ _
  | 1 => exact (by omega : ∀ x y : ℕ, x + 1 * y = 0 + 1 * (x + 1 * y)) _ _
  | 2 => exact (by omega : ∀ y : ℕ, 0 + 1 * y = 0 + 1 * (0 + 1 * y)) _

theorem does_tchunk (q : PosShare TreeShare) (Y : S64x4608.Idx → Elt F .fp8e4m3) (h : ℕ) (hh : h < 2) (G : S1x4608x128.Idx → Elt F .fp8e4m3)
    (k : ℕ) (hk : k + 128 ≤ 4608) (acc : FVec F S64x128 .f32) :
    Does defs c iprop(own c arg9 q Y ∗ own c (tailP arg14 h hh) fullShare G) (tchunk arg9 arg14 h hh k hk acc) (tchunkVal Y G k hk acc)
      iprop(own c arg9 q Y ∗ own c (tailP arg14 h hh) fullShare G) := by
  refine Does.bind (Does.frameR _ (does_load arg9 _ _ q Y)) ?_
  exact Does.bind (Does.frameL _ (does_loadPart arg14 (tailR h hh) (fun _ => rfl) _ _ fullShare G _ (does_tchunk_at h _ k hk _))) (Does.ret _)

theorem does_tailDot (q : PosShare TreeShare) (Y : S64x4608.Idx → Elt F .fp8e4m3) (h : ℕ) (hh : h < 2) (G : S1x4608x128.Idx → Elt F .fp8e4m3) :
    Does defs c iprop(own c arg9 q Y ∗ own c (tailP arg14 h hh) fullShare G) (tailDot arg9 arg14 h hh) (tailTo Y G 36 (by decide))
      iprop(own c arg9 q Y ∗ own c (tailP arg14 h hh) fullShare G) := by
  have hc (n : ℕ) (hn : n + 1 ≤ 36) := does_tchunk (defs := defs) (c := c) arg9 arg14 q Y h hh G (128 * n) (by omega) (tailTo Y G n (by omega))
  refine Does.bind (hc 0 (by decide)) ?_
  refine Does.bind (hc 1 (by decide)) ?_
  refine Does.bind (hc 2 (by decide)) ?_
  refine Does.bind (hc 3 (by decide)) ?_
  refine Does.bind (hc 4 (by decide)) ?_
  refine Does.bind (hc 5 (by decide)) ?_
  refine Does.bind (hc 6 (by decide)) ?_
  refine Does.bind (hc 7 (by decide)) ?_
  refine Does.bind (hc 8 (by decide)) ?_
  refine Does.bind (hc 9 (by decide)) ?_
  refine Does.bind (hc 10 (by decide)) ?_
  refine Does.bind (hc 11 (by decide)) ?_
  refine Does.bind (hc 12 (by decide)) ?_
  refine Does.bind (hc 13 (by decide)) ?_
  refine Does.bind (hc 14 (by decide)) ?_
  refine Does.bind (hc 15 (by decide)) ?_
  refine Does.bind (hc 16 (by decide)) ?_
  refine Does.bind (hc 17 (by decide)) ?_
  refine Does.bind (hc 18 (by decide)) ?_
  refine Does.bind (hc 19 (by decide)) ?_
  refine Does.bind (hc 20 (by decide)) ?_
  refine Does.bind (hc 21 (by decide)) ?_
  refine Does.bind (hc 22 (by decide)) ?_
  refine Does.bind (hc 23 (by decide)) ?_
  refine Does.bind (hc 24 (by decide)) ?_
  refine Does.bind (hc 25 (by decide)) ?_
  refine Does.bind (hc 26 (by decide)) ?_
  refine Does.bind (hc 27 (by decide)) ?_
  refine Does.bind (hc 28 (by decide)) ?_
  refine Does.bind (hc 29 (by decide)) ?_
  refine Does.bind (hc 30 (by decide)) ?_
  refine Does.bind (hc 31 (by decide)) ?_
  refine Does.bind (hc 32 (by decide)) ?_
  refine Does.bind (hc 33 (by decide)) ?_
  refine Does.bind (hc 34 (by decide)) ?_
  exact hc 35 (by decide)

/-- The lists after a tail. -/
def tailLists (A : S64x128.Idx → Elt F .f32) (B C : S250x128.Idx → Elt F .f32) (Y : S64x4608.Idx → Elt F .fp8e4m3) (G : S1x4608x128.Idx → Elt F .fp8e4m3)
    (lane : IVec S8x128 32) (g : ℕ) (hg : g < 250) (b : BitVec 32) (L : S64x512.Idx → Elt F .f32) (s : Lists F) : Lists F :=
  insert1 lane b (putTile A B C 0 (by decide) g hg (tailTo Y G 36 (by decide)) L) s

/-- Rank `k` of every row and lane. -/
def rdX {α : Type} (X : S8x64x128.Idx → α) (k : ℕ) (hk : k < 8) : S64x128.Idx → α :=
  shapeCast (s := S1x64x128) S64x128 (fun i => X ((Rect.unit (s := S8x64x128) ![k, 0, 0] S1x64x128.size (inbX k hk)).emb i)) shapeCasts_S1x64x128_S64x128

/-- The extraction's candidates. -/
def getX (s : Lists F) : X8 F :=
  ⟨rdX s.v 0 (by decide), rdX s.v 1 (by decide), rdX s.v 2 (by decide), rdX s.v 3 (by decide), rdX s.v 4 (by decide), rdX s.v 5 (by decide), rdX s.v 6 (by decide), rdX s.v 7 (by decide),
    sitofp .f32 (rdX s.i 0 (by decide)), sitofp .f32 (rdX s.i 1 (by decide)), sitofp .f32 (rdX s.i 2 (by decide)), sitofp .f32 (rdX s.i 3 (by decide)), sitofp .f32 (rdX s.i 4 (by decide)), sitofp .f32 (rdX s.i 5 (by decide)), sitofp .f32 (rdX s.i 6 (by decide)), sitofp .f32 (rdX s.i 7 (by decide))⟩

theorem does_ldX (s : Lists F) :
    Does defs c iprop(own c arg15 fullShare s.v ∗ own c arg16 fullShare s.i) (ldX arg15 arg16) (getX s) iprop(own c arg15 fullShare s.v ∗ own c arg16 fullShare s.i) := by
  refine Does.bind (Does.frameR _ (Does.bind (does_load arg15 _ _ _ s.v) (Does.ret _))) ?_
  refine Does.bind (Does.frameR _ (Does.bind (does_load arg15 _ _ _ s.v) (Does.ret _))) ?_
  refine Does.bind (Does.frameR _ (Does.bind (does_load arg15 _ _ _ s.v) (Does.ret _))) ?_
  refine Does.bind (Does.frameR _ (Does.bind (does_load arg15 _ _ _ s.v) (Does.ret _))) ?_
  refine Does.bind (Does.frameR _ (Does.bind (does_load arg15 _ _ _ s.v) (Does.ret _))) ?_
  refine Does.bind (Does.frameR _ (Does.bind (does_load arg15 _ _ _ s.v) (Does.ret _))) ?_
  refine Does.bind (Does.frameR _ (Does.bind (does_load arg15 _ _ _ s.v) (Does.ret _))) ?_
  refine Does.bind (Does.frameR _ (Does.bind (does_load arg15 _ _ _ s.v) (Does.ret _))) ?_
  refine Does.bind (Does.frameL _ (Does.bind (does_load arg16 _ _ _ s.i) (Does.ret _))) ?_
  refine Does.bind (Does.frameL _ (Does.bind (does_load arg16 _ _ _ s.i) (Does.ret _))) ?_
  refine Does.bind (Does.frameL _ (Does.bind (does_load arg16 _ _ _ s.i) (Does.ret _))) ?_
  refine Does.bind (Does.frameL _ (Does.bind (does_load arg16 _ _ _ s.i) (Does.ret _))) ?_
  refine Does.bind (Does.frameL _ (Does.bind (does_load arg16 _ _ _ s.i) (Does.ret _))) ?_
  refine Does.bind (Does.frameL _ (Does.bind (does_load arg16 _ _ _ s.i) (Does.ret _))) ?_
  refine Does.bind (Does.frameL _ (Does.bind (does_load arg16 _ _ _ s.i) (Does.ret _))) ?_
  refine Does.bind (Does.frameL _ (Does.bind (does_load arg16 _ _ _ s.i) (Does.ret _))) ?_
  exact Does.ret _

/-- The results and the lists. -/
theorem does_extract (s : Lists F) (T : S8x64.Idx → Elt F .f32) (I : S8x64.Idx → Elt F .i32) :
    Does defs c iprop((own c arg15 fullShare s.v ∗ own c arg16 fullShare s.i) ∗ own c arg4 fullShare T ∗ own c arg5 fullShare I) (extract arg4 arg5 arg15 arg16) ⟨⟩
      iprop((own c arg15 fullShare s.v ∗ own c arg16 fullShare s.i) ∗ own c arg4 fullShare (first8 (getX s).outV) ∗ own c arg5 fullShare (fptosi 32 (first8 (getX s).outI))) := by
  refine Does.bind (Does.frameR _ (does_ldX arg15 arg16 s)) ?_
  refine Does.bind (Does.frameL _ (Does.frameR _ (does_loadAll arg4 _ zero2 _ _ _ T))) ?_
  refine Does.bind (Does.frameL _ (Does.frameR _ (does_storeAll arg4 _ zero2 _ _ _ _ T))) ?_
  refine Does.bind (Does.frameL _ (Does.frameL _ (does_loadAll arg5 _ zero2 _ _ _ I))) ?_
  exact Does.frameL _ (Does.frameL _ (does_storeAll arg5 _ zero2 _ _ _ _ I))

theorem does_fills (v : S8x64x128.Idx → Elt F .f32) (i : S8x64x128.Idx → Elt F .i32) (L : S64x512.Idx → Elt F .f32) :
    Does defs c (VJ arg15 arg16 arg17 c v i L) (fills (F := F) arg15 arg16 arg17) ⟨⟩ (VI arg15 arg16 arg17 c noLists noLogits) := by
  have e1 : shapeCast S8x64x128 (noLists (F := F)).v shapeCasts_S8x64x128_S8x64x128 = (noLists (F := F)).v := shapeCast_id _ _
  have e2 : shapeCast S8x64x128 (noLists (F := F)).i shapeCasts_S8x64x128_S8x64x128 = (noLists (F := F)).i := shapeCast_id _ _
  have e3 : shapeCast S64x512 (noLogits (F := F)) shapeCasts_S64x512_S64x512 = noLogits := shapeCast_id _ _
  unfold VI VJ
  rw [← e1, ← e2, ← e3]
  refine Does.bind (Does.frameR _ (does_loadAll arg15 _ zero3 _ _ _ v)) ?_
  refine Does.bind (Does.frameR _ (does_storeAll arg15 _ zero3 _ _ _ _ v)) ?_
  refine Does.bind (Does.frameL _ (Does.frameR _ (does_loadAll arg16 _ zero3 _ _ _ i))) ?_
  refine Does.bind (Does.frameL _ (Does.frameR _ (does_storeAll arg16 _ zero3 _ _ _ _ i))) ?_
  refine Does.bind (Does.frameL _ (Does.frameL _ (does_loadAll arg17 _ zero2 _ _ _ L))) ?_
  exact Does.frameL _ (Does.frameL _ (does_storeAll arg17 _ zero2 _ _ _ _ L))

/-- The quantised tokens and their scales. -/
theorem does_quant (X : S64x4608.Idx → Elt F .bf16) (Y : S64x4608.Idx → Elt F .fp8e4m3) (A : S64x128.Idx → Elt F .f32) (O : S1x64.Idx → Elt F .f32) :
    Does defs c iprop(own c arg8 fullShare X ∗ own c arg9 fullShare Y ∗ own c arg10 fullShare A ∗ own c arg7 fullShare O) (quant arg7 arg8 arg9 harg9 arg10) ⟨⟩
      iprop(own c arg8 fullShare X ∗ own c arg9 fullShare (codes (extf .f32 X bitsLt_bf16_f32)) ∗ own c arg10 fullShare (scaleTile (extf .f32 X bitsLt_bf16_f32)) ∗
        own c arg7 fullShare (scaleRow (scaleTile (extf .f32 X bitsLt_bf16_f32)))) := by
  have e1 : shapeCast S64x128 (scaleTile (extf (F := F) .f32 X bitsLt_bf16_f32)) shapeCasts_S64x128_S64x128 = scaleTile (extf .f32 X bitsLt_bf16_f32) := shapeCast_id _ _
  have e2 : shapeCast S64x4608 (codes (extf (F := F) .f32 X bitsLt_bf16_f32)) shapeCasts_S64x4608_S64x4608 = codes (extf .f32 X bitsLt_bf16_f32) := shapeCast_id _ _
  rw [← e1, ← e2]
  refine Does.bind (Does.frameR _ (does_loadAll arg8 _ zero2 _ _ _ X)) ?_
  refine Does.bind (Does.frameL _ (Does.frameL _ (Does.frameR _ (does_loadAll arg10 _ zero2 _ _ _ A)))) ?_
  refine Does.bind (Does.frameL _ (Does.frameL _ (Does.frameR _ (does_storeAll arg10 _ zero2 _ _ _ _ A)))) ?_
  refine Does.bind (Does.frameL _ (Does.frameR _ (does_loadAll arg9 _ zero2 _ _ _ Y))) ?_
  refine Does.bind (Does.frameL _ (Does.frameR _ (does_storeAll arg9 _ zero2 _ _ _ _ Y))) ?_
  refine Does.bind (Does.frameL _ (Does.frameL _ (Does.frameR _ (does_loadAll arg10 _ zero2 _ _ _ _)))) ?_
  refine Does.bind (Does.frameL _ (Does.frameL _ (Does.frameL _ (does_loadAll arg7 _ zero2 _ _ _ O)))) ?_
  exact Does.frameL _ (Does.frameL _ (Does.frameL _ (does_storeAll arg7 _ zero2 _ _ _ _ O)))
end

end Cert.KS

end
-- ==== Proof.Ring.lean ====
module

public import proofs.«01_k».proof.Proof.Pieces2

/-! The ring of twelve weight slots and the two tails: what is in flight before each trip. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F] [Cert.Kernel.Facts]

local notation "𝕄" => MT nD τ sig Unit (Elt F) ℕ (Pipeline.UD sig nD τ) ℕ

variable {defs : Defs nD τ sig (Elt F) Λ₀} {c : Dev nD}

theorem Does.ex {α ι : Type} {P : ι → sProp 𝕄} {Q : sProp 𝕄} {p : Prog (TpuEff nD τ sig (Elt F) Λ₀ .tc) α} {a : α}
    (h : ∀ i, Does defs c (P i) p a Q) : Does defs c iprop(∃ i, P i) p a Q := by
  intro K
  iintro ⟨⟨%i, H⟩, HK⟩
  iapply (h i K)
  isplitl [H] <;> iassumption

theorem colOf_le (b : Fin 62) : colOf b.val + 512 ≤ 32000 := by
  revert b; decide

theorem inbSem (j : ℕ) (hj : j < 12) : ∀ a, (![j] : Fin 1 → Nat) a + S1.size a ≤ S12.size a := by
  intro a; match a with
  | 0 => change j + 1 ≤ 12; omega

theorem inbCols (n : ℕ) (hn : n + 512 ≤ 32000) : ∀ a, (![0, n] : Fin 2 → Nat) a + S4608x512.size a ≤ S4608x32000.size a := by
  intro a; match a with
  | 0 => change 0 + 4608 ≤ 4608; omega
  | 1 => change n + 512 ≤ 32000; omega

theorem inbTSem (h : ℕ) (hh : h < 2) : ∀ a, (![h] : Fin 1 → Nat) a + S1.size a ≤ S2.size a := by
  intro a; match a with
  | 0 => change h + 1 ≤ 2; omega

theorem inbTCols (n : ℕ) (hn : n + 128 ≤ 32000) : ∀ a, (![0, n] : Fin 2 → Nat) a + S4608x128.size a ≤ S4608x32000.size a := by
  intro a; match a with
  | 0 => change 0 + 4608 ≤ 4608; omega
  | 1 => change n + 128 ≤ 32000; omega

/-- The columns `n …` of the weights, as a slot holds them. -/
def blkAt (Wt : S4608x32000.Idx → Elt F .fp8e4m3) (n : ℕ) (hn : n + 512 ≤ 32000) : S1x4608x512.Idx → Elt F .fp8e4m3 :=
  fun i => Wt ((Rect.unit (s := S4608x32000) ![0, n] S4608x512.size (inbCols n hn)).emb ((Shape.reshapeEquiv squeezes_S1x4608x512_S4608x512.numel_eq).symm i))

def tailAt (Wt : S4608x32000.Idx → Elt F .fp8e4m3) (n : ℕ) (hn : n + 128 ≤ 32000) : S1x4608x128.Idx → Elt F .fp8e4m3 :=
  fun i => Wt ((Rect.unit (s := S4608x32000) ![0, n] S4608x128.size (inbTCols n hn)).emb ((Shape.reshapeEquiv squeezes_S1x4608x128_S4608x128.numel_eq).symm i))

section
variable (arg1 : Memref sig .tc .hbm S4608x32000 .fp8e4m3) (harg1 : arg1.IsWhole)
  (arg13 : Memref sig .tc .vmem S12x4608x512 .fp8e4m3) (harg13 : arg13.IsWhole)
  (arg14 : Memref sig .tc .vmem S2x4608x128 .fp8e4m3) (harg14 : arg14.IsWhole)
  (arg19 : DmaSems sig S12) (arg20 : DmaSems sig S2)

abbrev semS (j : ℕ) (hj : j < 12) : DmaSem sig := ((arg19.slice (Rect.unit (s := S12) ![j] S1.size (inbSem j hj))).squeeze S_ squeezes_S1_S_).sem

abbrev tailSem (h : ℕ) (hh : h < 2) : DmaSem sig := ((arg20.slice (Rect.unit (s := S2) ![h] S1.size (inbTSem h hh))).squeeze S_ squeezes_S1_S_).sem

abbrev slotN (j : ℕ) (hj : j < 12) : ℕ := ((slotP arg13 j hj).squeeze S4608x512 squeezes_S1x4608x512_S4608x512).view.dmaCredit

abbrev tailN (h : ℕ) (hh : h < 2) : ℕ := ((tailP arg14 h hh).squeeze S4608x128 squeezes_S1x4608x128_S4608x128).view.dmaCredit

theorem does_startBlk (q : PosShare TreeShare) (Wt : S4608x32000.Idx → Elt F .fp8e4m3) (j : ℕ) (hj : j < 12) (n : ℕ) (hn : n + 512 ≤ 32000)
    (G : S1x4608x512.Idx → Elt F .fp8e4m3) (o1) (h1) (o2) (h2) (w2) (o3) (h3) (w3) (e1 : o1 = ![j]) (e2 : o2 = ![j, 0, 0]) (e3 : o3 = ![0, n]) :
    Does defs c iprop(own c arg1 q Wt ∗ own c (slotP arg13 j hj) fullShare G ∗ cell0 c (semS arg19 j hj))
      (startBlk arg1 harg1 arg13 harg13 arg19 o1 h1 o2 h2 w2 o3 h3 w3) ⟨⟩
      (Fl c (semS arg19 j hj) (slotN arg13 j hj) iprop(own c (slotP arg13 j hj) fullShare (blkAt Wt n hn) ∗ own c arg1 q Wt)) := by
  subst e1 e2 e3
  exact does_startPart arg1 _ (fun _ => rfl) (slotP arg13 j hj) squeezes_S1x4608x512_S4608x512 _ _ _ _ q Wt G (View.dmaCredit_pos _ (show 0 < S4608x512.numel by decide))

/-- A slot at rest, or with a block on its way to it. Its token of the weights lies with it. -/
def slotSt (c : Dev nD) (Wt : S4608x32000.Idx → Elt F .fp8e4m3) (qs : ℕ → PosShare TreeShare) (j : Fin 12) : Option (Fin 62) → sProp 𝕄
  | none => iprop((∃ G, own c (slotP arg13 j.val j.isLt) fullShare G) ∗ cell0 c (semS arg19 j.val j.isLt) ∗ own c arg1 (qs j) Wt)
  | some b => Fl c (semS arg19 j.val j.isLt) (slotN arg13 j.val j.isLt)
      iprop(own c (slotP arg13 j.val j.isLt) fullShare (blkAt Wt (colOf b) (colOf_le b)) ∗ own c arg1 (qs j) Wt)

theorem does_startSlot (Wt : S4608x32000.Idx → Elt F .fp8e4m3) (qs : ℕ → PosShare TreeShare) (j : Fin 12) (b : Fin 62)
    (o1) (h1) (o2) (h2) (w2) (o3) (h3) (w3) (e1 : o1 = ![j.val]) (e2 : o2 = ![j.val, 0, 0]) (e3 : o3 = ![0, colOf b]) :
    Does defs c (slotSt arg1 arg13 arg19 c Wt qs j none) (startBlk arg1 harg1 arg13 harg13 arg19 o1 h1 o2 h2 w2 o3 h3 w3) ⟨⟩
      (slotSt arg1 arg13 arg19 c Wt qs j (some b)) := by
  unfold slotSt
  intro K
  iintro ⟨⟨⟨%G, HG⟩, Hc, Hw⟩, HK⟩
  iapply (does_startBlk arg1 harg1 arg13 harg13 arg19 (qs j) Wt j.val j.isLt (colOf b) (colOf_le b) G o1 h1 o2 h2 w2 o3 h3 w3 e1 e2 e3 K)
  isplitl [HG Hc Hw]
  · isplitl [Hw]; · iexact Hw
    isplitl [HG] <;> iassumption
  iexact HK

/-- The block in slot `j` before trip `t`. -/
def blk (t : ℕ) (j : Fin 12) : Option (Fin 62) :=
  if h : t + (j.val + 12 - t % 12) % 12 < 62 then
    if (j.val + 12 - t % 12) % 12 < 11 then some ⟨t + (j.val + 12 - t % 12) % 12, h⟩ else none
  else none

def curSlot (t : ℕ) : Fin 12 := ⟨t % 12, Nat.mod_lt _ (by decide)⟩
def newSlot (t : ℕ) : Fin 12 := ⟨(t + 11) % 12, Nat.mod_lt _ (by decide)⟩

theorem slot_ne : ∀ t : Fin 62, newSlot t.val ≠ curSlot t.val := by decide +kernel
theorem blk_cur : ∀ t : Fin 62, blk t.val (curSlot t.val) = some t := by decide +kernel
theorem blk_free : ∀ t : Fin 62, blk t.val (newSlot t.val) = none := by decide +kernel
theorem blk_next : ∀ t : Fin 62, blk (t.val + 1) (curSlot t.val) = none := by decide +kernel
theorem blk_new : ∀ t : Fin 62, ∀ h : t.val + 11 < 62, blk (t.val + 1) (newSlot t.val) = some ⟨t.val + 11, h⟩ := by decide +kernel
theorem blk_last : ∀ t : Fin 62, ¬ t.val + 11 < 62 → blk (t.val + 1) (newSlot t.val) = none := by decide +kernel
theorem blk_other : ∀ t : Fin 62, ∀ j : Fin 12, j ≠ newSlot t.val → j ≠ curSlot t.val → blk (t.val + 1) j = blk t.val j := by decide +kernel
theorem blk_done : ∀ j : Fin 12, blk 62 j = none := by decide +kernel

/-- The ring with block `f j` on its way to slot `j`. -/
def ring (c : Dev nD) (Wt : S4608x32000.Idx → Elt F .fp8e4m3) (qs : ℕ → PosShare TreeShare) (f : Fin 12 → Option (Fin 62)) : sProp 𝕄 :=
  bigSep Finset.univ fun j => slotSt arg1 arg13 arg19 c Wt qs j (f j)

/-- The slots a trip leaves alone. -/
def ringRest (c : Dev nD) (Wt : S4608x32000.Idx → Elt F .fp8e4m3) (qs : ℕ → PosShare TreeShare) (t : ℕ) : sProp 𝕄 :=
  bigSep ((Finset.univ.erase (curSlot t)).erase (newSlot t)) fun j => slotSt arg1 arg13 arg19 c Wt qs j (blk t j)

theorem ring_open (Wt : S4608x32000.Idx → Elt F .fp8e4m3) (qs : ℕ → PosShare TreeShare) (t : Fin 62) :
    ring arg1 arg13 arg19 c Wt qs (blk t.val) = iprop(slotSt arg1 arg13 arg19 c Wt qs (curSlot t.val) (some t) ∗
      slotSt arg1 arg13 arg19 c Wt qs (newSlot t.val) none ∗ ringRest arg1 arg13 arg19 c Wt qs t.val) := by
  unfold ring ringRest
  rw [bigSep_univ_split (curSlot t.val), bigSep_erase (Finset.mem_erase.mpr ⟨slot_ne t, Finset.mem_univ _⟩), blk_cur, blk_free]
  rfl

theorem ring_close (Wt : S4608x32000.Idx → Elt F .fp8e4m3) (qs : ℕ → PosShare TreeShare) (t : Fin 62) :
    ring arg1 arg13 arg19 c Wt qs (blk (t.val + 1)) = iprop(slotSt arg1 arg13 arg19 c Wt qs (curSlot t.val) none ∗
      slotSt arg1 arg13 arg19 c Wt qs (newSlot t.val) (blk (t.val + 1) (newSlot t.val)) ∗ ringRest arg1 arg13 arg19 c Wt qs t.val) := by
  unfold ring ringRest
  rw [bigSep_univ_split (curSlot t.val), bigSep_erase (Finset.mem_erase.mpr ⟨slot_ne t, Finset.mem_univ _⟩), blk_next]
  congr 2
  refine bigSep_congr fun j hj => ?_
  rw [blk_other t j (Finset.ne_of_mem_erase hj) (Finset.ne_of_mem_erase (Finset.mem_of_mem_erase hj))]

/-- The ring while the first blocks are started. -/
def blkP (k : ℕ) (j : Fin 12) : Option (Fin 62) := if j.val < k then some ⟨j.val, by omega⟩ else none

theorem blkP_eleven : blkP 11 = blk 0 := by decide +kernel
theorem blkP_zero : blkP 0 = fun _ => none := by decide +kernel

theorem does_startRing (Wt : S4608x32000.Idx → Elt F .fp8e4m3) (qs : ℕ → PosShare TreeShare) (k : ℕ) (hk : k < 12)
    (o1) (h1) (o2) (h2) (w2) (o3) (h3) (w3) (e1 : o1 = ![k]) (e2 : o2 = ![k, 0, 0]) (e3 : o3 = ![0, colOf k]) :
    Does defs c (ring arg1 arg13 arg19 c Wt qs (blkP k)) (startBlk arg1 harg1 arg13 harg13 arg19 o1 h1 o2 h2 w2 o3 h3 w3) ⟨⟩
      (ring arg1 arg13 arg19 c Wt qs (blkP (k + 1))) := by
  have h0 : ring arg1 arg13 arg19 c Wt qs (blkP k) = iprop(slotSt arg1 arg13 arg19 c Wt qs ⟨k, hk⟩ none ∗
      bigSep (Finset.univ.erase ⟨k, hk⟩) fun j => slotSt arg1 arg13 arg19 c Wt qs j (blkP k j)) := by
    unfold ring
    rw [bigSep_univ_split ⟨k, hk⟩, show blkP k ⟨k, hk⟩ = none from if_neg (lt_irrefl _)]
    rfl
  have h1' : ring arg1 arg13 arg19 c Wt qs (blkP (k + 1)) = iprop(slotSt arg1 arg13 arg19 c Wt qs ⟨k, hk⟩ (some ⟨k, by omega⟩) ∗
      bigSep (Finset.univ.erase ⟨k, hk⟩) fun j => slotSt arg1 arg13 arg19 c Wt qs j (blkP k j)) := by
    unfold ring
    rw [bigSep_univ_split ⟨k, hk⟩, show blkP (k + 1) ⟨k, hk⟩ = some ⟨k, by omega⟩ from if_pos (Nat.lt_succ_self _)]
    congr 1
    refine bigSep_congr fun j hj => ?_
    have hn : j.val ≠ k := fun e => Finset.ne_of_mem_erase hj (Fin.ext e)
    have he : blkP (k + 1) j = blkP k j := by
      unfold blkP
      by_cases hl : j.val < k
      · rw [if_pos hl, if_pos (by omega)]
      · rw [if_neg hl, if_neg (by omega)]
    rw [he]
  rw [h0, h1']
  exact Does.frameR _ (does_startSlot arg1 harg1 arg13 harg13 arg19 Wt qs ⟨k, hk⟩ ⟨k, by omega⟩ o1 h1 o2 h2 w2 o3 h3 w3 e1 e2 e3)

/-- A tail at rest or on its way. -/
def tailSt (c : Dev nD) (Wt : S4608x32000.Idx → Elt F .fp8e4m3) (q : PosShare TreeShare) (h : ℕ) (hh : h < 2) (n : ℕ) (hn : n + 128 ≤ 32000) : Bool → sProp 𝕄
  | false => iprop((∃ G, own c (tailP arg14 h hh) fullShare G) ∗ cell0 c (tailSem arg20 h hh) ∗ own c arg1 q Wt)
  | true => Fl c (tailSem arg20 h hh) (tailN arg14 h hh) iprop(own c (tailP arg14 h hh) fullShare (tailAt Wt n hn) ∗ own c arg1 q Wt)

theorem does_startTail0_at (Wt : S4608x32000.Idx → Elt F .fp8e4m3) (q : PosShare TreeShare) (G : S1x4608x128.Idx → Elt F .fp8e4m3) :
    Does defs c iprop(own c arg1 q Wt ∗ own c (tailP arg14 0 (by decide)) fullShare G ∗ cell0 c (tailSem arg20 0 (by decide))) (startTail0 arg1 harg1 arg14 harg14 arg20) ⟨⟩
      (Fl c (tailSem arg20 0 (by decide)) (tailN arg14 0 (by decide)) iprop(own c (tailP arg14 0 (by decide)) fullShare (tailAt Wt 15872 (by decide)) ∗ own c arg1 q Wt)) :=
  does_startPart arg1 _ (fun _ => rfl) (tailP arg14 0 (by decide)) squeezes_S1x4608x128_S4608x128 _ _ _ _ q Wt G (View.dmaCredit_pos _ (show 0 < S4608x128.numel by decide))

theorem does_startTail0 (Wt : S4608x32000.Idx → Elt F .fp8e4m3) (q : PosShare TreeShare) :
    Does defs c (tailSt arg1 arg14 arg20 c Wt q 0 (by decide) 15872 (by decide) false) (startTail0 arg1 harg1 arg14 harg14 arg20) ⟨⟩
      (tailSt arg1 arg14 arg20 c Wt q 0 (by decide) 15872 (by decide) true) := by
  unfold tailSt
  intro K
  iintro ⟨⟨⟨%G, HG⟩, Hc, Hw⟩, HK⟩
  iapply (does_startTail0_at arg1 harg1 arg14 harg14 arg20 Wt q G K)
  isplitl [HG Hc Hw]
  · isplitl [Hw]; · iexact Hw
    isplitl [HG] <;> iassumption
  iexact HK

theorem does_startTail1_at (Wt : S4608x32000.Idx → Elt F .fp8e4m3) (q : PosShare TreeShare) (G : S1x4608x128.Idx → Elt F .fp8e4m3) :
    Does defs c iprop(own c arg1 q Wt ∗ own c (tailP arg14 1 (by decide)) fullShare G ∗ cell0 c (tailSem arg20 1 (by decide))) (startTail1 arg1 harg1 arg14 harg14 arg20) ⟨⟩
      (Fl c (tailSem arg20 1 (by decide)) (tailN arg14 1 (by decide)) iprop(own c (tailP arg14 1 (by decide)) fullShare (tailAt Wt 31872 (by decide)) ∗ own c arg1 q Wt)) :=
  does_startPart arg1 _ (fun _ => rfl) (tailP arg14 1 (by decide)) squeezes_S1x4608x128_S4608x128 _ _ _ _ q Wt G (View.dmaCredit_pos _ (show 0 < S4608x128.numel by decide))

theorem does_startTail1 (Wt : S4608x32000.Idx → Elt F .fp8e4m3) (q : PosShare TreeShare) :
    Does defs c (tailSt arg1 arg14 arg20 c Wt q 1 (by decide) 31872 (by decide) false) (startTail1 arg1 harg1 arg14 harg14 arg20) ⟨⟩
      (tailSt arg1 arg14 arg20 c Wt q 1 (by decide) 31872 (by decide) true) := by
  unfold tailSt
  intro K
  iintro ⟨⟨⟨%G, HG⟩, Hc, Hw⟩, HK⟩
  iapply (does_startTail1_at arg1 harg1 arg14 harg14 arg20 Wt q G K)
  isplitl [HG Hc Hw]
  · isplitl [Hw]; · iexact Hw
    isplitl [HG] <;> iassumption
  iexact HK

/-- The tails before trip `t`. -/
def tails (c : Dev nD) (Wt : S4608x32000.Idx → Elt F .fp8e4m3) (qs : ℕ → PosShare TreeShare) (t : ℕ) : sProp 𝕄 :=
  iprop(tailSt arg1 arg14 arg20 c Wt (qs 12) 0 (by decide) 15872 (by decide) (decide (51 < t)) ∗
    tailSt arg1 arg14 arg20 c Wt (qs 13) 1 (by decide) 31872 (by decide) (decide (52 < t)))

/-- A trip's slot awaited: the block it multiplies. -/
def curHere (c : Dev nD) (Wt : S4608x32000.Idx → Elt F .fp8e4m3) (qs : ℕ → PosShare TreeShare) (t : Fin 62) : sProp 𝕄 :=
  iprop((own c (slotP arg13 (t.val % 12) (Nat.mod_lt _ (by decide))) fullShare (blkAt Wt (colOf t) (colOf_le t)) ∗ own c arg1 (qs (curSlot t.val)) Wt) ∗
    cell0 c (semS arg19 (t.val % 12) (Nat.mod_lt _ (by decide))))

theorem curHere_rest (Wt : S4608x32000.Idx → Elt F .fp8e4m3) (qs : ℕ → PosShare TreeShare) (t : Fin 62) :
    curHere arg1 arg13 arg19 c Wt qs t ⊢ slotSt arg1 arg13 arg19 c Wt qs (curSlot t.val) none := by
  unfold curHere slotSt
  iintro ⟨⟨H1, H2⟩, H3⟩
  isplitl [H1]; · iexists _; iexact H1
  isplitl [H3]; · iexact H3
  iexact H2

theorem slotSt_some (Wt : S4608x32000.Idx → Elt F .fp8e4m3) (qs : ℕ → PosShare TreeShare) (j : Fin 12) (b : Fin 62) :
    slotSt arg1 arg13 arg19 c Wt qs j (some b) = Fl c (semS arg19 j.val j.isLt) (slotN arg13 j.val j.isLt)
      iprop(own c (slotP arg13 j.val j.isLt) fullShare (blkAt Wt (colOf b) (colOf_le b)) ∗ own c arg1 (qs j) Wt) := rfl

theorem does_waitBlk (j : ℕ) (hj : j < 12) (D : sProp 𝕄) (o1) (h1) (o2) (h2) (o3 : Fin 2 → ℕ) (h3) (e1 : o1 = ![j]) (e2 : o2 = ![j, 0, 0]) (w1) (w2) :
    Does (F := F) defs c iprop(Fl c (semS arg19 j hj) (slotN arg13 j hj) D ∗ ow c)
      (Prog.lift (.waitDma2 ((arg19.slice (Rect.unit (s := S12) o1 S1.size h1)).squeeze S_ squeezes_S1_S_).sem
        (arg1.slice (Rect.unit (s := S4608x32000) o3 S4608x512.size h3) (fun _ => rfl))
        ((arg13.slice (Rect.unit (s := S12x4608x512) o2 S1x4608x512.size h2) (fun _ => rfl)).squeeze S4608x512 squeezes_S1x4608x512_S4608x512) w1 w2)) ⟨⟩
      iprop((D ∗ cell0 c (semS arg19 j hj)) ∗ ow c) := by
  subst e1 e2
  exact does_wait _ _ _ _ _ _ rfl D

theorem does_waitSlot (Wt : S4608x32000.Idx → Elt F .fp8e4m3) (qs : ℕ → PosShare TreeShare) (t : Fin k0_t1_loop.trips) (ht : t.val < 62) (h1) (h2) (h3) (w1) (w2) :
    Does defs c iprop(slotSt arg1 arg13 arg19 c Wt qs (curSlot t.val) (some ⟨t.val, ht⟩) ∗ ow c)
      (Prog.lift (.waitDma2 ((arg19.slice (Rect.unit (s := S12) (k0_off3 t) S1.size h1)).squeeze S_ squeezes_S1_S_).sem
        (arg1.slice (Rect.unit (s := S4608x32000) (k0_off5 t) S4608x512.size h3) (fun _ => rfl))
        ((arg13.slice (Rect.unit (s := S12x4608x512) (k0_off4 t) S1x4608x512.size h2) (fun _ => rfl)).squeeze S4608x512 squeezes_S1x4608x512_S4608x512) w1 w2)) ⟨⟩
      iprop(curHere arg1 arg13 arg19 c Wt qs ⟨t.val, ht⟩ ∗ ow c) := by
  unfold curHere
  rw [slotSt_some]
  exact does_waitBlk arg1 arg13 arg19 (t.val % 12) (Nat.mod_lt _ (by decide)) _ _ _ _ _ _ _ (off3_eq t) (off4_eq t) _ _

/-- What a trip's transfers leave. -/
def dmaPost (c : Dev nD) (Wt : S4608x32000.Idx → Elt F .fp8e4m3) (qs : ℕ → PosShare TreeShare) (t : Fin 62) : sProp 𝕄 :=
  iprop((curHere arg1 arg13 arg19 c Wt qs t ∗ ow c) ∗
    (slotSt arg1 arg13 arg19 c Wt qs (newSlot t.val) (blk (t.val + 1) (newSlot t.val)) ∗ ringRest arg1 arg13 arg19 c Wt qs t.val) ∗
    tails arg1 arg14 arg20 c Wt qs (t.val + 1))

/-- The tails of a trip. -/
def tail1Prog (t : Fin k0_t1_loop.trips) : Prog (TpuEff nD τ sig (Elt F) Λ₀ .tc) PUnit :=
  if h : tailCond (Scf.iv 0#32 1#32 t) 63#32 = 1#1 then startTail1 arg1 harg1 arg14 harg14 arg20 else pure ⟨⟩

def tail0Prog (t : Fin k0_t1_loop.trips) : Prog (TpuEff nD τ sig (Elt F) Λ₀ .tc) PUnit :=
  if h : tailCond (Scf.iv 0#32 1#32 t) 62#32 = 1#1 then (startTail0 arg1 harg1 arg14 harg14 arg20 >>= fun _ => tail1Prog arg1 harg1 arg14 harg14 arg20 t)
  else tail1Prog arg1 harg1 arg14 harg14 arg20 t

theorem does_tail1Prog (Wt : S4608x32000.Idx → Elt F .fp8e4m3) (q : PosShare TreeShare) (t : Fin k0_t1_loop.trips) :
    Does defs c (tailSt arg1 arg14 arg20 c Wt q 1 (by decide) 31872 (by decide) (decide (52 < t.val))) (tail1Prog arg1 harg1 arg14 harg14 arg20 t) ⟨⟩
      (tailSt arg1 arg14 arg20 c Wt q 1 (by decide) 31872 (by decide) (decide (52 < t.val + 1))) := by
  unfold tail1Prog
  by_cases h : t.val = 52
  · refine Does.ite_true ((tail1_iff t).mpr h) ?_
    simp only [h]
    exact does_startTail1 arg1 harg1 arg14 harg14 arg20 Wt q
  · refine Does.ite_false (fun e => h ((tail1_iff t).mp e)) ?_
    rw [show decide (52 < t.val + 1) = decide (52 < t.val) from decide_eq_decide.mpr (by omega)]
    exact Does.ret _

theorem does_tail0Prog (Wt : S4608x32000.Idx → Elt F .fp8e4m3) (qs : ℕ → PosShare TreeShare) (t : Fin k0_t1_loop.trips) :
    Does defs c (tails arg1 arg14 arg20 c Wt qs t.val) (tail0Prog arg1 harg1 arg14 harg14 arg20 t) ⟨⟩ (tails arg1 arg14 arg20 c Wt qs (t.val + 1)) := by
  unfold tail0Prog tails
  by_cases h : t.val = 51
  · refine Does.ite_true ((tail0_iff t).mpr h) ?_
    refine Does.bind (a := ⟨⟩) (Does.frameR _ ?_) (Does.frameL _ (does_tail1Prog arg1 harg1 arg14 harg14 arg20 Wt (qs 13) t))
    simp only [h]
    exact does_startTail0 arg1 harg1 arg14 harg14 arg20 Wt (qs 12)
  · refine Does.ite_false (fun e => h ((tail0_iff t).mp e)) ?_
    rw [show decide (51 < t.val + 1) = decide (51 < t.val) from decide_eq_decide.mpr (by omega)]
    exact Does.frameL _ (does_tail1Prog arg1 harg1 arg14 harg14 arg20 Wt (qs 13) t)

theorem does_tripDma (Wt : S4608x32000.Idx → Elt F .fp8e4m3) (qs : ℕ → PosShare TreeShare) (t : Fin k0_t1_loop.trips) (ht : t.val < 62) :
    Does defs c iprop(ring arg1 arg13 arg19 c Wt qs (blk t.val) ∗ tails arg1 arg14 arg20 c Wt qs t.val ∗ ow c)
      (tripDma arg1 harg1 arg13 harg13 arg14 harg14 arg19 arg20 t) ⟨⟩ (dmaPost arg1 arg13 arg14 arg19 arg20 c Wt qs ⟨t.val, ht⟩) := by
  have hw := does_waitSlot (defs := defs) (c := c) arg1 arg13 arg19 Wt qs t ht (k0_off3_inb t) (k0_off4_inb t) (k0_off5_inb t)
      (harg1.wordExact_slice rfl _ (k0_off5_wordsfp8e4m3 t)) ((harg13.wordExact_slice rfl _ (k0_off4_wordsfp8e4m3 t)).reshape _ _)
  have ht' := does_tail0Prog (defs := defs) (c := c) arg1 harg1 arg14 harg14 arg20 Wt qs t
  refine Does.conseq (P := iprop((slotSt arg1 arg13 arg19 c Wt qs (curSlot t.val) (some ⟨t.val, ht⟩) ∗ ow c) ∗
      (slotSt arg1 arg13 arg19 c Wt qs (newSlot t.val) none ∗ ringRest arg1 arg13 arg19 c Wt qs t.val) ∗ tails arg1 arg14 arg20 c Wt qs t.val)) ?_ ?_ .rfl
  · refine Does.bind (Does.frameR _ hw) ?_
    unfold dmaPost
    by_cases h : k0_cond1 t = 1#1
    · refine Does.ite_true h ?_
      have hl := (cond1_iff t).mp h
      rw [blk_new ⟨t.val, ht⟩ hl]
      exact Does.bind (Does.frameL _ (Does.frameR _ (Does.frameR _
        (does_startSlot arg1 harg1 arg13 harg13 arg19 Wt qs (newSlot t.val) ⟨t.val + 11, hl⟩ _ _ _ _ _ _ _ _ (off6_eq t) (off7_eq t) (off8_eq t)))))
        (Does.frameL _ (Does.frameL _ ht'))
    · refine Does.ite_false h ?_
      rw [blk_last ⟨t.val, ht⟩ (fun hl => h ((cond1_iff t).mpr hl))]
      exact Does.frameL _ (Does.frameL _ ht')
  · rw [ring_open arg1 arg13 arg19 Wt qs ⟨t.val, ht⟩]
    iintro ⟨⟨H1, H2, H3⟩, H4, H5⟩
    isplitl [H1 H5]
    · isplitl [H1] <;> iassumption
    isplitl [H2 H3]
    · isplitl [H2] <;> iassumption
    iexact H4
end

end Cert.KS

end
-- ==== Proof.Trip.lean ====
module

public import proofs.«01_k».proof.Proof.Ring
public import Idealize.ShloMosaic.Lib.MemrefSat

/-! One trip, the loop and the whole body. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F] [Cert.Kernel.Facts]

local notation "𝕄" => MT nD τ sig Unit (Elt F) ℕ (Pipeline.UD sig nD τ) ℕ

variable {defs : Defs nD τ sig (Elt F) Λ₀} {c : Dev nD}

theorem Does.step {α β : Type} {P Q : sProp 𝕄} {p : Prog (TpuEff nD τ sig (Elt F) Λ₀ .tc) α} {k : α → Prog (TpuEff nD τ sig (Elt F) Λ₀ .tc) β}
    {a : α} (h : Does defs c P p a Q) (K : β → sProp 𝕄) : iprop(P ∗ (Q -∗ W defs c (k a) K)) ⊢ W defs c (p >>= k) K := by
  have e : W defs c (p >>= k) K = W defs c p (fun a => W defs c (k a) K) := wp_bind _ _ _ p k K
  rw [e]
  exact h (fun a => W defs c (k a) K)

theorem Does.last {α : Type} {P Q : sProp 𝕄} {p : Prog (TpuEff nD τ sig (Elt F) Λ₀ .tc) α}
    {a : α} (h : Does defs c P p a Q) (K : α → sProp 𝕄) : iprop(P ∗ (Q -∗ K a)) ⊢ W defs c p K := h K

theorem colOf_row (b : Fin 62) : colOf b.val / 128 + 3 < 250 := by
  revert b; decide

/-- What a trip makes of the lists and the logits. -/
def stepTrip (A : S64x128.Idx → Elt F .f32) (B C : S250x128.Idx → Elt F .f32) (Y : S64x4608.Idx → Elt F .fp8e4m3) (Wt : S4608x32000.Idx → Elt F .fp8e4m3)
    (t : Fin 62) (p : Lists F × (S64x512.Idx → Elt F .f32)) : Lists F × (S64x512.Idx → Elt F .f32) :=
  (insert4 lanes (Scalar.addi (BitVec.ofNat 32 (colOf (t.val - 1))) 0#32) (Scalar.addi (BitVec.ofNat 32 (colOf (t.val - 1))) 128#32)
      (Scalar.addi (BitVec.ofNat 32 (colOf (t.val - 1))) 256#32) (Scalar.addi (BitVec.ofNat 32 (colOf (t.val - 1))) 384#32) p.2 p.1,
    putBlock A B C (colOf t.val / 128) (colOf_row t) (blockVal Y (blkAt Wt (colOf t.val) (colOf_le t))) p.2)

/-- The lists and the logits before trip `n`. -/
def stAt (A : S64x128.Idx → Elt F .f32) (B C : S250x128.Idx → Elt F .f32) (Y : S64x4608.Idx → Elt F .fp8e4m3) (Wt : S4608x32000.Idx → Elt F .fp8e4m3) :
    ℕ → Lists F × (S64x512.Idx → Elt F .f32)
  | 0 => (noLists, noLogits)
  | n + 1 => if h : n < 62 then stepTrip A B C Y Wt ⟨n, h⟩ (stAt A B C Y Wt n) else stAt A B C Y Wt n

theorem stAt_succ (A : S64x128.Idx → Elt F .f32) (B C : S250x128.Idx → Elt F .f32) (Y : S64x4608.Idx → Elt F .fp8e4m3) (Wt : S4608x32000.Idx → Elt F .fp8e4m3)
    (n : ℕ) (h : n < 62) : stAt A B C Y Wt (n + 1) = stepTrip A B C Y Wt ⟨n, h⟩ (stAt A B C Y Wt n) := dif_pos h

section
variable (arg1 : Memref sig .tc .hbm S4608x32000 .fp8e4m3) (harg1 : arg1.IsWhole)
  (arg9 : Memref sig .tc .vmem S64x4608 .fp8e4m3) (arg10 : Memref sig .tc .vmem S64x128 .f32)
  (arg11 arg12 : Memref sig .tc .vmem S250x128 .f32)
  (arg13 : Memref sig .tc .vmem S12x4608x512 .fp8e4m3) (harg13 : arg13.IsWhole)
  (arg14 : Memref sig .tc .vmem S2x4608x128 .fp8e4m3) (harg14 : arg14.IsWhole) (arg15 : Memref sig .tc .vmem S8x64x128 .f32)
  (arg16 : Memref sig .tc .vmem S8x64x128 .i32) (arg17 : Memref sig .tc .vmem S64x512 .f32)
  (arg19 : DmaSems sig S12) (arg20 : DmaSems sig S2)

/-- The state before trip `t`. -/
def tripI (c : Dev nD) (A : S64x128.Idx → Elt F .f32) (B C : S250x128.Idx → Elt F .f32) (Y : S64x4608.Idx → Elt F .fp8e4m3) (Wt : S4608x32000.Idx → Elt F .fp8e4m3)
    (qs : ℕ → PosShare TreeShare) (t : ℕ) : sProp 𝕄 :=
  iprop((ring arg1 arg13 arg19 c Wt qs (blk t) ∗ tails arg1 arg14 arg20 c Wt qs t ∗ ow c) ∗ own c arg9 fullShare Y ∗
    (own c arg10 fullShare A ∗ own c arg11 fullShare B ∗ own c arg12 fullShare C) ∗ VI arg15 arg16 arg17 c (stAt A B C Y Wt t).1 (stAt A B C Y Wt t).2)

theorem does_trip (A : S64x128.Idx → Elt F .f32) (B C : S250x128.Idx → Elt F .f32) (Y : S64x4608.Idx → Elt F .fp8e4m3) (Wt : S4608x32000.Idx → Elt F .fp8e4m3)
    (qs : ℕ → PosShare TreeShare) (t : Fin k0_t1_loop.trips) :
    Does defs c (tripI arg1 arg9 arg10 arg11 arg12 arg13 arg14 arg15 arg16 arg17 arg19 arg20 c A B C Y Wt qs t.val)
      (trip arg1 harg1 arg13 harg13 arg14 harg14 arg19 arg20 arg9 arg10 arg11 arg12 arg15 arg16 arg17 lanes t) ()
      (tripI arg1 arg9 arg10 arg11 arg12 arg13 arg14 arg15 arg16 arg17 arg19 arg20 c A B C Y Wt qs (t.val + 1)) := by
  have ht : t.val < 62 := lt_of_lt_of_eq t.isLt trips_eq
  intro K
  unfold tripI trip
  rw [stAt_succ A B C Y Wt t.val ht]
  iintro ⟨⟨HD, HY, ⟨HA, HB, HC⟩, HV⟩, HK⟩
  iapply (Does.step (does_tripDma arg1 harg1 arg13 harg13 arg14 harg14 arg19 arg20 Wt qs t ht) K) $$ [HD HY HA HB HC HV HK]
  isplitl [HD]; · iexact HD
  iintro HD
  iapply (Does.step (does_ins4 arg15 arg16 arg17 lanes _ _ _ _ (stAt A B C Y Wt t.val).1 (stAt A B C Y Wt t.val).2) K) $$ [HD HY HA HB HC HV HK]
  isplitl [HV]; · iexact HV
  iintro HV
  ihave HD' := (show dmaPost arg1 arg13 arg14 arg19 arg20 c Wt qs ⟨t.val, ht⟩ ⊢ iprop((((own c (slotP arg13 (t.val % 12) (Nat.mod_lt _ (by decide))) fullShare (blkAt Wt (colOf t.val) (colOf_le ⟨t.val, ht⟩)) ∗
      own c arg1 (qs (curSlot t.val)) Wt) ∗ cell0 c (semS arg19 (t.val % 12) (Nat.mod_lt _ (by decide)))) ∗ ow c) ∗
    (slotSt arg1 arg13 arg19 c Wt qs (newSlot t.val) (blk (t.val + 1) (newSlot t.val)) ∗ ringRest arg1 arg13 arg19 c Wt qs t.val) ∗
    tails arg1 arg14 arg20 c Wt qs (t.val + 1)) from .rfl) $$ HD
  icases HD' with ⟨⟨⟨⟨Hs, Hw⟩, Hc⟩, Ho⟩, Hr, Ht⟩
  iapply (Does.step (does_blockDot arg9 arg13 fullShare Y t (Nat.mod_lt _ (by decide)) (blkAt Wt (colOf t.val) (colOf_le ⟨t.val, ht⟩))) K) $$ [HY Hs HA HB HC HV HK Hw Hc Ho Hr Ht]
  isplitl [HY Hs]
  · isplitl [HY] <;> iassumption
  iintro ⟨HY, Hs⟩
  unfold VI VJ
  icases HV with ⟨Hv, Hi, HL⟩
  iapply (Does.step (does_storeBlock arg10 arg11 arg12 arg17 A B C (stAt A B C Y Wt t.val).2 t (colOf_row ⟨t.val, ht⟩) _) K) $$ [HY Hs HA HB HC Hv Hi HL HK Hw Hc Ho Hr Ht]
  unfold VL
  isplitl [HA HB HC HL]
  · isplitl [HA]; · iexact HA
    isplitl [HB]; · iexact HB
    isplitl [HC]; · iexact HC
    iexact HL
  iintro ⟨HA, HB, HC, HL⟩
  iapply (W_ret (defs := defs) (c := c) () K)
  iapply HK
  isplitl [Hs Hw Hc Ho Hr Ht]
  · isplitl [Hs Hw Hc Hr]
    · rw [ring_close arg1 arg13 arg19 Wt qs ⟨t.val, ht⟩]
      isplitl [Hs Hw Hc]
      · iapply (curHere_rest arg1 arg13 arg19 Wt qs ⟨t.val, ht⟩)
        unfold curHere
        isplitl [Hs Hw]
        · isplitl [Hs]; · iexact Hs
          iexact Hw
        iexact Hc
      iexact Hr
    isplitl [Ht]; · iexact Ht
    iexact Ho
  isplitl [HY]; · iexact HY
  isplitl [HA HB HC]
  · isplitl [HA]; · iexact HA
    isplitl [HB]; · iexact HB
    iexact HC
  unfold stepTrip
  rw [← prevStart_eq t]
  isplitl [Hv]; · iexact Hv
  isplitl [Hi]; · iexact Hi
  iexact HL

/-- A loop from what each trip keeps. -/
theorem does_loop (I : ℕ → sProp 𝕄) (body : Fin k0_t1_loop.trips → Prog (TpuEff nD τ sig (Elt F) Λ₀ .tc) Unit)
    (h : ∀ t : Fin k0_t1_loop.trips, Does defs c (I t.val) (body t) () (I (t.val + 1))) :
    Does defs c (I 0) (Scf.Loop.for k0_t1_loop k0_t1_ok ⟨⟩ fun t _ => body t) () (I 62) := by
  intro K
  have hb (k : Fin k0_t1_loop.trips) (acc : Unit) : I k.val ⊢ W defs c (body k) (fun _ => I (k.val + 1)) := by
    iintro HI
    iapply (h k (fun _ => I (k.val + 1)))
    isplitl [HI]; · iexact HI
    iintro HI; iexact HI
  have hw := Scf.wp_for frame (wpE defs Variants.none (c : Thread nD τ) none) Set.univ _ _ _ k0_t1_ok (() : Unit) (fun t _ => body t) (fun k _ => I k) hb (Q := K)
  refine BIBase.Entails.trans ?_ hw
  iintro ⟨HI, HK⟩
  isplitl [HI]; · iexact HI
  iintro %acc HI
  iapply HK
  rw [← trips_eq]
  iexact HI

/-- A tail: its product, its logits and its insertion. -/
theorem does_tailRest (q : PosShare TreeShare) (A : S64x128.Idx → Elt F .f32) (B C : S250x128.Idx → Elt F .f32) (Y : S64x4608.Idx → Elt F .fp8e4m3)
    (h : ℕ) (hh : h < 2) (G : S1x4608x128.Idx → Elt F .fp8e4m3) (off) (ho) (g : ℕ) (hg : g < 250) (he : off = ![g, 0]) (b : BitVec 32)
    (s : Lists F) (L : S64x512.Idx → Elt F .f32) :
    Does defs c iprop((own c arg9 q Y ∗ own c (tailP arg14 h hh) fullShare G) ∗ (own c arg10 fullShare A ∗ own c arg11 fullShare B ∗ own c arg12 fullShare C) ∗ VI arg15 arg16 arg17 c s L)
      (tailRest arg9 arg10 arg11 arg12 arg14 arg15 arg16 arg17 lanes h hh off ho b) ⟨⟩
      iprop((own c arg9 q Y ∗ own c (tailP arg14 h hh) fullShare G) ∗ (own c arg10 fullShare A ∗ own c arg11 fullShare B ∗ own c arg12 fullShare C) ∗
        VI arg15 arg16 arg17 c (insert1 lanes b (putTile A B C 0 (by decide) g hg (tailTo Y G 36 (by decide)) L) s) (putTile A B C 0 (by decide) g hg (tailTo Y G 36 (by decide)) L)) := by
  intro K
  unfold tailRest
  iintro ⟨⟨HD, ⟨HA, HB, HC⟩, HV⟩, HK⟩
  iapply (Does.step (does_tailDot arg9 arg14 q Y h hh G) K) $$ [HD HA HB HC HV HK]
  isplitl [HD]; · iexact HD
  iintro HD
  unfold VI VJ
  icases HV with ⟨Hv, Hi, HL⟩
  iapply (Does.step (does_storeTile arg10 arg11 arg12 arg17 A B C L 0 _ off ho g hg he _) K) $$ [HD HA HB HC Hv Hi HL HK]
  unfold VL
  isplitl [HA HB HC HL]
  · isplitl [HA]; · iexact HA
    isplitl [HB]; · iexact HB
    isplitl [HC]; · iexact HC
    iexact HL
  iintro ⟨HA, HB, HC, HL⟩
  iapply (Does.last (does_ins1 arg15 arg16 arg17 lanes b s _) K) $$ [HD HA HB HC Hv Hi HL HK]
  unfold VI VJ
  isplitl [Hv Hi HL]
  · isplitl [Hv]; · iexact Hv
    isplitl [Hi]; · iexact Hi
    iexact HL
  iintro HV
  iapply HK
  isplitl [HD]; · iexact HD
  isplitl [HA HB HC]
  · isplitl [HA]; · iexact HA
    isplitl [HB]; · iexact HB
    iexact HC
  iexact HV
end

end Cert.KS

end
-- ==== Proof.Body.lean ====
module

public import proofs.«01_k».proof.Proof.Trip

/-! The whole body: what it needs, what it leaves, and what the results are. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F] [Cert.Kernel.Facts]

local notation "𝕄" => MT nD τ sig Unit (Elt F) ℕ (Pipeline.UD sig nD τ) ℕ

variable {defs : Defs nD τ sig (Elt F) Λ₀} {c : Dev nD}

theorem inbSem3 (j : ℕ) (hj : j < 3) : ∀ a, (![j] : Fin 1 → Nat) a + S1.size a ≤ S3.size a := by
  intro a; match a with
  | 0 => change j + 1 ≤ 3; omega

/-- The lists after the last block and the two tails. -/
def lists62 (A : S64x128.Idx → Elt F .f32) (B C : S250x128.Idx → Elt F .f32) (Y : S64x4608.Idx → Elt F .fp8e4m3) (Wt : S4608x32000.Idx → Elt F .fp8e4m3) : Lists F :=
  insert4 lanes (Scalar.addi 31360#32 0#32) (Scalar.addi 31360#32 128#32) (Scalar.addi 31360#32 256#32) (Scalar.addi 31360#32 384#32)
    (stAt A B C Y Wt 62).2 (stAt A B C Y Wt 62).1

def logitsT0 (A : S64x128.Idx → Elt F .f32) (B C : S250x128.Idx → Elt F .f32) (Y : S64x4608.Idx → Elt F .fp8e4m3) (Wt : S4608x32000.Idx → Elt F .fp8e4m3) : S64x512.Idx → Elt F .f32 :=
  putTile A B C 0 (by decide) 124 (by decide) (tailTo Y (tailAt Wt 15872 (by decide)) 36 (by decide)) (stAt A B C Y Wt 62).2

def listsT0 (A : S64x128.Idx → Elt F .f32) (B C : S250x128.Idx → Elt F .f32) (Y : S64x4608.Idx → Elt F .fp8e4m3) (Wt : S4608x32000.Idx → Elt F .fp8e4m3) : Lists F :=
  insert1 lanes 15872#32 (logitsT0 A B C Y Wt) (lists62 A B C Y Wt)

def logitsT1 (A : S64x128.Idx → Elt F .f32) (B C : S250x128.Idx → Elt F .f32) (Y : S64x4608.Idx → Elt F .fp8e4m3) (Wt : S4608x32000.Idx → Elt F .fp8e4m3) : S64x512.Idx → Elt F .f32 :=
  putTile A B C 0 (by decide) 249 (by decide) (tailTo Y (tailAt Wt 31872 (by decide)) 36 (by decide)) (logitsT0 A B C Y Wt)

def listsT1 (A : S64x128.Idx → Elt F .f32) (B C : S250x128.Idx → Elt F .f32) (Y : S64x4608.Idx → Elt F .fp8e4m3) (Wt : S4608x32000.Idx → Elt F .fp8e4m3) : Lists F :=
  insert1 lanes 31872#32 (logitsT1 A B C Y Wt) (listsT0 A B C Y Wt)

/-- The results, from the tokens, the weights, the columns' scales and the biases. -/
def codesOf (X : S64x4608.Idx → Elt F .bf16) : S64x4608.Idx → Elt F .fp8e4m3 := codes (extf .f32 X bitsLt_bf16_f32)
def scaleOf (X : S64x4608.Idx → Elt F .bf16) : S64x128.Idx → Elt F .f32 := scaleTile (extf .f32 X bitsLt_bf16_f32)
def listsOf (X : S64x4608.Idx → Elt F .bf16) (Wt : S4608x32000.Idx → Elt F .fp8e4m3) (B C : S250x128.Idx → Elt F .f32) : Lists F := listsT1 (scaleOf X) B C (codesOf X) Wt
def valsOf (X : S64x4608.Idx → Elt F .bf16) (Wt : S4608x32000.Idx → Elt F .fp8e4m3) (B C : S250x128.Idx → Elt F .f32) : S8x64.Idx → Elt F .f32 := first8 (getX (listsOf X Wt B C)).outV
def idxsOf (X : S64x4608.Idx → Elt F .bf16) (Wt : S4608x32000.Idx → Elt F .fp8e4m3) (B C : S250x128.Idx → Elt F .f32) : S8x64.Idx → Elt F .i32 := fptosi 32 (first8 (getX (listsOf X Wt B C)).outI)

section
variable (arg0 : Memref sig .tc .hbm S64x4608 .bf16) (harg0 : arg0.IsWhole) (arg1 : Memref sig .tc .hbm S4608x32000 .fp8e4m3) (harg1 : arg1.IsWhole) (arg2 : Memref sig .tc .hbm S250x128 .f32) (harg2 : arg2.IsWhole) (arg3 : Memref sig .tc .hbm S250x128 .f32) (harg3 : arg3.IsWhole) (arg4 : Memref sig .tc .vmem S8x64 .f32) (harg4 : arg4.IsWhole) (arg5 : Memref sig .tc .vmem S8x64 .i32) (harg5 : arg5.IsWhole) (arg6 : Memref sig .tc .hbm S64x4608 .fp8e4m3) (harg6 : arg6.IsWhole) (arg7 : Memref sig .tc .vmem S1x64 .f32) (harg7 : arg7.IsWhole) (arg8 : Memref sig .tc .vmem S64x4608 .bf16) (harg8 : arg8.IsWhole) (arg9 : Memref sig .tc .vmem S64x4608 .fp8e4m3) (harg9 : arg9.IsWhole) (arg10 : Memref sig .tc .vmem S64x128 .f32) (harg10 : arg10.IsWhole) (arg11 : Memref sig .tc .vmem S250x128 .f32) (harg11 : arg11.IsWhole) (arg12 : Memref sig .tc .vmem S250x128 .f32) (harg12 : arg12.IsWhole) (arg13 : Memref sig .tc .vmem S12x4608x512 .fp8e4m3) (harg13 : arg13.IsWhole) (arg14 : Memref sig .tc .vmem S2x4608x128 .fp8e4m3) (harg14 : arg14.IsWhole) (arg15 : Memref sig .tc .vmem S8x64x128 .f32) (harg15 : arg15.IsWhole) (arg16 : Memref sig .tc .vmem S8x64x128 .i32) (harg16 : arg16.IsWhole) (arg17 : Memref sig .tc .vmem S64x512 .f32) (harg17 : arg17.IsWhole) (arg18 : DmaSems sig S3) (arg19 : DmaSems sig S12) (arg20 : DmaSems sig S2) (arg21 : DmaSems sig S1)

abbrev sem18 (j : ℕ) (hj : j < 3) : DmaSem sig := ((arg18.slice (Rect.unit (s := S3) ![j] S1.size (inbSem3 j hj))).squeeze S_ squeezes_S1_S_).sem
abbrev sem21 : DmaSem sig := ((arg21.slice (Rect.unit (s := S1) ![0] S1.size inb_S1_S1_0)).squeeze S_ squeezes_S1_S_).sem

/-- A whole buffer on its way to another. -/
abbrev onWay {sp sp' : Space} {s : Shape} {e : EltTy} (src : Memref sig .tc sp s e) (dst : Memref sig .tc sp' s e) (sem : DmaSem sig) (c : Dev nD)
    (q : PosShare TreeShare) (X : s.Idx → Elt F e) : sProp 𝕄 :=
  Fl c sem dst.view.dmaCredit iprop(own c dst fullShare X ∗ own c src q X)

theorem does_starts (X : S64x4608.Idx → Elt F .bf16) (B C : S250x128.Idx → Elt F .f32) (Wt : S4608x32000.Idx → Elt F .fp8e4m3) (qs : ℕ → PosShare TreeShare)
    (X8 : S64x4608.Idx → Elt F .bf16) (B11 C12 : S250x128.Idx → Elt F .f32) :
    Does defs c iprop((own c arg0 fullShare X ∗ own c arg8 fullShare X8 ∗ cell0 c (sem18 arg18 0 (by decide))) ∗ ring arg1 arg13 arg19 c Wt qs (blkP 0) ∗
        (own c arg2 fullShare B ∗ own c arg11 fullShare B11 ∗ cell0 c (sem18 arg18 1 (by decide))) ∗ (own c arg3 fullShare C ∗ own c arg12 fullShare C12 ∗ cell0 c (sem18 arg18 2 (by decide))))
      (starts arg0 harg0 arg1 harg1 arg2 harg2 arg3 harg3 arg8 harg8 arg11 harg11 arg12 harg12 arg13 harg13 arg18 arg19) ⟨⟩
      iprop(onWay arg0 arg8 (sem18 arg18 0 (by decide)) c fullShare X ∗ ring arg1 arg13 arg19 c Wt qs (blkP 11) ∗
        onWay arg2 arg11 (sem18 arg18 1 (by decide)) c fullShare B ∗ onWay arg3 arg12 (sem18 arg18 2 (by decide)) c fullShare C) := by
  refine Does.bind (Does.frameR _ (does_start arg0 arg8 (sem18 arg18 0 (by decide)) _ _ _ fullShare X X8 (View.dmaCredit_pos _ (by decide)))) ?_
  refine Does.bind (Does.frameL _ (Does.frameR _ (does_startRing arg1 harg1 arg13 harg13 arg19 Wt qs 0 (by decide) _ _ _ _ _ _ _ _ (off1_eq 0) (off2_eq 0) rfl))) ?_
  refine Does.bind (Does.frameL _ (Does.frameR _ (does_startRing arg1 harg1 arg13 harg13 arg19 Wt qs 1 (by decide) _ _ _ _ _ _ _ _ (off1_eq 1) (off2_eq 1) rfl))) ?_
  refine Does.bind (Does.frameL _ (Does.frameL _ (Does.frameR _ (does_start arg2 arg11 (sem18 arg18 1 (by decide)) _ _ _ fullShare B B11 (View.dmaCredit_pos _ (by decide)))))) ?_
  refine Does.bind (Does.frameL _ (Does.frameL _ (Does.frameL _ (does_start arg3 arg12 (sem18 arg18 2 (by decide)) _ _ _ fullShare C C12 (View.dmaCredit_pos _ (by decide)))))) ?_
  refine Does.bind (Does.frameL _ (Does.frameR _ (does_startRing arg1 harg1 arg13 harg13 arg19 Wt qs 2 (by decide) _ _ _ _ _ _ _ _ (off1_eq 2) (off2_eq 2) rfl))) ?_
  refine Does.bind (Does.frameL _ (Does.frameR _ (does_startRing arg1 harg1 arg13 harg13 arg19 Wt qs 3 (by decide) _ _ _ _ _ _ _ _ (off1_eq 3) (off2_eq 3) rfl))) ?_
  refine Does.bind (Does.frameL _ (Does.frameR _ (does_startRing arg1 harg1 arg13 harg13 arg19 Wt qs 4 (by decide) _ _ _ _ _ _ _ _ (off1_eq 4) (off2_eq 4) rfl))) ?_
  refine Does.bind (Does.frameL _ (Does.frameR _ (does_startRing arg1 harg1 arg13 harg13 arg19 Wt qs 5 (by decide) _ _ _ _ _ _ _ _ (off1_eq 5) (off2_eq 5) rfl))) ?_
  refine Does.bind (Does.frameL _ (Does.frameR _ (does_startRing arg1 harg1 arg13 harg13 arg19 Wt qs 6 (by decide) _ _ _ _ _ _ _ _ (off1_eq 6) (off2_eq 6) rfl))) ?_
  refine Does.bind (Does.frameL _ (Does.frameR _ (does_startRing arg1 harg1 arg13 harg13 arg19 Wt qs 7 (by decide) _ _ _ _ _ _ _ _ (off1_eq 7) (off2_eq 7) rfl))) ?_
  refine Does.bind (Does.frameL _ (Does.frameR _ (does_startRing arg1 harg1 arg13 harg13 arg19 Wt qs 8 (by decide) _ _ _ _ _ _ _ _ (off1_eq 8) (off2_eq 8) rfl))) ?_
  refine Does.bind (Does.frameL _ (Does.frameR _ (does_startRing arg1 harg1 arg13 harg13 arg19 Wt qs 9 (by decide) _ _ _ _ _ _ _ _ (off1_eq 9) (off2_eq 9) rfl))) ?_
  exact Does.frameL _ (Does.frameR _ (does_startRing arg1 harg1 arg13 harg13 arg19 Wt qs 10 (by decide) _ _ _ _ _ _ _ _ (off1_eq 10) (off2_eq 10) rfl))

theorem does_waitX (D : sProp 𝕄) : Does (F := F) defs c iprop(Fl c (sem18 arg18 0 (by decide)) arg8.view.dmaCredit D ∗ ow c) (waitX arg0 harg0 arg8 harg8 arg18) ⟨⟩
    iprop((D ∗ cell0 c (sem18 arg18 0 (by decide))) ∗ ow c) := does_wait _ _ _ _ _ _ rfl D
theorem does_waitWs (D : sProp 𝕄) : Does (F := F) defs c iprop(Fl c (sem18 arg18 1 (by decide)) arg11.view.dmaCredit D ∗ ow c) (waitWs arg2 harg2 arg11 harg11 arg18) ⟨⟩
    iprop((D ∗ cell0 c (sem18 arg18 1 (by decide))) ∗ ow c) := does_wait _ _ _ _ _ _ rfl D
theorem does_waitB (D : sProp 𝕄) : Does (F := F) defs c iprop(Fl c (sem18 arg18 2 (by decide)) arg12.view.dmaCredit D ∗ ow c) (waitB arg3 harg3 arg12 harg12 arg18) ⟨⟩
    iprop((D ∗ cell0 c (sem18 arg18 2 (by decide))) ∗ ow c) := does_wait _ _ _ _ _ _ rfl D
theorem does_startCodes (q : PosShare TreeShare) (Y Z : S64x4608.Idx → Elt F .fp8e4m3) :
    Does defs c iprop(own c arg9 q Y ∗ own c arg6 fullShare Z ∗ cell0 c (sem21 arg21)) (startCodes arg6 harg6 arg9 harg9 arg21) ⟨⟩ (onWay arg9 arg6 (sem21 arg21) c q Y) :=
  does_start arg9 arg6 (sem21 arg21) _ _ _ q Y Z (View.dmaCredit_pos _ (by decide))
theorem does_waitCodes (D : sProp 𝕄) : Does (F := F) defs c iprop(Fl c (sem21 arg21) arg6.view.dmaCredit D ∗ ow c) (waitCodes arg6 harg6 arg9 harg9 arg21) ⟨⟩
    iprop((D ∗ cell0 c (sem21 arg21)) ∗ ow c) := does_wait _ _ _ _ _ _ rfl D
theorem does_waitTail0 (D : sProp 𝕄) : Does (F := F) defs c iprop(Fl c (tailSem arg20 0 (by decide)) (tailN arg14 0 (by decide)) D ∗ ow c) (waitTail0 arg1 harg1 arg14 harg14 arg20) ⟨⟩
    iprop((D ∗ cell0 c (tailSem arg20 0 (by decide))) ∗ ow c) := does_wait _ _ _ _ _ _ rfl D
theorem does_waitTail1 (D : sProp 𝕄) : Does (F := F) defs c iprop(Fl c (tailSem arg20 1 (by decide)) (tailN arg14 1 (by decide)) D ∗ ow c) (waitTail1 arg1 harg1 arg14 harg14 arg20) ⟨⟩
    iprop((D ∗ cell0 c (tailSem arg20 1 (by decide))) ∗ ow c) := does_wait _ _ _ _ _ _ rfl D

/-- What the body needs. -/
def bodyP (c : Dev nD) (X : S64x4608.Idx → Elt F .bf16) (Wt : S4608x32000.Idx → Elt F .fp8e4m3) (B C : S250x128.Idx → Elt F .f32) (qs : ℕ → PosShare TreeShare) : sProp 𝕄 :=
  iprop((own c arg0 fullShare X ∗ own c arg2 fullShare B ∗ own c arg3 fullShare C ∗ (∃ d, own c arg6 fullShare d)) ∗
    ((∃ d, own c arg4 fullShare d) ∗ (∃ d, own c arg5 fullShare d) ∗ (∃ d, own c arg7 fullShare d)) ∗
    ((∃ d, own c arg8 fullShare d) ∗ (∃ d, own c arg9 fullShare d) ∗ (∃ d, own c arg10 fullShare d) ∗ (∃ d, own c arg11 fullShare d) ∗ (∃ d, own c arg12 fullShare d) ∗
      (∃ d, own c arg15 fullShare d) ∗ (∃ d, own c arg16 fullShare d) ∗ (∃ d, own c arg17 fullShare d)) ∗
    (cell0 c (sem18 arg18 0 (by decide)) ∗ cell0 c (sem18 arg18 1 (by decide)) ∗ cell0 c (sem18 arg18 2 (by decide)) ∗ cell0 c (sem21 arg21)) ∗
    ring arg1 arg13 arg19 c Wt qs (blkP 0) ∗ tails arg1 arg14 arg20 c Wt qs 0 ∗ ow c)

/-- What it leaves. -/
def bodyQ (c : Dev nD) (X : S64x4608.Idx → Elt F .bf16) (Wt : S4608x32000.Idx → Elt F .fp8e4m3) (B C : S250x128.Idx → Elt F .f32) (qs : ℕ → PosShare TreeShare) : sProp 𝕄 :=
  iprop((own c arg0 fullShare X ∗ own c arg2 fullShare B ∗ own c arg3 fullShare C ∗ own c arg6 fullShare (codesOf X)) ∗
    (own c arg4 fullShare (valsOf X Wt B C) ∗ own c arg5 fullShare (idxsOf X Wt B C) ∗ own c arg7 fullShare (scaleRow (scaleOf X))) ∗
    ((∃ d, own c arg8 fullShare d) ∗ (∃ d, own c arg9 fullShare d) ∗ (∃ d, own c arg10 fullShare d) ∗ (∃ d, own c arg11 fullShare d) ∗ (∃ d, own c arg12 fullShare d) ∗
      (∃ d, own c arg15 fullShare d) ∗ (∃ d, own c arg16 fullShare d) ∗ (∃ d, own c arg17 fullShare d)) ∗
    (cell0 c (sem18 arg18 0 (by decide)) ∗ cell0 c (sem18 arg18 1 (by decide)) ∗ cell0 c (sem18 arg18 2 (by decide)) ∗ cell0 c (sem21 arg21)) ∗
    ring arg1 arg13 arg19 c Wt qs (blkP 0) ∗ tails arg1 arg14 arg20 c Wt qs 0 ∗ ow c)

theorem tails_done (Wt : S4608x32000.Idx → Elt F .fp8e4m3) (qs : ℕ → PosShare TreeShare) :
    tails arg1 arg14 arg20 c Wt qs 62 = iprop(Fl c (tailSem arg20 0 (by decide)) (tailN arg14 0 (by decide)) iprop(own c (tailP arg14 0 (by decide)) fullShare (tailAt Wt 15872 (by decide)) ∗ own c arg1 (qs 12) Wt) ∗
      Fl c (tailSem arg20 1 (by decide)) (tailN arg14 1 (by decide)) iprop(own c (tailP arg14 1 (by decide)) fullShare (tailAt Wt 31872 (by decide)) ∗ own c arg1 (qs 13) Wt)) := rfl

theorem tails_rest (Wt : S4608x32000.Idx → Elt F .fp8e4m3) (qs : ℕ → PosShare TreeShare) :
    tails arg1 arg14 arg20 c Wt qs 0 = iprop(((∃ G, own c (tailP arg14 0 (by decide)) fullShare G) ∗ cell0 c (tailSem arg20 0 (by decide)) ∗ own c arg1 (qs 12) Wt) ∗
      ((∃ G, own c (tailP arg14 1 (by decide)) fullShare G) ∗ cell0 c (tailSem arg20 1 (by decide)) ∗ own c arg1 (qs 13) Wt)) := rfl

theorem ring_end (Wt : S4608x32000.Idx → Elt F .fp8e4m3) (qs : ℕ → PosShare TreeShare) :
    ring arg1 arg13 arg19 c Wt qs (blk 62) = ring arg1 arg13 arg19 c Wt qs (blkP 0) := by
  rw [blkP_zero]; exact congrArg _ (funext blk_done)

theorem tripI_start (A : S64x128.Idx → Elt F .f32) (B C : S250x128.Idx → Elt F .f32) (Y : S64x4608.Idx → Elt F .fp8e4m3) (Wt : S4608x32000.Idx → Elt F .fp8e4m3) (qs : ℕ → PosShare TreeShare) :
    tripI arg1 arg9 arg10 arg11 arg12 arg13 arg14 arg15 arg16 arg17 arg19 arg20 c A B C Y Wt qs 0 =
      iprop((ring arg1 arg13 arg19 c Wt qs (blkP 11) ∗ tails arg1 arg14 arg20 c Wt qs 0 ∗ ow c) ∗ own c arg9 fullShare Y ∗
        (own c arg10 fullShare A ∗ own c arg11 fullShare B ∗ own c arg12 fullShare C) ∗ VI arg15 arg16 arg17 c noLists noLogits) := by
  rw [blkP_eleven]; rfl

theorem does_body (X : S64x4608.Idx → Elt F .bf16) (Wt : S4608x32000.Idx → Elt F .fp8e4m3) (B C : S250x128.Idx → Elt F .f32) (qs : ℕ → PosShare TreeShare) :
    Does defs c (bodyP arg0 arg1 arg2 arg3 arg4 arg5 arg6 arg7 arg8 arg9 arg10 arg11 arg12 arg13 arg14 arg15 arg16 arg17 arg18 arg19 arg20 arg21 c X Wt B C qs)
      (body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21) ⟨⟩
      (bodyQ arg0 arg1 arg2 arg3 arg4 arg5 arg6 arg7 arg8 arg9 arg10 arg11 arg12 arg13 arg14 arg15 arg16 arg17 arg18 arg19 arg20 arg21 c X Wt B C qs) := by
  intro K
  unfold body bodyP
  iintro ⟨⟨⟨H0, H2, H3, %d6, H6⟩, ⟨⟨%d4, H4⟩, ⟨%d5, H5⟩, ⟨%d7, H7⟩⟩, ⟨⟨%d8, H8⟩, ⟨%d9, H9⟩, ⟨%d10, H10⟩, ⟨%d11, H11⟩, ⟨%d12, H12⟩, ⟨%d15, H15⟩, ⟨%d16, H16⟩, ⟨%d17, H17⟩⟩, ⟨S0, S1, S2, S21⟩, HR, HT, Ho⟩, HK⟩
  iapply (Does.step (does_starts arg0 harg0 arg1 harg1 arg2 harg2 arg3 harg3 arg8 harg8 arg11 harg11 arg12 harg12 arg13 harg13 arg18 arg19 X B C Wt qs d8 d11 d12) K)
  isplitl [H0 H8 S0 HR H2 H11 S1 H3 H12 S2]
  · isplitl [H0 H8 S0]
    · isplitl [H0]; · iexact H0
      isplitl [H8]; · iexact H8
      iexact S0
    isplitl [HR]; · iexact HR
    isplitl [H2 H11 S1]
    · isplitl [H2]; · iexact H2
      isplitl [H11]; · iexact H11
      iexact S1
    isplitl [H3]; · iexact H3
    isplitl [H12]; · iexact H12
    iexact S2
  iintro ⟨FX, HR, FB, FC⟩
  iapply (Does.step (does_fills arg15 arg16 arg17 d15 d16 d17) K)
  isplitl [H15 H16 H17]
  · unfold VJ
    isplitl [H15]; · iexact H15
    isplitl [H16]; · iexact H16
    iexact H17
  iintro HV
  iapply (Does.step (does_waitX arg0 harg0 arg8 harg8 arg18 iprop(own c arg8 fullShare X ∗ own c arg0 fullShare X)) K)
  isplitl [FX Ho]
  · isplitl [FX]; · iexact FX
    iexact Ho
  iintro ⟨⟨⟨H8, H0⟩, S0⟩, Ho⟩
  iapply (Does.step (does_quant arg7 arg8 arg9 harg9 arg10 X d9 d10 d7) K)
  isplitl [H8 H9 H10 H7]
  · isplitl [H8]; · iexact H8
    isplitl [H9]; · iexact H9
    isplitl [H10]; · iexact H10
    iexact H7
  iintro ⟨H8, H9, H10, H7⟩
  iapply (Does.step (does_waitWs arg2 harg2 arg11 harg11 arg18 iprop(own c arg11 fullShare B ∗ own c arg2 fullShare B)) K)
  isplitl [FB Ho]
  · isplitl [FB]; · iexact FB
    iexact Ho
  iintro ⟨⟨⟨H11, H2⟩, S1⟩, Ho⟩
  iapply (Does.step (does_waitB arg3 harg3 arg12 harg12 arg18 iprop(own c arg12 fullShare C ∗ own c arg3 fullShare C)) K)
  isplitl [FC Ho]
  · isplitl [FC]; · iexact FC
    iexact Ho
  iintro ⟨⟨⟨H12, H3⟩, S2⟩, Ho⟩
  iapply (Does.step (does_loop (tripI arg1 arg9 arg10 arg11 arg12 arg13 arg14 arg15 arg16 arg17 arg19 arg20 c (scaleOf X) B C (codesOf X) Wt qs) _
    (fun t => does_trip arg1 harg1 arg9 arg10 arg11 arg12 arg13 harg13 arg14 harg14 arg15 arg16 arg17 arg19 arg20 (scaleOf X) B C (codesOf X) Wt qs t)) K)
  isplitl [HR HT Ho H9 H10 H11 H12 HV]
  · rw [tripI_start]
    isplitl [HR HT Ho]
    · isplitl [HR]; · iexact HR
      isplitl [HT]; · iexact HT
      iexact Ho
    isplitl [H9]; · iexact H9
    isplitl [H10 H11 H12]
    · isplitl [H10]; · iexact H10
      isplitl [H11]; · iexact H11
      iexact H12
    iexact HV
  unfold tripI
  rw [ring_end, tails_done]
  iintro ⟨⟨HR, ⟨T0, T1⟩, Ho⟩, H9, HS, HV⟩
  ihave H9' := (owns_halves (c : Thread nD τ) arg9 fullShare (codesOf X)).1 $$ H9
  icases H9' with ⟨H9l, H9r⟩
  iapply (Does.step (does_startCodes arg6 harg6 arg9 harg9 arg21 (fullShare : PosShare TreeShare).left (codesOf X) d6) K)
  isplitl [H9l H6 S21]
  · isplitl [H9l]; · iexact H9l
    isplitl [H6]; · iexact H6
    iexact S21
  iintro FY
  iapply (Does.step (does_ins4 arg15 arg16 arg17 lanes _ _ _ _ (stAt (scaleOf X) B C (codesOf X) Wt 62).1 (stAt (scaleOf X) B C (codesOf X) Wt 62).2) K)
  isplitl [HV]; · iexact HV
  iintro HV
  iapply (Does.step (does_waitTail0 arg1 harg1 arg14 harg14 arg20 iprop(own c (tailP arg14 0 (by decide)) fullShare (tailAt Wt 15872 (by decide)) ∗ own c arg1 (qs 12) Wt)) K)
  isplitl [T0 Ho]
  · isplitl [T0]; · iexact T0
    iexact Ho
  iintro ⟨⟨⟨G0, W0⟩, C0⟩, Ho⟩
  iapply (Does.step (does_tailRest arg9 arg10 arg11 arg12 arg14 arg15 arg16 arg17 (fullShare : PosShare TreeShare).right (scaleOf X) B C (codesOf X) 0 _ (tailAt Wt 15872 (by decide)) _ _ 124 _ rfl 15872#32
    (lists62 (scaleOf X) B C (codesOf X) Wt) (stAt (scaleOf X) B C (codesOf X) Wt 62).2) K)
  isplitl [H9r G0 HS HV]
  · isplitl [H9r G0]
    · isplitl [H9r]; · iexact H9r
      iexact G0
    isplitl [HS]; · iexact HS
    iexact HV
  iintro ⟨⟨H9r, G0⟩, HS, HV⟩
  iapply (Does.step (does_waitTail1 arg1 harg1 arg14 harg14 arg20 iprop(own c (tailP arg14 1 (by decide)) fullShare (tailAt Wt 31872 (by decide)) ∗ own c arg1 (qs 13) Wt)) K)
  isplitl [T1 Ho]
  · isplitl [T1]; · iexact T1
    iexact Ho
  iintro ⟨⟨⟨G1, W1⟩, C1⟩, Ho⟩
  iapply (Does.step (does_tailRest arg9 arg10 arg11 arg12 arg14 arg15 arg16 arg17 (fullShare : PosShare TreeShare).right (scaleOf X) B C (codesOf X) 1 _ (tailAt Wt 31872 (by decide)) _ _ 249 _ rfl 31872#32
    (listsT0 (scaleOf X) B C (codesOf X) Wt) (logitsT0 (scaleOf X) B C (codesOf X) Wt)) K)
  isplitl [H9r G1 HS HV]
  · isplitl [H9r G1]
    · isplitl [H9r]; · iexact H9r
      iexact G1
    isplitl [HS]; · iexact HS
    iexact HV
  iintro ⟨⟨H9r, G1⟩, ⟨H10, H11, H12⟩, HV⟩
  unfold VI VJ
  icases HV with ⟨H15, H16, H17⟩
  iapply (Does.step (does_extract arg4 arg5 arg15 arg16 (listsOf X Wt B C) d4 d5) K)
  isplitl [H15 H16 H4 H5]
  · isplitl [H15 H16]
    · isplitl [H15]; · iexact H15
      iexact H16
    isplitl [H4]; · iexact H4
    iexact H5
  iintro ⟨⟨H15, H16⟩, H4, H5⟩
  iapply (Does.step (does_waitCodes arg6 harg6 arg9 harg9 arg21 iprop(own c arg6 fullShare (codesOf X) ∗ own c arg9 (fullShare : PosShare TreeShare).left (codesOf X))) K)
  isplitl [FY Ho]
  · isplitl [FY]; · iexact FY
    iexact Ho
  iintro ⟨⟨⟨H6, H9l⟩, S21⟩, Ho⟩
  iapply (W_ret (defs := defs) (c := c) _ K)
  iapply HK
  unfold bodyQ
  rw [tails_rest]
  isplitl [H0 H2 H3 H6]
  · isplitl [H0]; · iexact H0
    isplitl [H2]; · iexact H2
    isplitl [H3]; · iexact H3
    iexact H6
  isplitl [H4 H5 H7]
  · isplitl [H4]; · iexact H4
    isplitl [H5]; · iexact H5
    iexact H7
  isplitl [H8 H9l H9r H10 H11 H12 H15 H16 H17]
  · isplitl [H8]; · iexists _; iexact H8
    isplitl [H9l H9r]
    · iexists _
      iapply (owns_halves (c : Thread nD τ) arg9 fullShare (codesOf X)).2
      isplitl [H9l]; · iexact H9l
      iexact H9r
    isplitl [H10]; · iexists _; iexact H10
    isplitl [H11]; · iexists _; iexact H11
    isplitl [H12]; · iexists _; iexact H12
    isplitl [H15]; · iexists _; iexact H15
    isplitl [H16]; · iexists _; iexact H16
    iexists _; iexact H17
  isplitl [S0 S1 S2 S21]
  · isplitl [S0]; · iexact S0
    isplitl [S1]; · iexact S1
    isplitl [S2]; · iexact S2
    iexact S21
  isplitl [HR]; · iexact HR
  isplitl [G0 W0 C0 G1 W1 C1]
  · isplitl [G0 C0 W0]
    · isplitl [G0]; · iexists _; iexact G0
      isplitl [C0]; · iexact C0
      iexact W0
    isplitl [G1]; · iexists _; iexact G1
    isplitl [C1]; · iexact C1
    iexact W1
  iexact Ho
end

end Cert.KS

end
-- ==== Proof.Owned.lean ====
module

public import proofs.«01_k».proof.Proof.Body
public import Idealize.ShloMosaic.Lib.Transfers
public import Idealize.ShloMosaic.Lib.Ring

/-! A launch's buffers and cells are what the body needs, and what it leaves is a launch's again. -/

@[expose] public section

noncomputable section

namespace Cert.KS

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F] [Cert.Kernel.Facts]

local notation "𝕄" => MT nD τ sig Unit (Elt F) ℕ (Pipeline.UD sig nD τ) ℕ

variable {defs : Defs nD τ sig (Elt F) Λ₀} {c : Dev nD}

section join
variable {sp : Space} {s : Shape} {e : EltTy} (mr : Memref sig .tc sp s e) {T : Type} [Fintype T] [DecidableEq T] (r : T → Rect s) (hr : ∀ t a, (r t).stride a = 1)
  (hd : ∀ t t', t ≠ t' → Disjoint (r t).set (r t').set) (hcov : (Finset.univ : Finset T).biUnion (fun t => (r t).set) = Finset.univ)
include hd hcov

/-- The parts of a buffer, each at anything, are the buffer at something. -/
theorem own_join (q : PosShare TreeShare) :
    BI.bigSep Finset.univ (fun t => iprop(∃ G, own c (mr.slice (r t) (hr t)) q G)) ⊢ (iprop(∃ X : s.Idx → Elt F e, own c mr q X) : sProp 𝕄) := by
  refine BIBase.Entails.trans (Idealize.SL.BI.bigSep_exists_pi Finset.univ (fun t (G : (r t).shape.Idx → Elt F e) => own c (mr.slice (r t) (hr t)) q G)) ?_
  iintro ⟨%G, H⟩
  have hex : ∀ i : s.Idx, ∃ p : Σ t, (r t).shape.Idx, (r p.1).emb p.2 = i := fun i => by
    obtain ⟨t, -, ht⟩ := Finset.mem_biUnion.mp (hcov.symm ▸ Finset.mem_univ i)
    obtain ⟨x, -, hx⟩ := Finset.mem_map.mp ((r t).map_emb_univ ▸ ht : i ∈ Finset.univ.map (r t).emb)
    exact ⟨⟨t, x⟩, hx⟩
  choose p hp using hex
  iexists (fun i => G (p i).1 (p i).2)
  have hG : ∀ t, G t = fun j => (fun i => G (p i).1 (p i).2) ((r t).emb j) := fun t => by
    funext j
    show G t j = G (p ((r t).emb j)).1 (p ((r t).emb j)).2
    have h := hp ((r t).emb j)
    generalize p ((r t).emb j) = w at h ⊢
    obtain ⟨t', j'⟩ := w
    by_cases e : t' = t
    · subst e
      exact congrArg (G t') ((r t').emb.injective h).symm
    · have m1 : (r t).emb j ∈ (r t).set := (r t).map_emb_univ ▸ Finset.mem_map_of_mem (r t).emb (Finset.mem_univ j)
      have m2 : (r t').emb j' ∈ (r t').set := (r t').map_emb_univ ▸ Finset.mem_map_of_mem (r t').emb (Finset.mem_univ j')
      exact absurd m1 (Finset.disjoint_left.mp (hd t' t e) (h ▸ m2))
  have hq : (BI.bigSep Finset.univ fun t => (own c (mr.slice (r t) (hr t)) q (G t) : sProp 𝕄)) ⊢ own c mr q (fun i => G (p i).1 (p i).2) :=
    BIBase.Entails.trans (BIBase.Entails.of_eq (BI.bigSep_congr fun t _ => congrArg (fun Z => (own c (mr.slice (r t) (hr t)) q Z : sProp 𝕄)) (hG t)))
      (owns_of_rects (c : Thread nD τ) mr q r hr hd hcov (fun i => G (p i).1 (p i).2))
  iapply hq
  iexact H

theorem own_parts (q : PosShare TreeShare) (X : s.Idx → Elt F e) :
    own c mr q X ⊢ (BI.bigSep Finset.univ (fun t => iprop(∃ G, own c (mr.slice (r t) (hr t)) q G)) : sProp 𝕄) :=
  BIBase.Entails.trans (owns_rects (c : Thread nD τ) mr q r hr hd hcov X) (BI.bigSep_mono fun t _ =>
    show own c (mr.slice (r t) (hr t)) q (fun j => X ((r t).emb j)) ⊢ (iprop(∃ G, own c (mr.slice (r t) (hr t)) q G) : sProp 𝕄) from by
      iintro H
      iexists _
      iexact H)
end join

theorem slot_disj : ∀ t t' : Fin 12, t ≠ t' → Disjoint (slotR t.val t.isLt).set (slotR t'.val t'.isLt).set := by
  intro t t' h
  refine Rect.unit_disjoint (0 : Fin 3) ?_
  have : t.val ≠ t'.val := fun e => h (Fin.ext e)
  change t.val + 1 ≤ t'.val ∨ t'.val + 1 ≤ t.val
  omega

theorem slot_cover : (Finset.univ : Finset (Fin 12)).biUnion (fun t => (slotR t.val t.isLt).set) = Finset.univ := by
  ext i
  simp only [Finset.mem_biUnion, Finset.mem_univ, true_and, iff_true]
  refine ⟨i 0, Rect.mem_set_unit.mpr fun a => ?_⟩
  match a with
  | 0 => exact ⟨Nat.le_refl _, Nat.lt_succ_self _⟩
  | 1 => exact ⟨Nat.zero_le _, (Nat.zero_add _).symm ▸ (i 1).isLt⟩
  | 2 => exact ⟨Nat.zero_le _, (Nat.zero_add _).symm ▸ (i 2).isLt⟩

theorem tail_disj : ∀ t t' : Fin 2, t ≠ t' → Disjoint (tailR t.val t.isLt).set (tailR t'.val t'.isLt).set := by
  intro t t' h
  refine Rect.unit_disjoint (0 : Fin 3) ?_
  have : t.val ≠ t'.val := fun e => h (Fin.ext e)
  change t.val + 1 ≤ t'.val ∨ t'.val + 1 ≤ t.val
  omega

theorem tail_cover : (Finset.univ : Finset (Fin 2)).biUnion (fun t => (tailR t.val t.isLt).set) = Finset.univ := by
  ext i
  simp only [Finset.mem_biUnion, Finset.mem_univ, true_and, iff_true]
  refine ⟨i 0, Rect.mem_set_unit.mpr fun a => ?_⟩
  match a with
  | 0 => exact ⟨Nat.le_refl _, Nat.lt_succ_self _⟩
  | 1 => exact ⟨Nat.zero_le _, (Nat.zero_add _).symm ▸ (i 1).isLt⟩
  | 2 => exact ⟨Nat.zero_le _, (Nat.zero_add _).symm ▸ (i 2).isLt⟩

/-- The shares of the weights: one for each slot and each tail. -/
def shares (i : ℕ) : PosShare TreeShare :=
  if i < 12 then Transfers.shareTokN fullShare i else if i = 12 then (Transfers.shareDrop fullShare 12).left else (Transfers.shareDrop fullShare 12).right

theorem own_shares (b : Ref sig .tc) (X : b.ty.shape.Idx → Elt F b.ty.elt) :
    (own c (Memref.whole b) fullShare X : sProp 𝕄) ⊣⊢
      iprop((BI.bigSep Finset.univ fun j : Fin 12 => own c (Memref.whole b) (shares j.val) X) ∗ own c (Memref.whole b) (shares 12) X ∗ own c (Memref.whole b) (shares 13) X) := by
  have e : (BI.bigSep Finset.univ fun j : Fin 12 => (own c (Memref.whole b) (shares j.val) X : sProp 𝕄)) =
      BI.bigSep Finset.univ fun j : Fin 12 => (((c : Thread nD τ).loc b) ↦{Transfers.shareTok fullShare 12 j} X) :=
    BI.bigSep_congr fun j _ => by
      rw [show shares j.val = Transfers.shareTokN fullShare j.val from if_pos j.isLt]
      exact owns_whole _ _ _ _
  have hT := Transfers.pointsTo_toks (Ix := Unit) (Val := Elt F) (Name := ℕ) (U := Pipeline.UD sig nD τ) (Lvl := ℕ) (ℓ := (c : Thread nD τ).loc b) (S := Finset.univ) (f := X) fullShare 12
  have hH := owns_halves (Ix := Unit) (Name := ℕ) (U := Pipeline.UD sig nD τ) (Lvl := ℕ) (c : Thread nD τ) (Memref.whole b) (Transfers.shareDrop fullShare 12) X
  rw [e]
  constructor
  · iintro H
    ihave H1 := (show (own c (Memref.whole b) fullShare X : sProp 𝕄) ⊢ _ from BIBase.Entails.trans (BIBase.Entails.of_eq (owns_whole _ _ _ _)) hT.1) $$ H
    icases H1 with ⟨HD, HT⟩
    isplitl [HT]; · iexact HT
    iapply hH.1
    iapply (BIBase.Entails.of_eq (owns_whole (c : Thread nD τ) b (Transfers.shareDrop fullShare 12) X).symm)
    iexact HD
  · iintro ⟨HT, HL, HR⟩
    iapply (BIBase.Entails.of_eq (owns_whole (c : Thread nD τ) b fullShare X).symm)
    iapply hT.2
    isplitl [HL HR]
    · iapply (BIBase.Entails.of_eq (owns_whole (c : Thread nD τ) b (Transfers.shareDrop fullShare 12) X))
      iapply hH.2
      isplitl [HL]; · iexact HL
      iexact HR
    iexact HT

section
variable (arg13 : Memref sig .tc .vmem S12x4608x512 .fp8e4m3) (arg14 : Memref sig .tc .vmem S2x4608x128 .fp8e4m3) (arg19 : DmaSems sig S12) (arg20 : DmaSems sig S2)

/-- The ring at rest and the tails at rest are the two buffers at anything, the cells at zero and the weights. -/
theorem rest_eq (arg1 : Memref sig .tc .hbm S4608x32000 .fp8e4m3) (Wt : S4608x32000.Idx → Elt F .fp8e4m3) (qs : ℕ → PosShare TreeShare) :
    (ring arg1 arg13 arg19 c Wt qs (blkP 0) : sProp 𝕄) =
      iprop((BI.bigSep Finset.univ fun j : Fin 12 => iprop(∃ G, own c (slotP arg13 j.val j.isLt) fullShare G)) ∗
        (BI.bigSep Finset.univ fun j : Fin 12 => cell0 c (semS arg19 j.val j.isLt)) ∗ (BI.bigSep Finset.univ fun j : Fin 12 => own c arg1 (qs j) Wt)) := by
  rw [blkP_zero]
  exact (BI.bigSep_sep Finset.univ _ _).trans (congrArg (BI.sep _) (BI.bigSep_sep Finset.univ _ _))

end

end Cert.KS

end
-- ==== Proof.Launch.lean ====
module

public import proofs.«01_k».proof.Proof.Gen.Kernel.Frame
public import proofs.«01_k».proof.Proof.Owned
public import Idealize.ShloMosaic.Lib.Pipeline.FrameSuffixV

/-! The whole program: the host's lines, the launch of the body, and what every buffer holds at the end. -/

@[expose] public section

set_option maxRecDepth 16384

noncomputable section

namespace Cert.KL

open Cert.Kernel Cert.Kernel.Gen Cert.KS
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own cells. -/
abbrev osem0 : Fin 18 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20]) j
theorem ownSemFacts0 : Pipeline.OwnSemFacts spec0 osem0 := by decide

/-- The arrays the body reads where they are, and the one it writes there. -/
abbrev H0 : Finset (Ref sig .tc) := {main_v0, main_arg1, main_v1, main_v2}
abbrev R0 : Finset (Ref sig .tc) := {main_v3_2}
theorem H0_sub : H0 ⊆ Pipeline.restRefs sig spec0 := by decide
theorem R0_sub : R0 ⊆ Pipeline.restRefs sig spec0 \ H0 := by decide

theorem ownSems00_eq (c : Dev nD) : (Pipeline.ownSems0 osem0 c : sProp 𝕄) =
    iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7, 8, 9, 10, 11, 12, 13, 14, 15, 16, 17] (by decide) (by decide)]; rfl

theorem cells12 (c : Dev nD) : (BI.bigSep Finset.univ fun j : Fin 12 => (cell0 c (semS cc0_scratch11 j.val j.isLt) : sProp 𝕄)) =
    iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [BI.bigSep_univ_eq_bigSepL [0, 1, 2, 3, 4, 5, 6, 7, 8, 9, 10, 11] (by decide) (by decide)]; rfl

theorem cells2 (c : Dev nD) : (BI.bigSep Finset.univ fun j : Fin 2 => iprop(∃ G, own (F := F) c (tailP (Memref.whole cc0_scratch6) j.val j.isLt) fullShare G)) =
    iprop((∃ G, own c (tailP (Memref.whole cc0_scratch6) 0 (by decide)) fullShare G) ∗ (∃ G, own c (tailP (Memref.whole cc0_scratch6) 1 (by decide)) fullShare G)) := by
  rw [BI.bigSep_univ_eq_bigSepL [0, 1] (by decide) (by decide)]; rfl

theorem tails_parts (c : Dev nD) (X : S2x4608x128.Idx → Elt F .fp8e4m3) : (own c (Memref.whole cc0_scratch6) fullShare X : sProp 𝕄) ⊢
    iprop((∃ G, own c (tailP (Memref.whole cc0_scratch6) 0 (by decide)) fullShare G) ∗ (∃ G, own c (tailP (Memref.whole cc0_scratch6) 1 (by decide)) fullShare G)) :=
  BIBase.Entails.trans (own_parts (Memref.whole cc0_scratch6) (fun j : Fin 2 => tailR j.val j.isLt) (fun _ _ => rfl) tail_disj tail_cover fullShare X) (BIBase.Entails.of_eq (cells2 (F := F) c))

theorem tails_join (c : Dev nD) :
    iprop((∃ G, own c (tailP (Memref.whole cc0_scratch6) 0 (by decide)) fullShare G) ∗ (∃ G, own c (tailP (Memref.whole cc0_scratch6) 1 (by decide)) fullShare G)) ⊢
      (iprop(∃ X : S2x4608x128.Idx → Elt F .fp8e4m3, own c (Memref.whole cc0_scratch6) fullShare X) : sProp 𝕄) :=
  BIBase.Entails.trans (BIBase.Entails.of_eq (cells2 (F := F) c).symm) (own_join (Memref.whole cc0_scratch6) (fun j : Fin 2 => tailR j.val j.isLt) (fun _ _ => rfl) tail_disj tail_cover fullShare)

theorem ring_join (c : Dev nD) :
    (BI.bigSep Finset.univ fun j : Fin 12 => iprop(∃ G, own (F := F) c (slotP (Memref.whole cc0_scratch5) j.val j.isLt) fullShare G)) ⊢
      (iprop(∃ X : S12x4608x512.Idx → Elt F .fp8e4m3, own c (Memref.whole cc0_scratch5) fullShare X) : sProp 𝕄) :=
  own_join (Memref.whole cc0_scratch5) (fun j : Fin 12 => slotR j.val j.isLt) (fun _ _ => rfl) slot_disj slot_cover fullShare

theorem H0_eq (c : Dev nD) (Z : (c : Dev nD) → (b : Ref sig .tc) → Buf (Elt F) ((c : Thread nD τ).loc b)) :
    (BI.bigSep H0 fun b => (((c : Thread nD τ).loc b) ↦{fullShare} Z c b : sProp 𝕄)) =
      iprop(own c (Memref.whole main_v0) fullShare (Z c main_v0) ∗ own c (Memref.whole main_arg1) fullShare (Z c main_arg1) ∗ own c (Memref.whole main_v1) fullShare (Z c main_v1) ∗ own c (Memref.whole main_v2) fullShare (Z c main_v2)) := by
  rw [BI.bigSep_eq_bigSepL_of_eq [main_v0, main_arg1, main_v1, main_v2] (by decide) (by decide)]
  simp only [owns_whole]; rfl

theorem R0_eq (c : Dev nD) (Z : (c : Dev nD) → (b : Ref sig .tc) → Buf (Elt F) ((c : Thread nD τ).loc b)) :
    (BI.bigSep R0 fun b => (((c : Thread nD τ).loc b) ↦{fullShare} Z c b : sProp 𝕄)) = own c (Memref.whole main_v3_2) fullShare (Z c main_v3_2) := by
  rw [BI.bigSep_eq_bigSepL_of_eq [main_v3_2] (by decide) (by decide)]; exact (owns_whole (c : Thread nD τ) main_v3_2 fullShare (Z c main_v3_2)).symm

theorem scoped_eq (c : Dev nD) : (Pipeline.scopedRest spec0 c : sProp 𝕄) = iprop((∃ d, own c (Memref.whole cc0_scratch0) fullShare d) ∗ (∃ d, own c (Memref.whole cc0_scratch1) fullShare d) ∗ (∃ d, own c (Memref.whole cc0_scratch2) fullShare d) ∗ (∃ d, own c (Memref.whole cc0_scratch3) fullShare d) ∗ (∃ d, own c (Memref.whole cc0_scratch4) fullShare d) ∗ (∃ d, own c (Memref.whole cc0_scratch5) fullShare d) ∗ (∃ d, own c (Memref.whole cc0_scratch6) fullShare d) ∗ (∃ d, own c (Memref.whole cc0_scratch7) fullShare d) ∗ (∃ d, own c (Memref.whole cc0_scratch8) fullShare d) ∗ (∃ d, own c (Memref.whole cc0_scratch9) fullShare d)) := by
  rw [scopedRest0_eq]; simp only [owns_whole]

/-- What the body finds in HBM. -/
abbrev tokens (c : Dev nD) : S64x4608.Idx → Elt F .bf16 := V m c main_v0
abbrev weights (c : Dev nD) : S4608x32000.Idx → Elt F .fp8e4m3 := V m c main_arg1
abbrev colScale (c : Dev nD) : S250x128.Idx → Elt F .f32 := V m c main_v1
abbrev biases (c : Dev nD) : S250x128.Idx → Elt F .f32 := V m c main_v2

/-- What it leaves there. -/
def G0 (c : Dev nD) : (b : Ref sig .tc) → Buf (Elt F) ((c : Thread nD τ).loc b) :=
  Function.update (V m c) main_v3_2 (codesOf (tokens m c))

theorem G0_codes (c : Dev nD) : G0 m c main_v3_2 = codesOf (tokens m c) := Function.update_self _ _ _

/-- The proof data: the arrays as the region finds them, the results staged, the buffers the body holds itself. -/
def dats (_ : Fin 1) (c : Dev nD) : Dat τ (Elt F) Unit ℕ (Pipeline.UD sig nD τ) ℕ cfg0 c where
  A w := V m c (Pipeline.arrRef spec0 w)
  after w t := match w with
    | ⟨0, _⟩ => valsOf (tokens m c) (weights m c) (colScale m c) (biases m c)
    | ⟨1, _⟩ => idxsOf (tokens m c) (weights m c) (colScale m c) (biases m c)
    | ⟨2, _⟩ => scaleRow (scaleOf (tokens m c))
  Φ t := Pipeline.ΦDRV osem0 spec0 H0 R0 (V m) (fun c => if t.val = 0 then V m c else G0 m c) c
  q _ := fullShare
  owed _ := 0

theorem A_eq (c : Dev nD) (w : Fin cfg0.W) : (dats m 0 c).A w = V m c (Pipeline.arrRef spec0 w) := by
  dsimp only [dats]

theorem Phi_eq (c : Dev nD) (G : (c : Dev nD) → (b : Ref sig .tc) → Buf (Elt F) ((c : Thread nD τ).loc b)) :
    (Pipeline.ΦDRV osem0 spec0 H0 R0 (V m) G c : sProp 𝕄) =
      iprop(iprop((∃ d, own c (Memref.whole cc0_scratch0) fullShare d) ∗ (∃ d, own c (Memref.whole cc0_scratch1) fullShare d) ∗ (∃ d, own c (Memref.whole cc0_scratch2) fullShare d) ∗ (∃ d, own c (Memref.whole cc0_scratch3) fullShare d) ∗ (∃ d, own c (Memref.whole cc0_scratch4) fullShare d) ∗ (∃ d, own c (Memref.whole cc0_scratch5) fullShare d) ∗ (∃ d, own c (Memref.whole cc0_scratch6) fullShare d) ∗ (∃ d, own c (Memref.whole cc0_scratch7) fullShare d) ∗ (∃ d, own c (Memref.whole cc0_scratch8) fullShare d) ∗ (∃ d, own c (Memref.whole cc0_scratch9) fullShare d)) ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗
        iprop(own c (Memref.whole main_v0) fullShare (tokens m c) ∗ own c (Memref.whole main_arg1) fullShare (weights m c) ∗ own c (Memref.whole main_v1) fullShare (colScale m c) ∗ own c (Memref.whole main_v2) fullShare (biases m c)) ∗
        own c (Memref.whole main_v3_2) fullShare (G c main_v3_2)) := by
  unfold Pipeline.ΦDRV
  rw [scoped_eq, ownSems00_eq, H0_eq, R0_eq]

theorem Phi_start (c : Dev nD) (t : Fin cfg0.N) : (dats m 0 c).Φ t.castSucc = (Pipeline.ΦDRV osem0 spec0 H0 R0 (V m) (V m) c : sProp 𝕄) := by
  have h : t.castSucc.val = 0 := by rw [fin_N0 t]; rfl
  show Pipeline.ΦDRV osem0 spec0 H0 R0 (V m) (fun c => if t.castSucc.val = 0 then V m c else G0 m c) c = _
  simp only [h, if_true]

theorem Phi_end (c : Dev nD) (t : Fin cfg0.N) : (dats m 0 c).Φ t.succ = (Pipeline.ΦDRV osem0 spec0 H0 R0 (V m) (G0 m) c : sProp 𝕄) := by
  have h : ¬ t.succ.val = 0 := Nat.succ_ne_zero _
  show Pipeline.ΦDRV osem0 spec0 H0 R0 (V m) (fun c => if t.succ.val = 0 then V m c else G0 m c) c = _
  simp only [h, if_false]

/-- The body at the launch. -/
def theBody (t : Fin cfg0.N) : Prog (TpuEff nD τ sig (Elt F) Λ₀ .tc) PUnit := KS.body (Memref.whole main_v0) (Memref.isWhole_whole _) (Memref.whole main_arg1) (Memref.isWhole_whole _) (Memref.whole main_v1) (Memref.isWhole_whole _) (Memref.whole main_v2) (Memref.isWhole_whole _) (win0_0.stage (cfg0.slots t 0)) (hstage0_0 0) (win0_1.stage (cfg0.slots t 1)) (hstage0_1 0) (Memref.whole main_v3_2) (Memref.isWhole_whole _) (win0_2.stage (cfg0.slots t 2)) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13

def bodyPre (c : Dev nD) (t : Fin cfg0.N) : sProp 𝕄 :=
  iprop((dats m 0 c).Φ t.castSucc ∗ (dats m 0 c).owesAt () t.castSucc
    ∗ (∃ d, own c (win0_0.stage (cfg0.slots t 0)) fullShare ((dats m 0 c).before 0 t d))
    ∗ (∃ d, own c (win0_1.stage (cfg0.slots t 1)) fullShare ((dats m 0 c).before 1 t d))
    ∗ (∃ d, own c (win0_2.stage (cfg0.slots t 2)) fullShare ((dats m 0 c).before 2 t d)))
def bodyPost (c : Dev nD) (t : Fin cfg0.N) : sProp 𝕄 :=
  iprop((dats m 0 c).Φ t.succ ∗ (dats m 0 c).owesAt () t.succ
    ∗ own c (win0_0.stage (cfg0.slots t 0)) fullShare ((dats m 0 c).after 0 t)
    ∗ own c (win0_1.stage (cfg0.slots t 1)) fullShare ((dats m 0 c).after 1 t)
    ∗ own c (win0_2.stage (cfg0.slots t 2)) fullShare ((dats m 0 c).after 2 t))

set_option maxHeartbeats 1600000 in
theorem pre_in (c : Dev nD) (t : Fin cfg0.N) :
    bodyPre m c t ⊢ bodyP (Memref.whole main_v0) (Memref.whole main_arg1) (Memref.whole main_v1) (Memref.whole main_v2) (win0_0.stage (cfg0.slots t 0)) (win0_1.stage (cfg0.slots t 1)) (Memref.whole main_v3_2) (win0_2.stage (cfg0.slots t 2)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 c (tokens m c) (weights m c) (colScale m c) (biases m c) shares := by
  unfold bodyPre
  rw [Phi_start, Phi_eq]
  unfold Dat.owesAt Pipeline.owesWithin
  rw [show (dats m 0 c).owed t.castSucc = 0 from rfl]
  iintro ⟨⟨⟨H8, H9, H10, H11, H12, H13, H14, H15, H16, H17⟩, ⟨S3, S4, S5, S6, S7, S8, S9, S10, S11, S12, S13, S14, S15, S16, S17, S18, S19, S20⟩, ⟨HX, HW, HB, HC⟩, H6⟩, ⟨%W, -, Ho⟩, ⟨%d4, H4⟩, ⟨%d5, H5⟩, ⟨%d7, H7⟩⟩
  icases H13 with ⟨%d13, H13⟩
  icases H14 with ⟨%d14, H14⟩
  ihave H13' := (own_parts (Memref.whole cc0_scratch5) (fun j : Fin 12 => slotR j.val j.isLt) (fun _ _ => rfl) slot_disj slot_cover fullShare d13) $$ H13
  ihave H14' := (tails_parts c d14) $$ H14
  icases H14' with ⟨T0, T1⟩
  ihave HW' := (own_shares main_arg1 (weights m c)).1 $$ HW
  icases HW' with ⟨HW, W12, W13⟩
  unfold bodyP
  rw [rest_eq, tails_rest, cells12]
  isplitl [HX HB HC H6]
  · isplitl [HX]; · iexact HX
    isplitl [HB]; · iexact HB
    isplitl [HC]; · iexact HC
    iexists _; iexact H6
  isplitl [H4 H5 H7]
  · isplitl [H4]; · iexists _; iexact H4
    isplitl [H5]; · iexists _; iexact H5
    iexists _; iexact H7
  isplitl [H8 H9 H10 H11 H12 H15 H16 H17]
  · isplitl [H8]; · iexact H8
    isplitl [H9]; · iexact H9
    isplitl [H10]; · iexact H10
    isplitl [H11]; · iexact H11
    isplitl [H12]; · iexact H12
    isplitl [H15]; · iexact H15
    isplitl [H16]; · iexact H16
    iexact H17
  isplitl [S3 S4 S5 S20]
  · isplitl [S3]; · iexact S3
    isplitl [S4]; · iexact S4
    isplitl [S5]; · iexact S5
    iexact S20
  isplitl [H13' HW S6 S7 S8 S9 S10 S11 S12 S13 S14 S15 S16 S17]
  · isplitl [H13']; · iexact H13'
    isplitr [HW]
    · isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      iexact S17
    iexact HW
  isplitl [T0 S18 W12 T1 S19 W13]
  · isplitl [T0 S18 W12]
    · isplitl [T0]; · iexact T0
      isplitl [S18]; · iexact S18
      iexact W12
    isplitl [T1]; · iexact T1
    isplitl [S19]; · iexact S19
    iexact W13
  unfold ow
  iexists W; iexact Ho

set_option maxHeartbeats 1600000 in
theorem post_out (c : Dev nD) (t : Fin cfg0.N) :
    bodyQ (Memref.whole main_v0) (Memref.whole main_arg1) (Memref.whole main_v1) (Memref.whole main_v2) (win0_0.stage (cfg0.slots t 0)) (win0_1.stage (cfg0.slots t 1)) (Memref.whole main_v3_2) (win0_2.stage (cfg0.slots t 2)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 c (tokens m c) (weights m c) (colScale m c) (biases m c) shares ⊢ bodyPost m c t := by
  unfold bodyQ
  rw [rest_eq, tails_rest, cells12]
  iintro ⟨⟨HX, HB, HC, H6⟩, ⟨H4, H5, H7⟩, ⟨H8, H9, H10, H11, H12, H15, H16, H17⟩, ⟨S3, S4, S5, S20⟩, ⟨H13, ⟨S6, S7, S8, S9, S10, S11, S12, S13, S14, S15, S16, S17⟩, HW⟩, ⟨⟨T0, S18, W12⟩, ⟨T1, S19, W13⟩⟩, Ho⟩
  unfold ow
  icases Ho with ⟨%W', Ho⟩
  ihave H13' := (ring_join (F := F) c) $$ H13
  unfold bodyPost
  rw [Phi_end, Phi_eq, G0_codes]
  unfold Dat.owesAt Pipeline.owesWithin
  rw [show (dats m 0 c).owed t.succ = 0 from rfl]
  isplitr [Ho H4 H5 H7]
  · isplitl [H8 H9 H10 H11 H12 H13' T0 T1 H15 H16 H17]
    · isplitl [H8]; · iexact H8
      isplitl [H9]; · iexact H9
      isplitl [H10]; · iexact H10
      isplitl [H11]; · iexact H11
      isplitl [H12]; · iexact H12
      isplitl [H13']; · iexact H13'
      isplitl [T0 T1]
      · iapply (tails_join (F := F) c)
        isplitl [T0]; · iexact T0
        iexact T1
      isplitl [H15]; · iexact H15
      isplitl [H16]; · iexact H16
      iexact H17
    isplitl [S3 S4 S5 S6 S7 S8 S9 S10 S11 S12 S13 S14 S15 S16 S17 S18 S19 S20]
    · isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      iexact S20
    isplitl [HX HW W12 W13 HB HC]
    · isplitl [HX]; · iexact HX
      isplitl [HW W12 W13]
      · iapply (own_shares main_arg1 (weights m c)).2
        isplitl [HW]; · iexact HW
        isplitl [W12]; · iexact W12
        iexact W13
      isplitl [HB]; · iexact HB
      iexact HC
    iexact H6
  isplitl [Ho]
  · iexists W'; isplitr
    · ipureintro; exact fun _ _ => Or.inl trivial
    iexact Ho
  isplitl [H4]; · iexact H4
  isplitl [H5]; · iexact H5
  iexact H7

theorem sound_body (c : Dev nD) (t : Fin cfg0.N) :
    bodyPre m c t ⊢ wp frame (wpE (defs₀ (F := F)) Variants.none (c : Thread nD τ) none) Set.univ (theBody t) (fun _ => bodyPost m c t) := by
  refine BIBase.Entails.trans ?_ ((does_body (defs := defs₀ (F := F)) (Memref.whole main_v0) (Memref.isWhole_whole _) (Memref.whole main_arg1) (Memref.isWhole_whole _) (Memref.whole main_v1) (Memref.isWhole_whole _) (Memref.whole main_v2) (Memref.isWhole_whole _) (win0_0.stage (cfg0.slots t 0)) (hstage0_0 0) (win0_1.stage (cfg0.slots t 1)) (hstage0_1 0) (Memref.whole main_v3_2) (Memref.isWhole_whole _) (win0_2.stage (cfg0.slots t 2)) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 (tokens m c) (weights m c) (colScale m c) (biases m c) shares).conseq (pre_in m c t) (post_out m c t) (fun _ => bodyPost m c t))
  iintro H
  isplitl [H]; · iexact H
  iintro H; iexact H

/-- The launch's body is `theBody`. -/
def SameBody (F : FTy → Type) [FloatOps F] : Prop := ∀ t : Fin cfg0.N, bodyAt0 (F := F) t = theBody t

theorem defs_tc : defs₀ (F := F) .tc cfg0.body = fun a => defs₀ (F := F) .tc cfg0.body a := rfl

theorem defs₀_row (t : Fin cfg0.N) : defs₀ (F := F) .tc cfg0.body (cfg0.bodyArgs t (cfg0.slots t)) = bodyAt0 t := by
  unfold defs₀; rw [Defs.onTc_tc]

theorem body_obligation (hs : SameBody F) (c : Dev nD) : BodyObligation (dats (F := F) m 0 c) (defs₀ (F := F)) Variants.none () Set.univ := fun t => by
  rw [bigSep_W0, bigSep_W0, defs₀_row, hs]
  exact triple_restated (sound_body m c t) rfl .rfl fun _ => .rfl

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer of the host holds at the end. -/
def endAt (c : Dev nD) (b : Ref sig .tc) : Buf (Elt F) ((c : Thread nD τ).loc b) :=
  StableHlo.after ([hostOps1] : List (List (HloOp τ sig (Elt F)))).flatten
    (Pipeline.withArrays spec0 c (Pipeline.withR (V0 m c) R0 c (G0 m c)) fun w => (dats m 0 c).arrAt w cfg0.N) (Proc.devRef .tc b)

set_option backward.isDefEq.respectTransparency.types false in
theorem run_main (hs : SameBody F) : θ_run defs (onTc (τ := τ) (main (F := F))) (s₀ m ρ)
    (fun r => (∀ c : Dev nD, ∀ b ∈ Pipeline.restRefs sig spec0, r.2.mem ((c : Thread nD τ).loc b) = endAt m c b) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m hs c).loose) (hshare := fun c => (dats m 0 c).share_full fun _ => rfl)
    (howed := fun _ _ => rfl) (V₀ := V0 m) (opss := [hostOps1]) (hsub := sfx_sub) (hfresh := sfx_fresh) (hkeep := sfx_keeps) (G := G0 m)
    (hmain := hmainD m Variants.none) (hA := A_eq m)
    (hin := fun c => (BIBase.Entails.of_eq (Phi_start m c t0_0).symm)) (hout := fun c => (BIBase.Entails.of_eq (Phi_end m c t0_0)))
    (Q' := _) (hQ' := fun r h => ⟨fun c => (h.1 c).2, h.2⟩)

/-- No line of the host after the launch writes an argument. -/
theorem end_arg (c : Dev nD) (b : Ref sig .tc) (h1 : ∀ op ∈ ([hostOps1] : List (List (HloOp τ sig (Elt F)))).flatten, Proc.devRef .tc b ∉ op.writes)
    (h2 : ∀ w, Pipeline.arrRef spec0 w ≠ b) (h3 : b ∉ R0) : endAt m c b = V m c b := by
  unfold endAt
  rw [StableHlo.after_of_forall_not_mem (b := Proc.devRef .tc b) _ _ h1, Pipeline.withArrays_of_ne _ c _ _ b h2, Pipeline.withR_of_not_mem _ _ _ _ _ h3]

theorem end_arg0 (c : Dev nD) : endAt m c main_arg0 = m ((c : Thread nD τ).loc main_arg0) := by
  rw [end_arg m c main_arg0 (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))) (by exact (by decide : ∀ w, Pipeline.arrRef spec0 w ≠ main_arg0)) (by decide)]
  exact V_main_arg0 m c

theorem end_arg1 (c : Dev nD) : endAt m c main_arg1 = m ((c : Thread nD τ).loc main_arg1) := by
  rw [end_arg m c main_arg1 (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))) (by exact (by decide : ∀ w, Pipeline.arrRef spec0 w ≠ main_arg1)) (by decide)]
  exact V_main_arg1 m c

theorem end_arg2 (c : Dev nD) : endAt m c main_arg2 = m ((c : Thread nD τ).loc main_arg2) := by
  rw [end_arg m c main_arg2 (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))) (by exact (by decide : ∀ w, Pipeline.arrRef spec0 w ≠ main_arg2)) (by decide)]
  exact V_main_arg2 m c

theorem end_arg3 (c : Dev nD) : endAt m c main_arg3 = m ((c : Thread nD τ).loc main_arg3) := by
  rw [end_arg m c main_arg3 (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))) (by exact (by decide : ∀ w, Pipeline.arrRef spec0 w ≠ main_arg3)) (by decide)]
  exact V_main_arg3 m c

/-- The program ends with its arguments as they were and every cell at zero. -/
theorem quiescent (hs : SameBody F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (h.1 c main_arg0 (Pipeline.mem_restRefs_of main_arg0 (by decide) (by decide))).trans (end_arg0 m c),
      (h.1 c main_arg1 (Pipeline.mem_restRefs_of main_arg1 (by decide) (by decide))).trans (end_arg1 m c),
      (h.1 c main_arg2 (Pipeline.mem_restRefs_of main_arg2 (by decide) (by decide))).trans (end_arg2 m c),
      (h.1 c main_arg3 (Pipeline.mem_restRefs_of main_arg3 (by decide) (by decide))).trans (end_arg3 m c)⟩, h.2⟩) (run_main m ρ hs)

end Cert.KL

end
-- ==== Proof.Kernels.lean ====
module

public import proofs.«01_k».proof.Proof.SameBits
public import proofs.«01_k».proof.Proof.SameIdeal
public import proofs.«01_k».proof.Proof.Carry
public import proofs.«01_k».proof.Proof.Gen.KernelIdeal
public import proofs.«01_k».proof.Proof.Launch

/-! The launch over the formats' bits and over the extended reals. -/

@[expose] public section

set_option maxRecDepth 16384

noncomputable section

namespace Cert.KL

open Idealize.ShloMosaic Idealize.ShloMosaic.TcCoe Idealize.SL.Sem

theorem same_bits : SameBody Bits := fun t => by
  unfold Cert.Kernel.Gen.bodyAt0 theBody
  exact Cert.KS.sameBits _ _ _ _ _ _ _ _ _ _ _ _ _ _ _ _ _ _ _ _ _ _ _ _ _ _ _ _ _ _ _ _ _ _ _ _ _ _ _ _ _

theorem same_ideal : SameBody Ideal := fun t => by
  unfold Cert.Kernel.Gen.bodyAt0 theBody
  exact Cert.KS.sameIdeal _ _ _ _ _ _ _ _ _ _ _ _ _ _ _ _ _ _ _ _ _ _ _ _ _ _ _ _ _ _ _ _ _ _ _ _ _ _ _ _ _

theorem defsIdeal : Cert.KernelIdeal.defs (F := Ideal) = Cert.Kernel.defs (F := Ideal) := Cert.KS.carryDefs Cert.Kernel.Gen.facts

theorem mainIdeal : Cert.KernelIdeal.main (F := Ideal) = Cert.Kernel.main (F := Ideal) := rfl

end Cert.KL

end
-- ==== Proof.ValLogits.lean ====
module

public import proofs.«01_k».proof.Proof.Trip
public import Idealize.ShloMosaic.PureOps.Ideal
public import Idealize.ShloMosaic.Lib.Pointwise

/-! The logits, over the extended reals: a sum over the columns of the codes, whatever its chunks. -/

@[expose] public section

set_option maxRecDepth 16384

noncomputable section

namespace Cert.VL

open Idealize.ShloMosaic Cert.Kernel Cert.KS

variable [Cert.Kernel.Facts]

theorem emb2 {a b m n : ℕ} (r c : ℕ) (h) (i : Fin m) (j : Fin n) (hi : r + i.val < a) (hj : c + j.val < b) :
    (Rect.unit (s := ⟨2, ![a, b]⟩) ![r, c] ![m, n] h).emb (ix2 i j) = ix2 ⟨r + i.val, hi⟩ ⟨c + j.val, hj⟩ := by
  funext x
  match x with
  | 0 => exact Fin.ext (by show r + 1 * i.val = r + i.val; omega)
  | 1 => exact Fin.ext (by show c + 1 * j.val = c + j.val; omega)

theorem emb3 {a b c m n o : ℕ} (r s t : ℕ) (h) (i : Fin m) (j : Fin n) (k : Fin o) (hi : r + i.val < a) (hj : s + j.val < b) (hk : t + k.val < c) :
    (Rect.unit (s := ⟨3, ![a, b, c]⟩) ![r, s, t] ![m, n, o] h).emb (ix3 i j k) = ix3 ⟨r + i.val, hi⟩ ⟨s + j.val, hj⟩ ⟨t + k.val, hk⟩ := by
  funext x
  match x with
  | 0 => exact Fin.ext (by show r + 1 * i.val = r + i.val; omega)
  | 1 => exact Fin.ext (by show s + 1 * j.val = s + j.val; omega)
  | 2 => exact Fin.ext (by show t + 1 * k.val = t + k.val; omega)

theorem blkAt_at (Wt : S4608x32000.Idx → Elt Ideal .fp8e4m3) (n : ℕ) (hn : n + 512 ≤ 32000) (k : Fin 4608) (j : Fin 512) :
    blkAt Wt n hn (ix3 0 k j) = Wt (ix2 k ⟨n + j.val, by omega⟩) := by
  have e : blkAt Wt n hn = shapeCast (s := S4608x512) S1x4608x512 (fun i => Wt ((Rect.unit (s := S4608x32000) ![0, n] S4608x512.size (inbCols n hn)).emb i)) rfl := rfl
  rw [e]
  pointwise []
  rw [emb2 0 n _ k j (by omega) (by omega)]
  congr 2
  exact Fin.ext (Nat.zero_add _)

theorem tailAt_at (Wt : S4608x32000.Idx → Elt Ideal .fp8e4m3) (n : ℕ) (hn : n + 128 ≤ 32000) (k : Fin 4608) (j : Fin 128) :
    tailAt Wt n hn (ix3 0 k j) = Wt (ix2 k ⟨n + j.val, by omega⟩) := by
  have e : tailAt Wt n hn = shapeCast (s := S4608x128) S1x4608x128 (fun i => Wt ((Rect.unit (s := S4608x32000) ![0, n] S4608x128.size (inbTCols n hn)).emb i)) rfl := rfl
  rw [e]
  pointwise []
  rw [emb2 0 n _ k j (by omega) (by omega)]
  congr 2
  exact Fin.ext (Nat.zero_add _)

theorem chunk_at (Y : S64x4608.Idx → Elt Ideal .fp8e4m3) (G : S1x4608x512.Idx → Elt Ideal .fp8e4m3) (k : ℕ) (hk : k + 1152 ≤ 4608) (acc : FVec Ideal S64x512 .f32)
    (p : Fin 64) (j : Fin 512) (f : Fin 4608 → EReal) (hf : ∀ x, f x = (Y (ix2 p x) * G (ix3 0 x j) : EReal)) :
    chunkVal Y G k hk acc (ix2 p j) = (acc (ix2 p j) + ∑ x : Fin 1152, f ⟨k + x.val, by omega⟩ : EReal) := by
  pointwise [chunkVal]
  congr 1
  refine Finset.sum_congr rfl fun x _ => ?_
  rw [hf]
  congr 2
  · rw [emb2 0 k _ p x (by omega) (by omega)]
    congr 1
    exact Fin.ext (Nat.zero_add _)
  · rw [emb3 0 k 0 _ 0 x j (by decide) (by omega) (by omega)]
    congr 1
    exact Fin.ext (Nat.zero_add _)

theorem block_at (Y : S64x4608.Idx → Elt Ideal .fp8e4m3) (G : S1x4608x512.Idx → Elt Ideal .fp8e4m3)
    (p : Fin 64) (j : Fin 512) : blockVal Y G (ix2 p j) = (∑ x : Fin 4608, Y (ix2 p x) * G (ix3 0 x j) : EReal) := by
  rw [Fin.sum_univ_tiles 4 1152 rfl, Fin.sum_univ_four]
  unfold blockVal
  rw [chunk_at Y G 3456 _ _ p j _ (fun _ => rfl), chunk_at Y G 2304 _ _ p j _ (fun _ => rfl), chunk_at Y G 1152 _ _ p j _ (fun _ => rfl),
    chunk_at Y G 0 _ _ p j _ (fun _ => rfl)]
  have z : (broadcast S64x512 (Scalar.ofBits .f32 0x00000000#32) : FVec Ideal S64x512 .f32) (ix2 p j) = (0 : EReal) := by
    pointwise []
  rw [z, zero_add]
  rfl

theorem tchunk_at (Y : S64x4608.Idx → Elt Ideal .fp8e4m3) (G : S1x4608x128.Idx → Elt Ideal .fp8e4m3) (k : ℕ) (hk : k + 128 ≤ 4608) (acc : FVec Ideal S64x128 .f32)
    (p : Fin 64) (j : Fin 128) (f : Fin 4608 → EReal) (hf : ∀ x, f x = (Y (ix2 p x) * G (ix3 0 x j) : EReal)) :
    tchunkVal Y G k hk acc (ix2 p j) = (acc (ix2 p j) + ∑ x : Fin 128, f ⟨k + x.val, by omega⟩ : EReal) := by
  pointwise [tchunkVal]
  congr 1
  refine Finset.sum_congr rfl fun x _ => ?_
  rw [hf]
  congr 2
  · rw [emb2 0 k _ p x (by omega) (by omega)]
    congr 1
    exact Fin.ext (Nat.zero_add _)
  · rw [emb3 0 k 0 _ 0 x j (by decide) (by omega) (by omega)]
    congr 1
    exact Fin.ext (Nat.zero_add _)

theorem tailTo_at (Y : S64x4608.Idx → Elt Ideal .fp8e4m3) (G : S1x4608x128.Idx → Elt Ideal .fp8e4m3)
    (p : Fin 64) (j : Fin 128) (f : Fin 4608 → EReal) (hf : ∀ x, f x = (Y (ix2 p x) * G (ix3 0 x j) : EReal)) (n : ℕ) (hn : n ≤ 36) :
    tailTo Y G n hn (ix2 p j) = (∑ i : Fin n, ∑ x : Fin 128, f ⟨128 * i.val + x.val, by omega⟩ : EReal) := by
  induction n with
  | zero => simp only [tailTo]; pointwise []; rfl
  | succ n ih =>
    rw [Fin.sum_univ_castSucc, tailTo, tchunk_at Y G _ _ _ p j f hf, ih]
    rfl

theorem tail_at (Y : S64x4608.Idx → Elt Ideal .fp8e4m3) (G : S1x4608x128.Idx → Elt Ideal .fp8e4m3)
    (p : Fin 64) (j : Fin 128) : tailTo Y G 36 (by decide) (ix2 p j) = (∑ x : Fin 4608, Y (ix2 p x) * G (ix3 0 x j) : EReal) := by
  rw [Fin.sum_univ_tiles 36 128 rfl, tailTo_at Y G p j _ (fun _ => rfl)]
  refine Finset.sum_congr rfl fun i _ => Finset.sum_congr rfl fun x _ => ?_
  simp only [Nat.mul_comm 128]

/-- The logit of a row, a tile of columns and a lane. -/
def logit (A : S64x128.Idx → Elt Ideal .f32) (B C : S250x128.Idx → Elt Ideal .f32) (Y : S64x4608.Idx → Elt Ideal .fp8e4m3)
    (Wt : S4608x32000.Idx → Elt Ideal .fp8e4m3) (p : Fin 64) (g : Fin 250) (l : Fin 128) : EReal :=
  (∑ x : Fin 4608, Y (ix2 p x) * Wt (ix2 x ⟨128 * g.val + l.val, by omega⟩)) * A (ix2 p l) * B (ix2 g l) + C (ix2 g l)

theorem putTile_in (A : S64x128.Idx → Elt Ideal .f32) (B C : S250x128.Idx → Elt Ideal .f32) (t : ℕ) (ht : t + 128 ≤ 512) (g : ℕ) (hg : g < 250)
    (acc : FVec Ideal S64x128 .f32) (L : S64x512.Idx → Elt Ideal .f32) (p : Fin 64) (l : Fin 128) (q : Fin 512) (hq : q.val = t + l.val) :
    putTile A B C t ht g hg acc L (ix2 p q) = (acc (ix2 p l) * A (ix2 p l) * B (ix2 ⟨g, hg⟩ l) + C (ix2 ⟨g, hg⟩ l) : EReal) := by
  have e : ix2 p q = (Rect.unit (s := S64x512) ![0, t] S64x128.size (inbS t ht)).emb (ix2 p l) := by
    rw [emb2 0 t _ p l (by omega) (by omega)]
    congr 1
    · exact Fin.ext (Nat.zero_add _).symm
    · exact Fin.ext hq
  rw [e, putTile, Rect.overlay_emb]
  pointwise [scaled, rdRow]
  rw [emb2 g 0 _ 0 l (by omega) (by omega)]
  simp only [Nat.zero_add, Fin.val_zero, Nat.add_zero]

theorem putTile_out (A : S64x128.Idx → Elt Ideal .f32) (B C : S250x128.Idx → Elt Ideal .f32) (t : ℕ) (ht : t + 128 ≤ 512) (g : ℕ) (hg : g < 250)
    (acc : FVec Ideal S64x128 .f32) (L : S64x512.Idx → Elt Ideal .f32) (p : Fin 64) (q : Fin 512) (hq : q.val < t ∨ t + 128 ≤ q.val) :
    putTile A B C t ht g hg acc L (ix2 p q) = L (ix2 p q) := by
  refine Rect.overlay_of_not_mem _ _ _ fun h => ?_
  rw [← Rect.map_emb_univ, Finset.mem_map] at h
  obtain ⟨i, _, hi⟩ := h
  have h1 : t + 1 * (i 1).val = q.val := congrArg (fun x : S64x512.Idx => (x 1).val) hi
  have h2 : (i 1).val < 128 := (i 1).isLt
  omega

theorem slice_at (acc : FVec Ideal S64x512 .f32) (t : ℕ) (ht : t + 128 ≤ 512) (h) (p : Fin 64) (l : Fin 128) :
    extractStridedSlice S64x128 ![0, t] acc h (ix2 p l) = acc (ix2 p ⟨t + l.val, by omega⟩) := by
  show acc _ = acc _
  congr 1
  funext x
  match x with
  | 0 => exact Fin.ext (by show 0 + p.val = p.val; omega)
  | 1 => exact Fin.ext rfl

theorem colOf_mul : ∀ t : Fin 62, colOf t.val = 128 * (colOf t.val / 128) := by decide

/-- The logits of a block's tile. -/
theorem putBlock_at (A : S64x128.Idx → Elt Ideal .f32) (B C : S250x128.Idx → Elt Ideal .f32) (Y : S64x4608.Idx → Elt Ideal .fp8e4m3)
    (Wt : S4608x32000.Idx → Elt Ideal .fp8e4m3) (t : Fin 62) (L : S64x512.Idx → Elt Ideal .f32) (p : Fin 64) (l : Fin 128) (u : ℕ) (hu : u < 4)
    (q : Fin 512) (hq : q.val = 128 * u + l.val) (g : Fin 250) (hg : g.val = colOf t.val / 128 + u) :
    putBlock A B C (colOf t.val / 128) (colOf_row t) (blockVal Y (blkAt Wt (colOf t.val) (colOf_le t))) L (ix2 p q) = logit A B C Y Wt p g l := by
  have key : ∀ (x : ℕ) (hx : x + 128 ≤ 512), x = 128 * u → ∀ h, (extractStridedSlice S64x128 ![0, x] (blockVal Y (blkAt Wt (colOf t.val) (colOf_le t))) h (ix2 p l) : EReal)
      = (∑ x : Fin 4608, Y (ix2 p x) * Wt (ix2 x ⟨128 * g.val + l.val, by omega⟩) : EReal) := by
    intro x hx hxu h
    rw [slice_at _ _ hx, block_at]
    refine Finset.sum_congr rfl fun k _ => ?_
    rw [blkAt_at]
    congr 3
    have := colOf_mul t
    exact Fin.ext (by show colOf t.val + (x + l.val) = 128 * g.val + l.val; omega)
  unfold putBlock logit
  obtain ⟨g, hg'⟩ := g
  obtain rfl | rfl | rfl | rfl : u = 0 ∨ u = 1 ∨ u = 2 ∨ u = 3 := by omega
  · rw [putTile_out _ _ _ _ _ _ _ _ _ _ _ (by omega), putTile_out _ _ _ _ _ _ _ _ _ _ _ (by omega), putTile_out _ _ _ _ _ _ _ _ _ _ _ (by omega),
      putTile_in _ _ _ _ _ _ _ _ _ p l q (by omega), key 0 (by decide) rfl]
    subst hg; rfl
  · rw [putTile_out _ _ _ _ _ _ _ _ _ _ _ (by omega), putTile_out _ _ _ _ _ _ _ _ _ _ _ (by omega),
      putTile_in _ _ _ _ _ _ _ _ _ p l q (by omega), key 128 (by decide) rfl]
    subst hg; rfl
  · rw [putTile_out _ _ _ _ _ _ _ _ _ _ _ (by omega),
      putTile_in _ _ _ _ _ _ _ _ _ p l q (by omega), key 256 (by decide) rfl]
    subst hg; rfl
  · rw [putTile_in _ _ _ _ _ _ _ _ _ p l q (by omega), key 384 (by decide) rfl]
    subst hg; rfl

/-- The logits of a tail's tile. -/
theorem putTail_at (A : S64x128.Idx → Elt Ideal .f32) (B C : S250x128.Idx → Elt Ideal .f32) (Y : S64x4608.Idx → Elt Ideal .fp8e4m3)
    (Wt : S4608x32000.Idx → Elt Ideal .fp8e4m3) (n : ℕ) (hn : n + 128 ≤ 32000) (g : ℕ) (hg : g < 250) (hng : n = 128 * g) (L : S64x512.Idx → Elt Ideal .f32)
    (p : Fin 64) (l : Fin 128) (q : Fin 512) (hq : q.val = l.val) :
    putTile A B C 0 (by decide) g hg (tailTo Y (tailAt Wt n hn) 36 (by decide)) L (ix2 p q) = logit A B C Y Wt p ⟨g, hg⟩ l := by
  rw [putTile_in _ _ _ _ _ _ _ _ _ p l q (by omega), tail_at]
  unfold logit
  congr 3
  refine Finset.sum_congr rfl fun k _ => ?_
  rw [tailAt_at]
  subst hng
  rfl

end Cert.VL

end
-- ==== Proof.ValTop.lean ====
module

public import Idealize.ShloMosaic.Lib.SortNet.TopList
public import Mathlib.Data.EReal.Basic
public import Mathlib.Data.List.FinRange

/-! The greatest `n` of a list, by insertion and by rounds: an insertion into a descending list keeps its greatest; of many descending
lists the greatest head is the greatest of all, and the list that gave it goes on with its tail. -/

@[expose] public section

namespace Cert.Top

open Idealize.ShloMosaic.SortNet

variable {α : Type} [LinearOrder α] {ι : Type} [DecidableEq ι]

theorem topList_cons_max (n : ℕ) (m : α) (l : List α) (h : ∀ b ∈ l, b ≤ m) : topList (n + 1) (m :: l) = m :: topList n l := by
  unfold topList
  have hs : List.insertionSort (· ≥ ·) (m :: l) = m :: List.insertionSort (· ≥ ·) l := by
    rw [List.insertionSort_cons]
    have hb : ∀ b ∈ List.insertionSort (· ≥ ·) l, b ≤ m := fun b hb => h b ((List.mem_insertionSort _).mp hb)
    cases hl : List.insertionSort (· ≥ ·) l with
    | nil => simp
    | cons b s =>
      rw [List.orderedInsert_cons, if_pos]
      exact hb b (by rw [hl]; exact List.mem_cons_self)
  rw [hs]; rfl

/-- One entry inserted into a descending list of fixed length. -/
def insL : List α → α → List α
  | [], _ => []
  | a :: s, v => max a v :: insL s (min a v)

theorem insL_eq (s : List α) (hs : s.Pairwise (· ≥ ·)) (v : α) : insL s v = topList s.length (v :: s) := by
  induction s generalizing v with
  | nil => simp [insL, topList]
  | cons a s ih =>
    rw [List.pairwise_cons] at hs
    have hp : (v :: a :: s).Perm (max a v :: min a v :: s) := by
      rcases le_total a v with h | h
      · rw [max_eq_right h, min_eq_left h]
      · rw [max_eq_left h, min_eq_right h]; exact List.Perm.swap _ _ _
    rw [topList_perm hp, List.length_cons, topList_cons_max]
    · rw [insL, ih hs.2]
    · intro b hb
      rcases List.mem_cons.mp hb with rfl | hb
      · exact min_le_max
      · exact (hs.1 b hb).trans (le_max_left _ _)

theorem insL_topList (n : ℕ) (l : List α) (hl : n ≤ l.length) (v : α) : insL (topList n l) v = topList n (l ++ [v]) := by
  rw [insL_eq _ (pairwise_topList n l), length_topList, min_eq_left hl, topList_perm (List.perm_append_singleton v (topList n l)).symm,
    topList_append_topList]

theorem topList_flatMap (n : ℕ) (L : List ι) (g : ι → List α) :
    topList n (L.flatMap g) = topList n (L.flatMap fun i => topList n (g i)) := by
  induction L with
  | nil => rfl
  | cons i L ih =>
    rw [List.flatMap_cons, List.flatMap_cons, ← topList_append_topList_topList, ih, topList_append_topList_topList,
      topList_append_topList]

theorem topList_flatMap_congr (n : ℕ) (L : List ι) (g g' : ι → List α) (h : ∀ i ∈ L, topList n (g i) = topList n (g' i)) :
    topList n (L.flatMap g) = topList n (L.flatMap g') := by
  rw [topList_flatMap n L g, topList_flatMap n L g']
  exact congrArg _ (List.flatMap_congr h)

theorem topList_take (n : ℕ) (l : List α) (hl : l.Pairwise (· ≥ ·)) : topList n (l.take n) = topList n l := by
  have h1 : topList n (l.take n) = l.take n := topList_eq_self (hl.sublist (List.take_sublist _ _)) (List.length_take_le _ _)
  rw [h1]
  have := eq_topList (l := l) (t := l.take n) (r := l.drop n) (by rw [List.take_append_drop]) (hl.sublist (List.take_sublist _ _))
    (fun a ha b hb => by
      rw [← List.take_append_drop n l, List.pairwise_append] at hl
      exact hl.2.2 a ha b hb)
  rw [List.length_take, topList_min_length] at this
  exact this

/-- A round: the list whose head is the greatest gives it and goes on with its tail, the others lose what is beyond the next rank. -/
theorem topList_round (n : ℕ) (L : List ι) (hL : L.Nodup) (f f' : ι → List α) (m : α) (h : ι) (hh : h ∈ L)
    (hf : ∀ i ∈ L, (f i).Pairwise (· ≥ ·)) (hm : ∀ i ∈ L, ∀ b ∈ f i, b ≤ m) (hd : f h = m :: f' h)
    (ho : ∀ i ∈ L, i ≠ h → f' i = (f i).take n) :
    topList (n + 1) (L.flatMap f) = m :: topList n (L.flatMap f') := by
  obtain ⟨A, B, rfl⟩ := List.append_of_mem hh
  have hA : ∀ i ∈ A, i ≠ h := fun i hi e => by
    subst e; rw [List.nodup_append] at hL; exact hL.2.2 i hi i List.mem_cons_self rfl
  have hB : ∀ i ∈ B, i ≠ h := fun i hi e => by
    subst e; rw [List.nodup_append] at hL; exact (List.nodup_cons.mp hL.2.1).1 hi
  have e1 : ((A ++ h :: B).flatMap f).Perm (m :: (f' h ++ (A ++ B).flatMap f)) := by
    rw [List.flatMap_append, List.flatMap_cons, hd, List.flatMap_append]
    have := (List.perm_append_comm_assoc (A.flatMap f) (m :: f' h) (B.flatMap f))
    simpa using this
  rw [topList_perm e1, topList_cons_max]
  · congr 1
    have e2 : ((A ++ h :: B).flatMap f').Perm (f' h ++ (A ++ B).flatMap f') := by
      rw [List.flatMap_append, List.flatMap_cons, List.flatMap_append]
      exact List.perm_append_comm_assoc _ _ _
    rw [topList_perm e2, ← topList_append_topList_topList, ← topList_append_topList_topList n (f' h)]
    congr 2
    apply topList_flatMap_congr
    intro i hi
    have him : i ∈ A ++ h :: B := by simp only [List.mem_append, List.mem_cons] at hi ⊢; tauto
    have hne : i ≠ h := by rcases List.mem_append.mp hi with h' | h'; exacts [hA i h', hB i h']
    rw [ho i him hne, topList_take n _ (hf i him)]
  · intro b hb
    rcases List.mem_append.mp hb with hb | hb
    · exact hm h hh b (by rw [hd]; exact List.mem_cons_of_mem _ hb)
    · obtain ⟨i, hi, hb⟩ := List.mem_flatMap.mp hb
      exact hm i (by simp only [List.mem_append, List.mem_cons] at hi ⊢; tauto) b hb

theorem topList_replicate (n k : ℕ) (a : α) (l : List α) (h : ∀ b ∈ l, b = a) (hk : n ≤ l.length) : topList n l = List.replicate n a := by
  refine List.eq_replicate_iff.mpr ⟨by rw [length_topList, min_eq_left hk], fun b hb => h b (mem_of_mem_topList hb)⟩

end Cert.Top
-- ==== Proof.ValLists.lean ====
module

public import proofs.«01_k».proof.Proof.Body
public import proofs.«01_k».proof.Proof.ValLogits
public import proofs.«01_k».proof.Proof.ValTop

/-! The sorted lists of each row and lane, over the extended reals: the greatest eight logits of the lane so far, each with an
index that names its lane. -/

@[expose] public section

set_option maxRecDepth 16384

noncomputable section

namespace Cert.VI

open Idealize.ShloMosaic Idealize.ShloMosaic.SortNet Cert.Kernel Cert.KS Cert.Top Cert.VL
open Cert.Kernel.Facts₀ Cert.Kernel.Facts

variable [Cert.Kernel.Facts]

/-- A value with its index. -/
abbrev Ent := EReal × BitVec 32

/-- Whether a new entry `e` goes above an old one `a`. -/
abbrev Cmp := Ent → Ent → BitVec 1

def cmpIn : Cmp := fun e a => FloatOps.cmpf (F := Ideal) (φ := .f32) .ogt e.1 a.1
def cmpTie : Cmp := fun e a => IntOp.ori (FloatOps.cmpf (F := Ideal) (φ := .f32) .ogt e.1 a.1)
  (IntOp.andi (FloatOps.cmpf (F := Ideal) (φ := .f32) .oeq e.1 a.1) (IntOp.cmpi .slt e.2 a.2))

/-- An entry inserted. -/
def insE (ab : Cmp) : List Ent → Ent → List Ent
  | [], _ => []
  | a :: s, e => (max a.1 e.1, Scalar.select (ab e a) e.2 a.2) :: insE ab s (min a.1 e.1, Scalar.select (ab e a) a.2 e.2)

theorem insE_fst (ab : Cmp) (s : List Ent) (e : Ent) : (insE ab s e).map Prod.fst = insL (s.map Prod.fst) e.1 := by
  induction s generalizing e with
  | nil => rfl
  | cons a s ih => simp only [insE, List.map_cons, insL, ih]

/-- The comparison is the order's, up to equal values. -/
def Fair (ab : Cmp) : Prop := ∀ e a, (ab e a = 1#1 → a.1 ≤ e.1) ∧ (ab e a ≠ 1#1 → e.1 ≤ a.1)

theorem fair_in : Fair cmpIn := by
  intro e a
  have h : cmpIn e a = BitVec.ofBool (decide (a.1 < e.1)) := by simp [cmpIn, FloatOps.cmpf, Ideal.cmp]
  rw [h]
  by_cases h : a.1 < e.1
  · simp [h, h.le]
  · simp [h, not_lt.mp h]

theorem fair_tie : Fair cmpTie := by
  intro e a
  have h : cmpTie e a = BitVec.ofBool (decide (a.1 < e.1)) ||| (BitVec.ofBool (decide (e.1 = a.1)) &&& IntOp.cmpi .slt e.2 a.2) := by
    simp [cmpTie, FloatOps.cmpf, Ideal.cmp, IntOp.ori, IntOp.andi]
  rw [h]
  have o : ∀ x : BitVec 1, 1#1 ||| x = 1#1 := by decide
  rcases lt_trichotomy a.1 e.1 with h | h | h
  · simp [h, h.le, o]
  · simp [h]
  · simp [h.not_gt, h.ne, h.le]

/-- Every value above the bottom has an index in its lane. -/
def Laned (l : Fin 128) (e : Ent) : Prop := e.1 ≠ ⊥ → e.2.toNat % 128 = l.val

theorem insE_laned (ab : Cmp) (hab : Fair ab) (l : Fin 128) (s : List Ent) (e : Ent) (hs : ∀ a ∈ s, Laned l a) (he : Laned l e) :
    ∀ a ∈ insE ab s e, Laned l a := by
  induction s generalizing e with
  | nil => intro a ha; simp [insE] at ha
  | cons b s ih =>
    have hb := hs b List.mem_cons_self
    have h := hab e b
    have keep : Laned l (max b.1 e.1, Scalar.select (ab e b) e.2 b.2) := by
      unfold Laned Scalar.select
      by_cases hc : ab e b = 1#1
      · simp only [hc, max_eq_right (h.1 hc)]; exact he
      · simp only [max_eq_left (h.2 hc)]; rw [if_neg (show ¬ ab e b = 1 from hc)]; exact hb
    have pass : Laned l (min b.1 e.1, Scalar.select (ab e b) b.2 e.2) := by
      unfold Laned Scalar.select
      by_cases hc : ab e b = 1#1
      · simp only [hc, min_eq_left (h.1 hc)]; exact hb
      · simp only [min_eq_right (h.2 hc)]; rw [if_neg (show ¬ ab e b = 1 from hc)]; exact he
    intro a ha
    rcases List.mem_cons.mp ha with rfl | ha
    · exact keep
    · exact ih _ (fun a ha => hs a (List.mem_cons_of_mem _ ha)) pass a ha

/-- The entries of a row and lane of eight tiles. -/
def ents8 (s : L8 Ideal) (i : S8x128.Idx) : List Ent :=
  [(s.v0 i, s.i0 i), (s.v1 i, s.i1 i), (s.v2 i, s.i2 i), (s.v3 i, s.i3 i), (s.v4 i, s.i4 i), (s.v5 i, s.i5 i), (s.v6 i, s.i6 i), (s.v7 i, s.i7 i)]

theorem ents8_in (s : L8 Ideal) (v : FVec Ideal S8x128 .f32) (j : IVec S8x128 32) (i : S8x128.Idx) :
    ents8 (s.ins aboveIn v j) i = insE cmpIn (ents8 s i) (v i, j i) := rfl

theorem ents8_tie (s : L8 Ideal) (v : FVec Ideal S8x128 .f32) (j : IVec S8x128 32) (i : S8x128.Idx) :
    ents8 (s.ins aboveTie v j) i = insE cmpTie (ents8 s i) (v i, j i) := rfl

/-- The entries of a row and lane. -/
def ents (s : Lists Ideal) (p : Fin 64) (l : Fin 128) : List Ent :=
  [(s.v (ix3 0 p l), s.i (ix3 0 p l)), (s.v (ix3 1 p l), s.i (ix3 1 p l)), (s.v (ix3 2 p l), s.i (ix3 2 p l)), (s.v (ix3 3 p l), s.i (ix3 3 p l)),
    (s.v (ix3 4 p l), s.i (ix3 4 p l)), (s.v (ix3 5 p l), s.i (ix3 5 p l)), (s.v (ix3 6 p l), s.i (ix3 6 p l)), (s.v (ix3 7 p l), s.i (ix3 7 p l))]

section
variable {α : Type}

theorem rdV_at (X : S8x64x128.Idx → α) (r : ℕ) (hr : r + 8 ≤ 64) (k : ℕ) (hk : k < 8) (q : Fin 8) (l : Fin 128) :
    rdV X r hr k hk (ix2 q l) = X (ix3 ⟨k, hk⟩ ⟨r + q.val, by omega⟩ l) := by
  unfold rdV rectV
  pointwise []
  rw [emb3 k r 0 _ 0 q l (by omega) (by omega) (by omega)]
  simp only [Nat.zero_add, Fin.val_zero, Nat.add_zero]

theorem wrV_in (r : ℕ) (hr : r + 8 ≤ 64) (k : ℕ) (hk : k < 8) (x : S8x128.Idx → α) (X : S8x64x128.Idx → α) (q : Fin 8) (l : Fin 128)
    (k' : Fin 8) (hkk : k'.val = k) (p : Fin 64) (hp : p.val = r + q.val) :
    wrV r hr k hk x X (ix3 k' p l) = x (ix2 q l) := by
  have e : ix3 k' p l = (rectV k r hk hr).emb (ix3 0 q l) := by
    unfold rectV
    rw [emb3 k r 0 _ 0 q l (by omega) (by omega) (by omega)]
    congr 1
    · exact Fin.ext hkk
    · exact Fin.ext hp
    · exact Fin.ext (Nat.zero_add _).symm
  rw [e]
  refine (Rect.overlay_emb (rectV k r hk hr) X (shapeCast S1x8x128 x shapeCasts_S8x128_S1x8x128) (ix3 0 q l)).trans ?_
  pointwise []

theorem wrV_out (r : ℕ) (hr : r + 8 ≤ 64) (k : ℕ) (hk : k < 8) (x : S8x128.Idx → α) (X : S8x64x128.Idx → α) (l : Fin 128)
    (k' : Fin 8) (p : Fin 64) (h : k'.val ≠ k ∨ p.val < r ∨ r + 8 ≤ p.val) :
    wrV r hr k hk x X (ix3 k' p l) = X (ix3 k' p l) := by
  refine Rect.overlay_of_not_mem _ _ _ fun hm => ?_
  rw [← Rect.map_emb_univ, Finset.mem_map] at hm
  obtain ⟨i, _, hi⟩ := hm
  have h0 : k + 1 * (i 0).val = k'.val := congrArg (fun x : S8x64x128.Idx => (x 0).val) hi
  have h0' : (i 0).val < 1 := (i 0).isLt
  have h1 : r + 1 * (i 1).val = p.val := congrArg (fun x : S8x64x128.Idx => (x 1).val) hi
  have h2 : (i 1).val < 8 := (i 1).isLt
  omega

end

theorem ents8_get8 (s : Lists Ideal) (r : ℕ) (hr : r + 8 ≤ 64) (q : Fin 8) (l : Fin 128) (p : Fin 64) (hp : p.val = r + q.val) :
    ents8 (get8 s r hr) (ix2 q l) = ents s p l := by
  obtain ⟨p, hp'⟩ := p
  simp only at hp
  subst hp
  simp only [ents8, get8, rdV_at]
  rfl

theorem set8_at {α : Type} (r : ℕ) (hr : r + 8 ≤ 64) (x0 x1 x2 x3 x4 x5 x6 x7 : S8x128.Idx → α) (X : S8x64x128.Idx → α) (q : Fin 8) (l : Fin 128)
    (p : Fin 64) (hp : p.val = r + q.val) :
    set8 r hr x0 x1 x2 x3 x4 x5 x6 x7 X (ix3 0 p l) = x0 (ix2 q l) ∧ set8 r hr x0 x1 x2 x3 x4 x5 x6 x7 X (ix3 1 p l) = x1 (ix2 q l) ∧
    set8 r hr x0 x1 x2 x3 x4 x5 x6 x7 X (ix3 2 p l) = x2 (ix2 q l) ∧ set8 r hr x0 x1 x2 x3 x4 x5 x6 x7 X (ix3 3 p l) = x3 (ix2 q l) ∧
    set8 r hr x0 x1 x2 x3 x4 x5 x6 x7 X (ix3 4 p l) = x4 (ix2 q l) ∧ set8 r hr x0 x1 x2 x3 x4 x5 x6 x7 X (ix3 5 p l) = x5 (ix2 q l) ∧
    set8 r hr x0 x1 x2 x3 x4 x5 x6 x7 X (ix3 6 p l) = x6 (ix2 q l) ∧ set8 r hr x0 x1 x2 x3 x4 x5 x6 x7 X (ix3 7 p l) = x7 (ix2 q l) := by
  unfold set8
  refine ⟨?_, ?_, ?_, ?_, ?_, ?_, ?_, ?_⟩
  · rw [wrV_out _ _ 7 _ _ _ _ _ _ (.inl (by decide)), wrV_out _ _ 6 _ _ _ _ _ _ (.inl (by decide)), wrV_out _ _ 5 _ _ _ _ _ _ (.inl (by decide)), wrV_out _ _ 4 _ _ _ _ _ _ (.inl (by decide)), wrV_out _ _ 3 _ _ _ _ _ _ (.inl (by decide)), wrV_out _ _ 2 _ _ _ _ _ _ (.inl (by decide)), wrV_out _ _ 1 _ _ _ _ _ _ (.inl (by decide))]; exact wrV_in r hr 0 _ _ _ q l (0 : Fin 8) rfl p hp
  · rw [wrV_out _ _ 7 _ _ _ _ _ _ (.inl (by decide)), wrV_out _ _ 6 _ _ _ _ _ _ (.inl (by decide)), wrV_out _ _ 5 _ _ _ _ _ _ (.inl (by decide)), wrV_out _ _ 4 _ _ _ _ _ _ (.inl (by decide)), wrV_out _ _ 3 _ _ _ _ _ _ (.inl (by decide)), wrV_out _ _ 2 _ _ _ _ _ _ (.inl (by decide))]; exact wrV_in r hr 1 _ _ _ q l (1 : Fin 8) rfl p hp
  · rw [wrV_out _ _ 7 _ _ _ _ _ _ (.inl (by decide)), wrV_out _ _ 6 _ _ _ _ _ _ (.inl (by decide)), wrV_out _ _ 5 _ _ _ _ _ _ (.inl (by decide)), wrV_out _ _ 4 _ _ _ _ _ _ (.inl (by decide)), wrV_out _ _ 3 _ _ _ _ _ _ (.inl (by decide))]; exact wrV_in r hr 2 _ _ _ q l (2 : Fin 8) rfl p hp
  · rw [wrV_out _ _ 7 _ _ _ _ _ _ (.inl (by decide)), wrV_out _ _ 6 _ _ _ _ _ _ (.inl (by decide)), wrV_out _ _ 5 _ _ _ _ _ _ (.inl (by decide)), wrV_out _ _ 4 _ _ _ _ _ _ (.inl (by decide))]; exact wrV_in r hr 3 _ _ _ q l (3 : Fin 8) rfl p hp
  · rw [wrV_out _ _ 7 _ _ _ _ _ _ (.inl (by decide)), wrV_out _ _ 6 _ _ _ _ _ _ (.inl (by decide)), wrV_out _ _ 5 _ _ _ _ _ _ (.inl (by decide))]; exact wrV_in r hr 4 _ _ _ q l (4 : Fin 8) rfl p hp
  · rw [wrV_out _ _ 7 _ _ _ _ _ _ (.inl (by decide)), wrV_out _ _ 6 _ _ _ _ _ _ (.inl (by decide))]; exact wrV_in r hr 5 _ _ _ q l (5 : Fin 8) rfl p hp
  · rw [wrV_out _ _ 7 _ _ _ _ _ _ (.inl (by decide))]; exact wrV_in r hr 6 _ _ _ q l (6 : Fin 8) rfl p hp
  · exact wrV_in r hr 7 _ _ _ q l (7 : Fin 8) rfl p hp

theorem set8_out {α : Type} (r : ℕ) (hr : r + 8 ≤ 64) (x0 x1 x2 x3 x4 x5 x6 x7 : S8x128.Idx → α) (X : S8x64x128.Idx → α) (l : Fin 128)
    (p : Fin 64) (hp : p.val < r ∨ r + 8 ≤ p.val) (k : Fin 8) : set8 r hr x0 x1 x2 x3 x4 x5 x6 x7 X (ix3 k p l) = X (ix3 k p l) := by
  unfold set8
  simp only [wrV_out _ _ _ _ _ _ _ _ _ (.inr hp)]

theorem ents_put8 (s : Lists Ideal) (r : ℕ) (hr : r + 8 ≤ 64) (t : L8 Ideal) (q : Fin 8) (l : Fin 128) (p : Fin 64) (hp : p.val = r + q.val) :
    ents (put8 s r hr t) p l = ents8 t (ix2 q l) := by
  obtain ⟨a0, a1, a2, a3, a4, a5, a6, a7⟩ := set8_at r hr t.v0 t.v1 t.v2 t.v3 t.v4 t.v5 t.v6 t.v7 s.v q l p hp
  obtain ⟨b0, b1, b2, b3, b4, b5, b6, b7⟩ := set8_at r hr t.i0 t.i1 t.i2 t.i3 t.i4 t.i5 t.i6 t.i7 s.i q l p hp
  simp only [ents, ents8, put8, a0, a1, a2, a3, a4, a5, a6, a7, b0, b1, b2, b3, b4, b5, b6, b7]

theorem ents_put8_out (s : Lists Ideal) (r : ℕ) (hr : r + 8 ≤ 64) (t : L8 Ideal) (l : Fin 128) (p : Fin 64) (hp : p.val < r ∨ r + 8 ≤ p.val) :
    ents (put8 s r hr t) p l = ents s p l := by
  simp only [ents, put8, set8_out _ _ _ _ _ _ _ _ _ _ _ _ _ hp]

theorem rdL_at (L : S64x512.Idx → Elt Ideal .f32) (r : ℕ) (hr : r + 8 ≤ 64) (t : ℕ) (ht : t + 128 ≤ 512) (q : Fin 8) (l : Fin 128)
    (p : Fin 64) (hp : p.val = r + q.val) : rdL L r hr t ht (ix2 q l) = L (ix2 p ⟨t + l.val, by omega⟩) := by
  unfold rdL
  rw [emb2 r t _ q l (by omega) (by omega)]
  congr 2
  exact Fin.ext hp.symm

theorem laneIdx_at (b : BitVec 32) (q : Fin 8) (l : Fin 128) : laneIdx lanes b (ix2 q l) = BitVec.ofNat 32 l.val + b := by
  pointwise [laneIdx, lanes]
  rfl

/-- The entry of a tile at a row and lane. -/
def entry (L : S64x512.Idx → Elt Ideal .f32) (t : ℕ) (ht : t + 128 ≤ 512) (b : BitVec 32) (p : Fin 64) (l : Fin 128) : Ent :=
  (L (ix2 p ⟨t + l.val, by omega⟩), BitVec.ofNat 32 l.val + b)

/-- Eight groups of rows, each changed alone. -/
theorem rows8_obs {α β : Type} (f : (r : ℕ) → r + 8 ≤ 64 → α → α) (obs : α → Fin 64 → β) (step : Fin 64 → β → β)
    (hf : ∀ r hr s p, obs (f r hr s) p = if r ≤ p.val ∧ p.val < r + 8 then step p (obs s p) else obs s p) (s : α) (p : Fin 64) :
    obs (rows8 f s) p = step p (obs s p) := by
  have one : ∀ (r : ℕ) (hr : r + 8 ≤ 64) (t : α), (obs t p = if p.val < r then step p (obs s p) else obs s p) →
      obs (f r hr t) p = if p.val < r + 8 then step p (obs s p) else obs s p := by
    intro r hr t ht
    rw [hf, ht]
    by_cases h1 : p.val < r
    · rw [if_neg (by omega), if_pos h1, if_pos (by omega)]
    · by_cases h2 : p.val < r + 8
      · rw [if_pos (by omega), if_neg h1, if_pos h2]
      · rw [if_neg (by omega), if_neg h1, if_neg h2]
  have := one 56 (by decide) _ (one 48 (by decide) _ (one 40 (by decide) _ (one 32 (by decide) _ (one 24 (by decide) _ (one 16 (by decide) _
    (one 8 (by decide) _ (one 0 (by decide) s (by simp))))))))
  unfold rows8
  rw [this, if_pos (by omega)]

theorem ents_insert4 (b0 b1 b2 b3 : BitVec 32) (L : S64x512.Idx → Elt Ideal .f32) (s : Lists Ideal) (p : Fin 64) (l : Fin 128) :
    ents (insert4 lanes b0 b1 b2 b3 L s) p l = insE cmpIn (insE cmpIn (insE cmpIn (insE cmpIn (ents s p l) (entry L 0 (by decide) b0 p l))
      (entry L 128 (by decide) b1 p l)) (entry L 256 (by decide) b2 p l)) (entry L 384 (by decide) b3 p l) := by
  refine rows8_obs _ (fun s p => ents s p l) (fun p e => insE cmpIn (insE cmpIn (insE cmpIn (insE cmpIn e (entry L 0 (by decide) b0 p l))
      (entry L 128 (by decide) b1 p l)) (entry L 256 (by decide) b2 p l)) (entry L 384 (by decide) b3 p l)) (fun r hr s p => ?_) s p
  split
  · have hp : p.val = r + (⟨p.val - r, by omega⟩ : Fin 8).val := by show p.val = r + (p.val - r); omega
    simp only [group4]
    rw [ents_put8 _ _ _ _ _ _ _ hp, ents8_in, ents8_in, ents8_in, ents8_in, ents8_get8 _ _ _ _ _ _ hp]
    simp only [laneIdx_at, rdL_at _ _ _ _ _ _ _ p hp]
    rfl
  · exact ents_put8_out _ _ _ _ _ _ (by omega)

theorem ents_insert1 (b0 : BitVec 32) (L : S64x512.Idx → Elt Ideal .f32) (s : Lists Ideal) (p : Fin 64) (l : Fin 128) :
    ents (insert1 lanes b0 L s) p l = insE cmpTie (ents s p l) (entry L 0 (by decide) b0 p l) := by
  refine rows8_obs _ (fun s p => ents s p l) (fun p e => insE cmpTie e (entry L 0 (by decide) b0 p l)) (fun r hr s p => ?_) s p
  split
  · have hp : p.val = r + (⟨p.val - r, by omega⟩ : Fin 8).val := by show p.val = r + (p.val - r); omega
    simp only [group1]
    rw [ents_put8 _ _ _ _ _ _ _ hp, ents8_tie, ents8_get8 _ _ _ _ _ _ hp]
    simp only [laneIdx_at, rdL_at _ _ _ _ _ _ _ p hp]
    rfl
  · exact ents_put8_out _ _ _ _ _ _ (by omega)

/-- What a lane's list is: the greatest eight of the values met, every index naming the lane. -/
def Good (l : Fin 128) (e : List Ent) (xs : List EReal) : Prop := e.map Prod.fst = topList 8 xs ∧ 8 ≤ xs.length ∧ ∀ a ∈ e, Laned l a

theorem Good.ins {l : Fin 128} {e : List Ent} {xs : List EReal} (h : Good l e xs) (ab : Cmp) (hab : Fair ab) (a : Ent) (ha : Laned l a) :
    Good l (insE ab e a) (xs ++ [a.1]) :=
  ⟨by rw [insE_fst, h.1, insL_topList 8 xs h.2.1], by rw [List.length_append]; exact le_trans h.2.1 (Nat.le_add_right _ _), insE_laned ab hab l e a h.2.2 ha⟩

theorem entry_laned (L : S64x512.Idx → Elt Ideal .f32) (t : ℕ) (ht : t + 128 ≤ 512) (b : BitVec 32) (hb : b.toNat % 128 = 0) (p : Fin 64) (l : Fin 128) :
    Laned l (entry L t ht b p l) := by
  intro _
  show (BitVec.ofNat 32 l.val + b).toNat % 128 = l.val
  rw [BitVec.toNat_add, BitVec.toNat_ofNat]
  omega

theorem Good.four {l : Fin 128} {p : Fin 64} {s : Lists Ideal} {xs : List EReal} (h : Good l (ents s p l) xs) (L : S64x512.Idx → Elt Ideal .f32)
    (b0 b1 b2 b3 : BitVec 32) (h0 : b0.toNat % 128 = 0) (h1 : b1.toNat % 128 = 0) (h2 : b2.toNat % 128 = 0) (h3 : b3.toNat % 128 = 0) :
    Good l (ents (insert4 lanes b0 b1 b2 b3 L s) p l) (xs ++ [L (ix2 p ⟨0 + l.val, by omega⟩)] ++ [L (ix2 p ⟨128 + l.val, by omega⟩)] ++
      [L (ix2 p ⟨256 + l.val, by omega⟩)] ++ [L (ix2 p ⟨384 + l.val, by omega⟩)]) := by
  rw [ents_insert4]
  exact (((h.ins _ fair_in _ (entry_laned L _ _ _ h0 p l)).ins _ fair_in _ (entry_laned L _ _ _ h1 p l)).ins _ fair_in _ (entry_laned L _ _ _ h2 p l)).ins _ fair_in _
    (entry_laned L _ _ _ h3 p l)

theorem Good.one {l : Fin 128} {p : Fin 64} {s : Lists Ideal} {xs : List EReal} (h : Good l (ents s p l) xs) (L : S64x512.Idx → Elt Ideal .f32)
    (b0 : BitVec 32) (h0 : b0.toNat % 128 = 0) :
    Good l (ents (insert1 lanes b0 L s) p l) (xs ++ [L (ix2 p ⟨0 + l.val, by omega⟩)]) := by
  rw [ents_insert1]
  exact h.ins _ fair_tie _ (entry_laned L _ _ _ h0 p l)

end Cert.VI

end
-- ==== Proof.ValMet.lean ====
module

public import proofs.«01_k».proof.Proof.ValLists

/-! The sorted lists of each row and lane at the end: the greatest eight logits of the lane. -/

@[expose] public section

set_option maxRecDepth 16384

noncomputable section

namespace Cert.VI

open Idealize.ShloMosaic Idealize.ShloMosaic.SortNet Cert.Kernel Cert.KS Cert.Top Cert.VL

variable [Cert.Kernel.Facts]

section
variable (A : S64x128.Idx → Elt Ideal .f32) (B C : S250x128.Idx → Elt Ideal .f32) (Y : S64x4608.Idx → Elt Ideal .fp8e4m3)
  (Wt : S4608x32000.Idx → Elt Ideal .fp8e4m3)

theorem tile_lt (n : ℕ) (h : n < 62) (u : ℕ) (hu : u < 4) : colOf n / 128 + u < 250 := by
  have := colOf_row ⟨n, h⟩
  simp only at this
  omega

/-- The logits of a block's tile. -/
def tl (p : Fin 64) (l : Fin 128) (n : ℕ) (h : n < 62) (u : ℕ) (hu : u < 4) : EReal := logit A B C Y Wt p ⟨colOf n / 128 + u, tile_lt n h u hu⟩ l

/-- The logits a lane has met once the first `n` blocks are in. -/
def met (p : Fin 64) (l : Fin 128) : ℕ → List EReal
  | 0 => List.replicate 12 ⊥
  | n + 1 => if h : n < 62 then met p l n ++ [tl A B C Y Wt p l n h 0 (by decide)] ++ [tl A B C Y Wt p l n h 1 (by decide)] ++ [tl A B C Y Wt p l n h 2 (by decide)]
      ++ [tl A B C Y Wt p l n h 3 (by decide)] else met p l n

theorem word_mod : ∀ t < 62, (Scalar.addi (BitVec.ofNat 32 (colOf t)) 0#32).toNat % 128 = 0 ∧ (Scalar.addi (BitVec.ofNat 32 (colOf t)) 128#32).toNat % 128 = 0 ∧
    (Scalar.addi (BitVec.ofNat 32 (colOf t)) 256#32).toNat % 128 = 0 ∧ (Scalar.addi (BitVec.ofNat 32 (colOf t)) 384#32).toNat % 128 = 0 := by decide +kernel

/-- The buffer holds block `n`'s logits. -/
def Holds (L : S64x512.Idx → Elt Ideal .f32) (n : ℕ) (h : n < 62) : Prop :=
  ∀ (p : Fin 64) (l : Fin 128) (u : ℕ) (hu : u < 4) (q : Fin 512), q.val = 128 * u + l.val → L (ix2 p q) = tl A B C Y Wt p l n h u hu

theorem good_block {L : S64x512.Idx → Elt Ideal .f32} {n : ℕ} (h : n < 62) (hL : Holds A B C Y Wt L n h) (s : Lists Ideal) (p : Fin 64) (l : Fin 128)
    (hs : Good l (ents s p l) (met A B C Y Wt p l n)) :
    Good l (ents (insert4 lanes (Scalar.addi (BitVec.ofNat 32 (colOf n)) 0#32) (Scalar.addi (BitVec.ofNat 32 (colOf n)) 128#32)
      (Scalar.addi (BitVec.ofNat 32 (colOf n)) 256#32) (Scalar.addi (BitVec.ofNat 32 (colOf n)) 384#32) L s) p l) (met A B C Y Wt p l (n + 1)) := by
  obtain ⟨w0, w1, w2, w3⟩ := word_mod n h
  have := hs.four L _ _ _ _ w0 w1 w2 w3
  rw [hL p l 0 (by decide) ⟨0 + l.val, by omega⟩ rfl, hL p l 1 (by decide) ⟨128 + l.val, by omega⟩ rfl, hL p l 2 (by decide) ⟨256 + l.val, by omega⟩ rfl,
    hL p l 3 (by decide) ⟨384 + l.val, by omega⟩ rfl] at this
  rw [met, dif_pos h]
  exact this

theorem stepTrip_fst (t : Fin 62) (s : Lists Ideal × (S64x512.Idx → Elt Ideal .f32)) : (stepTrip A B C Y Wt t s).1 =
    insert4 lanes (Scalar.addi (BitVec.ofNat 32 (colOf (t.val - 1))) 0#32) (Scalar.addi (BitVec.ofNat 32 (colOf (t.val - 1))) 128#32)
      (Scalar.addi (BitVec.ofNat 32 (colOf (t.val - 1))) 256#32) (Scalar.addi (BitVec.ofNat 32 (colOf (t.val - 1))) 384#32) s.2 s.1 := rfl

theorem stAt_holds (n : ℕ) (h : n < 62) : Holds A B C Y Wt (stAt A B C Y Wt (n + 1)).2 n h := by
  rw [stAt_succ _ _ _ _ _ _ h]
  exact fun p l u hu q hq => putBlock_at A B C Y Wt ⟨n, h⟩ _ p l u hu q hq _ rfl

/-- Before trip `n + 1` the buffer holds block `n`, and the lists the blocks before it. -/
theorem stAt_good (n : ℕ) (h : n < 62) :
    Holds A B C Y Wt (stAt A B C Y Wt (n + 1)).2 n h ∧ ∀ p l, Good l (ents (stAt A B C Y Wt (n + 1)).1 p l) (met A B C Y Wt p l n) := by
  refine ⟨stAt_holds A B C Y Wt n h, ?_⟩
  induction n with
  | zero =>
    intro p l
    rw [stAt_succ _ _ _ _ _ _ h]
    obtain ⟨w0, w1, w2, w3⟩ := word_mod 0 (by decide)
    have bot : Ideal.ofBits .f32 0xFF800000#32 = ⊥ := by simp [Ideal.ofBits, Ideal.ieee]
    have g0 : Good l (ents (noLists (F := Ideal)) p l) (List.replicate 8 (Ideal.ofBits .f32 0xFF800000#32)) := by
      refine ⟨?_, by simp, ?_⟩
      · rw [topList_eq_self (by simp) (by simp)]; rfl
      · intro a ha
        have : a = (Ideal.ofBits .f32 0xFF800000#32, 0#32) := by
          simp only [ents, List.mem_cons, List.not_mem_nil, or_false] at ha
          rcases ha with ha | ha | ha | ha | ha | ha | ha | ha <;> exact ha
        subst this
        exact fun hne => absurd bot hne
    have := g0.four (noLogits (F := Ideal)) _ _ _ _ w0 w1 w2 w3
    have hn : ∀ i, noLogits (F := Ideal) i = Ideal.ofBits .f32 0xFF800000#32 := fun _ => rfl
    simp only [hn, bot] at this
    rw [stepTrip_fst]
    exact this
  | succ n ih =>
    intro p l
    have h' : n < 62 := by omega
    rw [stAt_succ _ _ _ _ _ _ h, stepTrip_fst]
    exact good_block A B C Y Wt h' (stAt_holds A B C Y Wt n h') _ p l (ih h' p l)

theorem words62 : (31360#32 : BitVec 32) = BitVec.ofNat 32 (colOf 61) := by decide

/-- The lists of every lane at the end. -/
theorem listsT1_good (p : Fin 64) (l : Fin 128) :
    Good l (ents (listsT1 A B C Y Wt) p l) (met A B C Y Wt p l 62 ++ [logit A B C Y Wt p ⟨124, by decide⟩ l] ++ [logit A B C Y Wt p ⟨249, by decide⟩ l]) := by
  obtain ⟨hold, hg⟩ := stAt_good A B C Y Wt 61 (by decide)
  have g62 : Good l (ents (lists62 A B C Y Wt) p l) (met A B C Y Wt p l 62) := by
    unfold lists62
    rw [words62]
    exact good_block A B C Y Wt (by decide) hold _ p l (hg p l)
  have g0 := g62.one (logitsT0 A B C Y Wt) 15872#32 (by decide)
  have g1 := g0.one (logitsT1 A B C Y Wt) 31872#32 (by decide)
  have e0 : logitsT0 A B C Y Wt (ix2 p ⟨0 + l.val, by omega⟩) = logit A B C Y Wt p ⟨124, by decide⟩ l :=
    putTail_at A B C Y Wt 15872 _ 124 _ rfl _ p l _ (Nat.zero_add _)
  have e1 : logitsT1 A B C Y Wt (ix2 p ⟨0 + l.val, by omega⟩) = logit A B C Y Wt p ⟨249, by decide⟩ l :=
    putTail_at A B C Y Wt 31872 _ 249 _ rfl _ p l _ (Nat.zero_add _)
  rw [e0] at g1
  rw [e1] at g1
  exact g1

end

end Cert.VI

end
-- ==== Proof.ValRounds.lean ====
module

public import proofs.«01_k».proof.Proof.Struct
public import proofs.«01_k».proof.Proof.ValTop
public import Idealize.ShloMosaic.PureOps.Ideal
public import Idealize.ShloMosaic.Lib.Pointwise

/-! The extraction, over the extended reals: eight rounds, each taking the greatest value of a row and moving its lane up, give the
greatest eight of all lanes. -/

@[expose] public section

set_option maxRecDepth 16384

noncomputable section

namespace Cert.VR

open Idealize.ShloMosaic Idealize.ShloMosaic.SortNet Cert.Kernel Cert.KS Cert.Top

variable [Cert.Kernel.Facts]

/-- A value with its index, as the extraction reads it. -/
abbrev Ent := EReal × EReal

/-- The entries of a row and lane. -/
def ents (s : X8 Ideal) (p : Fin 64) (l : Fin 128) : List Ent :=
  [(s.v0 (ix2 p l), s.i0 (ix2 p l)), (s.v1 (ix2 p l), s.i1 (ix2 p l)), (s.v2 (ix2 p l), s.i2 (ix2 p l)), (s.v3 (ix2 p l), s.i3 (ix2 p l)),
    (s.v4 (ix2 p l), s.i4 (ix2 p l)), (s.v5 (ix2 p l), s.i5 (ix2 p l)), (s.v6 (ix2 p l), s.i6 (ix2 p l)), (s.v7 (ix2 p l), s.i7 (ix2 p l))]

def vals (s : X8 Ideal) (p : Fin 64) (l : Fin 128) : List EReal := (ents s p l).map Prod.fst

/-- A lane moved up. -/
def up : List Ent → List Ent
  | [_, b, c, d, e, f, g, h] => [b, c, d, e, f, g, h, h]
  | l => l

theorem bot_word : Ideal.ofBits .f32 0xFF800000#32 = ⊥ := by simp [Ideal.ofBits, Ideal.ieee]
theorem top_word : Ideal.ofBits .f32 0x7F800000#32 = ⊤ := by simp [Ideal.ofBits, Ideal.ieee]

theorem rowMax_at (v : FVec Ideal S64x128 .f32) (p : Fin 64) :
    rowMax v (ix2 p 0) = Finset.fold max (⊥ : EReal) (fun l : Fin 128 => v (ix2 p l)) Finset.univ := by
  rw [← bot_word]
  pointwise [rowMax]

theorem rowIdx_at (v i : FVec Ideal S64x128 .f32) (p : Fin 64) :
    rowIdx v i (ix2 p 0) = Finset.fold min (⊤ : EReal) (fun l : Fin 128 => if v (ix2 p l) = rowMax v (ix2 p 0) then i (ix2 p l) else ⊤) Finset.univ := by
  rw [← top_word]
  pointwise [rowIdx]

theorem hit_iff (v i : FVec Ideal S64x128 .f32) (p : Fin 64) (l : Fin 128) :
    hit v i (ix2 p l) = 1#1 ↔ v (ix2 p l) = rowMax v (ix2 p 0) ∧ i (ix2 p l) = rowIdx v i (ix2 p 0) := by
  have h : hit v i (ix2 p l) = IntOp.andi (BitVec.ofBool (decide (v (ix2 p l) = rowMax v (ix2 p 0)))) (BitVec.ofBool (decide (i (ix2 p l) = rowIdx v i (ix2 p 0)))) := by
    pointwise [hit]
  rw [h]
  by_cases h1 : v (ix2 p l) = rowMax v (ix2 p 0) <;> by_cases h2 : i (ix2 p l) = rowIdx v i (ix2 p 0) <;> simp [IntOp.andi, h1, h2]

theorem ents_next (s : X8 Ideal) (p : Fin 64) (l : Fin 128) :
    ents s.next p l = if hit s.v0 s.i0 (ix2 p l) = 1#1 then up (ents s p l) else ents s p l := by
  by_cases h : hit s.v0 s.i0 (ix2 p l) = 1#1
  · rw [if_pos h]
    have e : ∀ a b : FVec Ideal S64x128 .f32, select (hit s.v0 s.i0) a b (ix2 p l) = a (ix2 p l) := fun a b => if_pos h
    simp only [ents, X8.next, up, e]
  · rw [if_neg h]
    have e : ∀ a b : FVec Ideal S64x128 .f32, select (hit s.v0 s.i0) a b (ix2 p l) = b (ix2 p l) := fun a b => if_neg h
    simp only [ents, X8.next, e]

/-- Every value above the bottom has an index in its lane. -/
def Laned (l : Fin 128) (e : Ent) : Prop := e.1 ≠ ⊥ → ∃ z : BitVec 32, e.2 = ((z.toInt : ℝ) : EReal) ∧ z.toNat % 128 = l.val

/-- The lanes of a row: sorted, each value above the bottom with an index in its lane. -/
def Inv (s : X8 Ideal) (p : Fin 64) : Prop := ∀ l, (vals s p l).Pairwise (· ≥ ·) ∧ ∀ e ∈ ents s p l, Laned l e

theorem Inv.next {s : X8 Ideal} {p : Fin 64} (h : Inv s p) : Inv s.next p := by
  intro l
  obtain ⟨h1, h2⟩ := h l
  unfold vals at h1 ⊢
  rw [ents_next]
  split
  · constructor
    · simp only [ents, up, List.map_cons, List.map_nil] at h1 ⊢
      have h3 := (List.pairwise_cons.mp h1).2
      have h4 : ([s.v1 (ix2 p l), s.v2 (ix2 p l), s.v3 (ix2 p l), s.v4 (ix2 p l), s.v5 (ix2 p l), s.v6 (ix2 p l), s.v7 (ix2 p l)] : List EReal) ++ [s.v7 (ix2 p l)] =
        [s.v1 (ix2 p l), s.v2 (ix2 p l), s.v3 (ix2 p l), s.v4 (ix2 p l), s.v5 (ix2 p l), s.v6 (ix2 p l), s.v7 (ix2 p l), s.v7 (ix2 p l)] := rfl
      rw [← h4]
      simp only [List.pairwise_cons, List.mem_cons, List.not_mem_nil, forall_eq_or_imp, or_false, List.cons_append, List.nil_append] at h3 ⊢
      obtain ⟨a1, a2, a3, a4, a5, a6, a7, a8⟩ := h3
      simp_all
    · intro e he
      refine h2 e ?_
      simp only [ents, up, List.mem_cons, List.not_mem_nil, or_false] at he ⊢
      tauto
  · exact ⟨h1, h2⟩

theorem length_flatMap_const {ι α : Type} (L : List ι) (f : ι → List α) (k : ℕ) (h : ∀ i, (f i).length = k) : (L.flatMap f).length = L.length * k := by
  induction L with
  | nil => simp
  | cons a L ih => rw [List.flatMap_cons, List.length_append, ih, h, List.length_cons, Nat.succ_mul, Nat.add_comm]

theorem len_le (t : X8 Ideal) (p : Fin 64) (k : ℕ) (hk : k ≤ 8) : k ≤ ((List.finRange 128).flatMap fun l => (vals t p l).take k).length := by
  rw [length_flatMap_const _ _ k, List.length_finRange]
  · omega
  · intro l
    have e : (vals t p l).length = 8 := rfl
    rw [List.length_take, e]
    exact min_eq_left hk

set_option maxHeartbeats 1000000 in
/-- One round: the greatest value of a row comes off, and the rest are the lanes after it. -/
theorem round {s : X8 Ideal} {p : Fin 64} (h : Inv s p) (n : ℕ) (hn : n ≤ 7) :
    topList (n + 1) ((List.finRange 128).flatMap fun l => (vals s p l).take (n + 1)) =
      rowMax s.v0 (ix2 p 0) :: topList n ((List.finRange 128).flatMap fun l => (vals s.next p l).take n) := by
  have head : ∀ l, ∀ b ∈ vals s p l, b ≤ s.v0 (ix2 p l) := by
    intro l b hb
    have h1 := (h l).1
    have e : vals s p l = s.v0 (ix2 p l) :: (vals s p l).tail := rfl
    rw [e, List.pairwise_cons] at h1
    rw [e] at hb
    rcases List.mem_cons.mp hb with rfl | hb
    · exact le_refl _
    · exact h1.1 b hb
  have max_ge : ∀ l, s.v0 (ix2 p l) ≤ rowMax s.v0 (ix2 p 0) := by
    intro l
    rw [rowMax_at]
    exact (Finset.le_fold_max _).mpr (.inr ⟨l, Finset.mem_univ _, le_refl _⟩)
  by_cases hm : rowMax s.v0 (ix2 p 0) = ⊥
  · have all : ∀ l, ∀ b ∈ vals s p l, b = ⊥ := fun l b hb => le_bot_iff.mp (le_trans (head l b hb) (hm ▸ max_ge l))
    have all' : ∀ l, ∀ b ∈ vals s.next p l, b = ⊥ := by
      intro l b hb
      refine all l b ?_
      unfold vals at hb ⊢
      rw [ents_next] at hb
      split at hb
      · simp only [ents, up, List.map_cons, List.map_nil, List.mem_cons, List.not_mem_nil, or_false] at hb ⊢
        tauto
      · exact hb
    rw [topList_replicate (n + 1) 0 ⊥ _ ?_ (len_le s p (n + 1) (by omega)), topList_replicate n 0 ⊥ _ ?_ (len_le s.next p n (by omega)), hm, List.replicate_succ]
    · intro b hb
      obtain ⟨l, _, hb⟩ := List.mem_flatMap.mp hb
      exact all' l b (List.mem_of_mem_take hb)
    · intro b hb
      obtain ⟨l, _, hb⟩ := List.mem_flatMap.mp hb
      exact all l b (List.mem_of_mem_take hb)
  · -- the lane the value comes from
    have att : ∃ l, s.v0 (ix2 p l) = rowMax s.v0 (ix2 p 0) := by
      by_contra hne
      push_neg at hne
      have : rowMax s.v0 (ix2 p 0) < rowMax s.v0 (ix2 p 0) := by
        conv_lhs => rw [rowMax_at]
        exact (Finset.fold_max_lt _).mpr ⟨bot_lt_iff_ne_bot.mpr hm, fun l _ => lt_of_le_of_ne (max_ge l) (hne l)⟩
      exact lt_irrefl _ this
    obtain ⟨l0, hl0⟩ := att
    have laned0 : ∀ l, s.v0 (ix2 p l) = rowMax s.v0 (ix2 p 0) → ∃ z : BitVec 32, s.i0 (ix2 p l) = ((z.toInt : ℝ) : EReal) ∧ z.toNat % 128 = l.val := by
      intro l hl
      exact (h l).2 (s.v0 (ix2 p l), s.i0 (ix2 p l)) (by simp [ents]) (by show s.v0 (ix2 p l) ≠ ⊥; rw [hl]; exact hm)
    have idx_le : ∀ l, s.v0 (ix2 p l) = rowMax s.v0 (ix2 p 0) → rowIdx s.v0 s.i0 (ix2 p 0) ≤ s.i0 (ix2 p l) := by
      intro l hl
      rw [rowIdx_at]
      exact (Finset.fold_min_le _).mpr (.inr ⟨l, Finset.mem_univ _, by rw [if_pos hl]⟩)
    have idx_lt : rowIdx s.v0 s.i0 (ix2 p 0) < ⊤ := by
      obtain ⟨z, hz, _⟩ := laned0 l0 hl0
      exact lt_of_le_of_lt (idx_le l0 hl0) (by rw [hz]; exact EReal.coe_lt_top _)
    have att' : ∃ l, s.v0 (ix2 p l) = rowMax s.v0 (ix2 p 0) ∧ s.i0 (ix2 p l) = rowIdx s.v0 s.i0 (ix2 p 0) := by
      by_contra hne
      push_neg at hne
      have : rowIdx s.v0 s.i0 (ix2 p 0) < rowIdx s.v0 s.i0 (ix2 p 0) := by
        conv_rhs => rw [rowIdx_at]
        refine (Finset.lt_fold_min _).mpr ⟨idx_lt, fun l _ => ?_⟩
        split
        · rename_i hl
          exact lt_of_le_of_ne (idx_le l hl) (hne l hl).symm
        · exact idx_lt
      exact lt_irrefl _ this
    obtain ⟨d, hd1, hd2⟩ := att'
    have only : ∀ l, hit s.v0 s.i0 (ix2 p l) = 1#1 → l = d := by
      intro l hl
      obtain ⟨a, b⟩ := (hit_iff _ _ p l).mp hl
      obtain ⟨z, hz, hzl⟩ := laned0 l a
      obtain ⟨z', hz', hzd⟩ := laned0 d hd1
      have : ((z.toInt : ℝ) : EReal) = ((z'.toInt : ℝ) : EReal) := by rw [← hz, ← hz', b, hd2]
      have : z.toInt = z'.toInt := by exact_mod_cast EReal.coe_injective this
      have : z = z' := BitVec.eq_of_toInt_eq this
      subst this
      exact Fin.ext (by rw [← hzl, ← hzd])
    refine topList_round n (List.finRange 128) (List.nodup_finRange 128) _ _ _ d (List.mem_finRange d) (fun l _ => (h l).1.sublist (List.take_sublist _ _))
      (fun l _ b hb => le_trans (head l b (List.mem_of_mem_take hb)) (max_ge l)) ?_ (fun l _ hl => ?_)
    · show (vals s p d).take (n + 1) = _ :: (vals s.next p d).take n
      unfold vals
      rw [ents_next, if_pos ((hit_iff _ _ p d).mpr ⟨hd1, hd2⟩), ← hd1]
      simp only [ents, up, List.map_cons, List.map_nil, List.take_succ_cons]
      congr 1
      interval_cases n <;> rfl
    · show (vals s.next p l).take n = ((vals s p l).take (n + 1)).take n
      unfold vals
      rw [ents_next, if_neg (fun hh => hl (only l hh)), List.take_take, min_eq_left (by omega)]

/-- The eight rounds. -/
theorem rounds {s : X8 Ideal} {p : Fin 64} (h : Inv s p) :
    topList 8 ((List.finRange 128).flatMap fun l => vals s p l) =
      [rowMax s.v0 (ix2 p 0), rowMax s.next.v0 (ix2 p 0), rowMax s.next.next.v0 (ix2 p 0), rowMax s.next.next.next.v0 (ix2 p 0),
        rowMax s.next.next.next.next.v0 (ix2 p 0), rowMax s.next.next.next.next.next.v0 (ix2 p 0), rowMax s.next.next.next.next.next.next.v0 (ix2 p 0),
        rowMax s.next.next.next.next.next.next.next.v0 (ix2 p 0)] := by
  have e : (fun l => vals s p l) = fun l => (vals s p l).take 8 := rfl
  rw [e, round h 7 (by decide), round h.next 6 (by decide), round h.next.next 5 (by decide), round h.next.next.next 4 (by decide),
    round h.next.next.next.next 3 (by decide), round h.next.next.next.next.next 2 (by decide), round h.next.next.next.next.next.next 1 (by decide),
    round h.next.next.next.next.next.next.next 0 (by decide)]
  rfl

theorem setCol_at (r : BitVec 32) (m : FVec Ideal S64x1 .f32) (t : FVec Ideal S64x128 .f32) (p : Fin 64) (q : Fin 128) :
    setCol r m t (ix2 p q) = if BitVec.ofNat 32 q.val = r then m (ix2 p 0) else t (ix2 p q) := by
  have h : setCol r m t (ix2 p q) = Scalar.select (IntOp.cmpi CmpIPredicate.eq (BitVec.ofNat 32 q.val) r) (m (ix2 p 0)) (t (ix2 p q)) := by
    pointwise [setCol]
  rw [h]
  by_cases hq : BitVec.ofNat 32 q.val = r
  · rw [if_pos hq]
    have e : (BitVec.ofNat 32 q.val == r) = true := by simpa using hq
    simp only [IntOp.cmpi, e]
    rfl
  · rw [if_neg hq]
    have e : (BitVec.ofNat 32 q.val == r) = false := by simpa using hq
    simp only [IntOp.cmpi, e]
    rfl

theorem first8_at (x : FVec Ideal S64x128 .f32) (q : Fin 8) (p : Fin 64) : first8 x (ix2 q p) = x (ix2 p ⟨q.val, by omega⟩) := by
  pointwise [first8]

/-- The extraction's result: the greatest eight of all lanes. -/
theorem outV_at {s : X8 Ideal} {p : Fin 64} (h : Inv s p) (q : Fin 8) :
    some (first8 s.outV (ix2 q p)) = (topList 8 ((List.finRange 128).flatMap fun l => vals s p l))[q.val]? := by
  rw [rounds h, first8_at]
  unfold X8.outV X8.setV
  simp only [setCol_at]
  match q with
  | 0 => rfl
  | 1 => rfl
  | 2 => rfl
  | 3 => rfl
  | 4 => rfl
  | 5 => rfl
  | 6 => rfl
  | 7 => rfl

end Cert.VR

end
-- ==== Proof.ValAll.lean ====
module

public import proofs.«01_k».proof.Proof.ValMet
public import proofs.«01_k».proof.Proof.ValRounds

/-! The kernel's values: the greatest eight logits of each row. -/

@[expose] public section

set_option maxRecDepth 16384

noncomputable section

namespace Cert.VA

open Idealize.ShloMosaic Idealize.ShloMosaic.SortNet Cert.Kernel Cert.KS Cert.Top Cert.VL

variable [Cert.Kernel.Facts]

theorem rdX_at {α : Type} (X : S8x64x128.Idx → α) (k : ℕ) (hk : k < 8) (p : Fin 64) (l : Fin 128) : rdX X k hk (ix2 p l) = X (ix3 ⟨k, hk⟩ p l) := by
  unfold rdX
  pointwise []
  rw [emb3 k 0 0 _ 0 p l (by omega) (by omega) (by omega)]
  simp only [Nat.zero_add, Fin.val_zero, Nat.add_zero]

theorem sitofp_at (x : IVec S64x128 32) (p : Fin 64) (l : Fin 128) : (sitofp .f32 x : FVec Ideal S64x128 .f32) (ix2 p l) = ((((x (ix2 p l)).toInt : ℤ) : ℝ) : EReal) := rfl

theorem ents_getX (s : Lists Ideal) (p : Fin 64) (l : Fin 128) :
    VR.ents (getX s) p l = (VI.ents s p l).map fun e => (e.1, (((e.2.toInt : ℤ) : ℝ) : EReal)) := by
  simp only [VR.ents, getX, VI.ents, List.map_cons, List.map_nil, sitofp_at, rdX_at]
  rfl

theorem vals_getX (s : Lists Ideal) (p : Fin 64) (l : Fin 128) : VR.vals (getX s) p l = (VI.ents s p l).map Prod.fst := by
  unfold VR.vals
  rw [ents_getX, List.map_map]
  rfl

theorem inv_getX (s : Lists Ideal) (p : Fin 64) (M : Fin 128 → List EReal) (h : ∀ l, VI.Good l (VI.ents s p l) (M l)) : VR.Inv (getX s) p := by
  intro l
  constructor
  · rw [vals_getX, (h l).1]
    exact pairwise_topList _ _
  · intro e he
    rw [ents_getX] at he
    obtain ⟨a, ha, rfl⟩ := List.mem_map.mp he
    intro hne
    exact ⟨a.2, rfl, (h l).2.2 a ha hne⟩

/-- The tiles of the first `n` blocks. -/
def tiles : ℕ → List ℕ
  | 0 => []
  | n + 1 => tiles n ++ [colOf n / 128 + 0] ++ [colOf n / 128 + 1] ++ [colOf n / 128 + 2] ++ [colOf n / 128 + 3]

theorem tiles_perm : (tiles 62 ++ [124] ++ [249]).Perm (List.range 250) := by decide +kernel

theorem cols_perm : ((List.finRange 128).flatMap fun l : Fin 128 => (List.range 250).map fun g => 128 * g + l.val).Perm (List.range 32000) := by
  refine (List.perm_ext_iff_of_nodup ?_ List.nodup_range).mpr fun c => ?_
  · rw [List.nodup_flatMap]
    constructor
    · intro l _
      exact List.Nodup.map (fun a b h => by have h : 128 * a + l.val = 128 * b + l.val := h; omega) List.nodup_range
    · refine (List.nodup_finRange 128).imp fun {a b} hab => ?_
      intro c h1 h2
      obtain ⟨g, _, hg⟩ := List.mem_map.mp h1
      obtain ⟨g', _, hg'⟩ := List.mem_map.mp h2
      exact hab (Fin.ext (by omega))
  · rw [List.mem_flatMap, List.mem_range]
    constructor
    · rintro ⟨l, _, h⟩
      obtain ⟨g, hg, rfl⟩ := List.mem_map.mp h
      rw [List.mem_range] at hg
      omega
    · intro h
      exact ⟨⟨c % 128, by omega⟩, List.mem_finRange _, List.mem_map.mpr ⟨c / 128, List.mem_range.mpr (by omega), by show 128 * (c / 128) + c % 128 = c; omega⟩⟩

theorem topList_bots (k : ℕ) (Z : List EReal) (hZ : 8 ≤ Z.length) : topList 8 (List.replicate k ⊥ ++ Z) = topList 8 Z := by
  rw [topList_perm (List.perm_append_comm)]
  exact topList_append_of_le 8 Z _ hZ fun s hs a _ => by rw [List.eq_of_mem_replicate hs]; exact bot_le

section
variable (A : S64x128.Idx → Elt Ideal .f32) (B C : S250x128.Idx → Elt Ideal .f32) (Y : S64x4608.Idx → Elt Ideal .fp8e4m3)
  (Wt : S4608x32000.Idx → Elt Ideal .fp8e4m3)

theorem met_eq (p : Fin 64) (l : Fin 128) (y : ℕ → EReal) (hy : ∀ g : Fin 250, y (128 * g.val + l.val) = logit A B C Y Wt p g l) (n : ℕ) (hn : n ≤ 62) :
    VI.met A B C Y Wt p l n = List.replicate 12 ⊥ ++ (tiles n).map fun g => y (128 * g + l.val) := by
  induction n with
  | zero => rfl
  | succ n ih =>
    rw [VI.met, dif_pos (by omega), ih (by omega), tiles]
    simp only [List.map_append, List.map_cons, List.map_nil, ← List.append_assoc]
    have e : ∀ u (hu : u < 4), y (128 * (colOf n / 128 + u) + l.val) = VI.tl A B C Y Wt p l n (by omega) u hu := fun u hu =>
      hy ⟨colOf n / 128 + u, VI.tile_lt n (by omega) u hu⟩
    rw [e 0 (by decide), e 1 (by decide), e 2 (by decide), e 3 (by decide)]

/-- A row's greatest eight logits, whatever order they are met in. -/
theorem vals_at (p : Fin 64) (q : Fin 8) (R : Fin 32000 → EReal)
    (hR : ∀ (g : Fin 250) (l : Fin 128), R ⟨128 * g.val + l.val, by omega⟩ = logit A B C Y Wt p g l) :
    some (first8 (getX (listsT1 A B C Y Wt)).outV (ix2 q p)) = (topList 8 (List.ofFn R))[q.val]? := by
  have good := fun l => VI.listsT1_good A B C Y Wt p l
  rw [VR.outV_at (inv_getX _ p _ good) q]
  refine congrArg (fun L : List EReal => L[q.val]?) ?_
  have e1 : ((List.finRange 128).flatMap fun l => VR.vals (getX (listsT1 A B C Y Wt)) p l) = (List.finRange 128).flatMap fun l =>
      topList 8 (VI.met A B C Y Wt p l 62 ++ [logit A B C Y Wt p ⟨124, by decide⟩ l] ++ [logit A B C Y Wt p ⟨249, by decide⟩ l]) :=
    List.flatMap_congr fun l _ => by rw [vals_getX, (good l).1]
  let y : ℕ → EReal := fun c => if h : c < 32000 then R ⟨c, h⟩ else ⊥
  have hy : ∀ (l : Fin 128) (g : Fin 250), y (128 * g.val + l.val) = logit A B C Y Wt p g l := by
    intro l g
    show dite _ _ _ = _
    rw [dif_pos (by omega), hR g l]
  have e2 : ∀ l : Fin 128, topList 8 (VI.met A B C Y Wt p l 62 ++ [logit A B C Y Wt p ⟨124, by decide⟩ l] ++ [logit A B C Y Wt p ⟨249, by decide⟩ l]) =
      topList 8 ((List.range 250).map fun g => y (128 * g + l.val)) := by
    intro l
    rw [met_eq A B C Y Wt p l y (hy l) 62 (le_refl _), ← hy l ⟨124, by decide⟩, ← hy l ⟨249, by decide⟩, List.append_assoc, List.append_assoc]
    have e : (List.map (fun g => y (128 * g + l.val)) (tiles 62) ++ ([y (128 * 124 + l.val)] ++ [y (128 * 249 + l.val)])) =
        (tiles 62 ++ [124] ++ [249]).map fun g => y (128 * g + l.val) := by
      simp only [List.map_append, List.map_cons, List.map_nil, List.append_assoc]
    rw [e, topList_bots _ _ (by rw [List.length_map, tiles_perm.length_eq, List.length_range]; decide)]
    exact topList_perm (tiles_perm.map _)
  have e3 : List.ofFn R = (List.range 32000).map y := by
    rw [List.ofFn_eq_map, ← List.map_coe_finRange_eq_range, List.map_map]
    refine List.map_congr_left fun c _ => ?_
    show R c = dite _ _ _
    rw [dif_pos c.isLt]
  rw [e1, ← topList_flatMap, topList_flatMap_congr 8 _ _ _ fun l _ => e2 l, e3]
  refine topList_perm ?_
  have e4 : ((List.finRange 128).flatMap fun l : Fin 128 => (List.range 250).map fun g => y (128 * g + l.val)) =
      ((List.finRange 128).flatMap fun l : Fin 128 => (List.range 250).map fun g => 128 * g + l.val).map y := by
    rw [List.map_flatMap]
    refine List.flatMap_congr fun l _ => ?_
    rw [List.map_map]
    rfl
  rw [e4]
  exact cols_perm.map y

end

end Cert.VA

end
-- ==== Proof.ValScale.lean ====
module

public import Idealize.ShloMosaic.PureOps.Ideal
public import Mathlib.Data.EReal.Basic

/-! The exponent of a scale: the greatest `j` of 0 … 255 whose word `j · 2 ^ 23`, read as a float, is at most `y`, is
`⌊log y / log 2⌋ + 127` for every normal `y`, and 0 below the normal numbers. -/

@[expose] public section

noncomputable section

namespace Cert.Scale

open Idealize.ShloMosaic

/-- The word of a power of two. -/
theorem ofBits_pow (j : ℕ) (h0 : 0 < j) (h1 : j < 255) :
    Ideal.ofBits .f32 (BitVec.ofNat 32 (j * 2 ^ 23)) = (((2 : ℝ) ^ ((j : ℤ) - 127) : ℝ) : EReal) := by
  have hneg : ((BitVec.ofNat 32 (j * 2 ^ 23)).extractLsb' (8 + 23) 1 == 1#1) = false := by
    rw [beq_eq_false_iff_ne]; intro h
    have := congrArg BitVec.toNat h
    rw [BitVec.extractLsb'_toNat, BitVec.toNat_ofNat, Nat.shiftRight_eq_div_pow] at this
    simp at this; omega
  have hex : ((BitVec.ofNat 32 (j * 2 ^ 23)).extractLsb' 23 8).toNat = j := by
    rw [BitVec.extractLsb'_toNat, BitVec.toNat_ofNat, Nat.shiftRight_eq_div_pow]; omega
  have hfr : ((BitVec.ofNat 32 (j * 2 ^ 23)).extractLsb' 0 23).toNat = 0 := by
    rw [BitVec.extractLsb'_toNat, BitVec.toNat_ofNat]; simp
  unfold Ideal.ofBits Ideal.ieee
  simp only [hneg, hex, hfr]
  rw [if_neg (by omega), if_neg (by omega)]
  congr 1
  have e : ((j : ℤ) - 127) = 23 + ((j : ℤ) - (2 ^ (8 - 1) - 1) - (23 : ℕ)) := by norm_num
  rw [e, zpow_add₀ (by norm_num)]
  norm_num

theorem ofBits_word0 : Ideal.ofBits .f32 (BitVec.ofNat 32 (0 * 2 ^ 23)) = 0 := by
  simp [Ideal.ofBits, Ideal.ieee]

theorem ofBits_word255 : Ideal.ofBits .f32 (BitVec.ofNat 32 (255 * 2 ^ 23)) = ⊤ := by
  simp [Ideal.ofBits, Ideal.ieee]

/-- Whether the word of `j` is at most `y`. -/
def le (y : EReal) (j : ℕ) : Prop := Ideal.ofBits .f32 (BitVec.ofNat 32 (j * 2 ^ 23)) ≤ y

theorem le_iff (y : ℝ) (hy : 0 ≤ y) (j : ℕ) (hj : j ≤ 255) :
    le y j ↔ j = 0 ∨ (j < 255 ∧ (2 : ℝ) ^ ((j : ℤ) - 127) ≤ y) := by
  unfold le
  rcases Nat.eq_zero_or_pos j with rfl | h
  · rw [ofBits_word0]; simp [hy]
  · rcases Nat.lt_or_ge j 255 with h' | h'
    · rw [ofBits_pow j h h', EReal.coe_le_coe_iff]
      constructor
      · exact fun e => .inr ⟨h', e⟩
      · rintro (e | e); exacts [by omega, e.2]
    · obtain rfl : j = 255 := by omega
      rw [ofBits_word255]; simp

/-- The exponent as the reference writes it. -/
def refE (y : ℝ) : ℤ := if y < 2 ^ (-126 : ℤ) then 0 else ⌊Real.log y / Real.log 2⌋ + 1

/-- The exponent of the greatest `j`. -/
theorem exponent (y : ℝ) (hy : 0 ≤ y) (hy' : y < 2 ^ (126 : ℤ)) (b : ℕ) (hb : b ≤ 255) (h1 : le y b) (h2 : ∀ j ≤ 255, le y j → j ≤ b) :
    b < 254 ∧ refE y = (if b = 0 then 0 else (b : ℤ) - 126) ∧ -125 ≤ refE y ∧ refE y ≤ 126 := by
  have two : (1 : ℝ) < 2 := by norm_num
  rw [le_iff y hy b hb] at h1
  unfold refE
  split
  · rename_i hlt
    have : b = 0 := by
      rcases h1 with h | ⟨_, h⟩
      · exact h
      · by_contra hne
        have : (2 : ℝ) ^ (-126 : ℤ) ≤ 2 ^ ((b : ℤ) - 127) := zpow_le_zpow_right₀ two.le (by omega)
        linarith
    subst this
    simp
  · rename_i hge
    rw [not_lt] at hge
    have hpos : 0 < y := lt_of_lt_of_le (by positivity) hge
    have h1b : 1 ≤ b := h2 1 (by norm_num) ((le_iff y hy 1 (by norm_num)).mpr (.inr ⟨by norm_num, by norm_num; norm_num at hge; exact hge⟩))
    obtain ⟨hb5, hlow⟩ := h1.resolve_left (by omega)
    have hb4 : b < 253 := by
      by_contra h
      have : (2 : ℝ) ^ (126 : ℤ) ≤ 2 ^ ((b : ℤ) - 127) := zpow_le_zpow_right₀ two.le (by omega)
      linarith
    have hhigh : y < 2 ^ ((b : ℤ) + 1 - 127) := by
      by_contra h
      rw [not_lt] at h
      have := h2 (b + 1) (by omega) ((le_iff y hy (b + 1) (by omega)).mpr (.inr ⟨by omega, by push_cast; exact h⟩))
      omega
    have hfl : ⌊Real.log y / Real.log 2⌋ = (b : ℤ) - 127 := by
      have l2 : 0 < Real.log 2 := Real.log_pos two
      rw [Int.floor_eq_iff]
      constructor
      · rw [le_div_iff₀ l2, ← Real.log_zpow]; exact Real.log_le_log (by positivity) hlow
      · rw [div_lt_iff₀ l2]
        have : (((b : ℤ) - 127 : ℤ) : ℝ) + 1 = (((b : ℤ) + 1 - 127 : ℤ) : ℝ) := by push_cast; ring
        rw [this, ← Real.log_zpow]; exact Real.log_lt_log hpos hhigh
    have hb0 : b ≠ 0 := by omega
    rw [hfl, if_neg hb0]
    refine ⟨by omega, by ring, ?_, ?_⟩ <;> linarith [(by exact_mod_cast h1b : (1 : ℤ) ≤ b), (by exact_mod_cast hb4 : (b : ℤ) < 253)]

end Cert.Scale

end
-- ==== Proof.ValQuant.lean ====
module

public import proofs.«01_k».proof.Proof.Struct
public import proofs.«01_k».proof.Proof.ValScale
public import Idealize.ShloMosaic.Lib.Pointwise
public import Idealize.ShloMosaic.Lib.SortNet.Extract

/-! The scale and the codes of a row, over the extended reals. -/

@[expose] public section

set_option maxRecDepth 16384

noncomputable section

namespace Cert.VQ

open Idealize.ShloMosaic Cert.Kernel Cert.KS

variable [Cert.Kernel.Facts]

theorem word256 : ∀ k < 256, IntOp.shli ArithUnit.vector (BitVec.ofNat 32 k) 23#32 = BitVec.ofNat 32 (k * 2 ^ 23) := by decide +kernel

/-- The word of an exponent, and of its opposite, made a power of two's. -/
theorem words : ∀ b < 253,
    IntOp.shli ArithUnit.vector (IntOp.addi (Scalar.select
      (IntOp.ori (IntOp.cmpi CmpIPredicate.eq (BitVec.ofNat 32 b) 0#32) (IntOp.cmpi CmpIPredicate.eq (BitVec.ofNat 32 b) 255#32))
      (0#32) (IntOp.subi (BitVec.ofNat 32 b) 126#32)) 127#32) 23#32 = BitVec.ofNat 32 ((if b = 0 then 127 else b + 1) * 2 ^ 23) ∧
    IntOp.shli ArithUnit.vector (IntOp.addi (IntOp.subi 0#32 (Scalar.select
      (IntOp.ori (IntOp.cmpi CmpIPredicate.eq (BitVec.ofNat 32 b) 0#32) (IntOp.cmpi CmpIPredicate.eq (BitVec.ofNat 32 b) 255#32))
      (0#32) (IntOp.subi (BitVec.ofNat 32 b) 126#32))) 127#32) 23#32 = BitVec.ofNat 32 ((if b = 0 then 127 else 253 - b) * 2 ^ 23) := by
  decide +kernel

theorem small : ∀ k < 256, (BitVec.ofNat 32 k).toInt = k := by decide +kernel

/-- The greatest word at most `y`. -/
theorem biased_at (y : FVec Ideal S64x1 .f32) (p : Fin 64) (q : Fin 1) (hy : (0 : EReal) ≤ y (ix2 p 0)) :
    ∃ b ≤ 255, biased y (ix2 p q) = BitVec.ofNat 32 b ∧ Scale.le (y (ix2 p 0)) b ∧ ∀ j ≤ 255, Scale.le (y (ix2 p 0)) j → j ≤ b := by
  have hp : biased y (ix2 p q) = Finset.fold IntOp.maxsi 2147483648#32
      (fun k : Fin 256 => if Ideal.ofBits FTy.f32 (IntOp.shli ArithUnit.vector (BitVec.ofNat 32 k.val) 23#32) ≤ y (ix2 p 0)
        then BitVec.ofNat 32 k.val else 0#32) Finset.univ := by
    pointwise [biased]
  have hs := SortNet.fold_maxsi_spec (fun k : Fin 256 => if Ideal.ofBits FTy.f32 (IntOp.shli ArithUnit.vector (BitVec.ofNat 32 k.val) 23#32) ≤ y (ix2 p 0)
    then BitVec.ofNat 32 k.val else 0#32) Finset.univ 2147483648#32
  rw [← hp] at hs
  generalize biased y (ix2 p q) = r at hs ⊢
  obtain ⟨_, h2, h3⟩ := hs
  have key : ∀ k : Fin 256, (if Ideal.ofBits FTy.f32 (IntOp.shli ArithUnit.vector (BitVec.ofNat 32 k.val) 23#32) ≤ y (ix2 p 0)
      then BitVec.ofNat 32 k.val else 0#32) = BitVec.ofNat 32 (@ite _ (Scale.le (y (ix2 p 0)) k.val) (Classical.propDecidable _) k.val 0) := by
    intro k
    rw [word256 k.val k.isLt]
    unfold Scale.le
    split <;> simp_all
  have le0 : Scale.le (y (ix2 p 0)) 0 := by unfold Scale.le; rw [Scale.ofBits_word0]; exact hy
  have hb : ∃ b ≤ 255, r = BitVec.ofNat 32 b ∧ Scale.le (y (ix2 p 0)) b := by
    rcases h3 with h3 | ⟨k, _, h3⟩
    · exfalso
      have := h2 0 (Finset.mem_univ _)
      rw [h3, key] at this
      revert this
      simp
    · rw [key] at h3
      split at h3
      · exact ⟨k.val, by omega, h3, by assumption⟩
      · exact ⟨0, by omega, h3, le0⟩
  obtain ⟨b, hb, rfl', hle⟩ := hb
  refine ⟨b, hb, rfl', hle, fun j hj hl => ?_⟩
  have := h2 ⟨j, by omega⟩ (Finset.mem_univ _)
  rw [key, rfl', small b (by omega)] at this
  rw [if_pos hl, small j (by omega)] at this
  exact_mod_cast this

/-- The greatest magnitude of a row, over the largest code. -/
def absMax (x : Fin 4608 → EReal) : EReal :=
  Finset.fold max (Ideal.ofBits FTy.f32 4286578688#32) (fun k => max (x k) (-x k)) Finset.univ * Ideal.ofBits FTy.f32 991054117#32

theorem amax_at (x : FVec Ideal S64x4608 .f32) (p : Fin 64) (q : Fin 1) : amax x (ix2 p q) = absMax (fun k => x (ix2 p k)) := by
  pointwise [amax]
  rfl

/-- The largest finite value of the tokens' format. -/
def top : EReal := Ideal.ofBits FTy.f32 0x7F7F0000#32

theorem top_eq : top = ((2 ^ 128 - 2 ^ 120 : ℝ) : EReal) := by
  simp only [top, Ideal.ofBits, Ideal.ieee]
  simp
  exact_mod_cast (by norm_num : (16711680 : ℝ) * 2 ^ 104 = 2 ^ 128 - 2 ^ 120)

theorem rcp_eq : ∃ c : ℝ, 0 < c ∧ c < 2 ^ (-2 : ℤ) ∧ Ideal.ofBits FTy.f32 991054117#32 = (c : EReal) := by
  refine ⟨9586981 * 2 ^ (-32 : ℤ), by positivity, by norm_num, ?_⟩
  simp only [Ideal.ofBits, Ideal.ieee]
  simp

theorem absMax_real (x : Fin 4608 → EReal) (hx : ∀ k, max (x k) (-x k) ≤ top) :
    ∃ r : ℝ, 0 ≤ r ∧ r < 2 ^ (126 : ℤ) ∧ absMax x = (r : EReal) := by
  unfold absMax
  obtain ⟨c, hc0, hc1, hc⟩ := rcp_eq
  rw [hc]
  have hbot : Ideal.ofBits FTy.f32 4286578688#32 = ⊥ := by simp [Ideal.ofBits, Ideal.ieee]
  rw [hbot]
  have h1 : Finset.fold max (⊥ : EReal) (fun k => max (x k) (-x k)) Finset.univ ≤ top :=
    (Finset.fold_max_le _).mpr ⟨bot_le, fun k _ => hx k⟩
  have h0 : 0 ≤ Finset.fold max (⊥ : EReal) (fun k => max (x k) (-x k)) Finset.univ := by
    refine (Finset.le_fold_max _).mpr (.inr ⟨0, Finset.mem_univ _, ?_⟩)
    rcases le_total 0 (x 0) with h | h
    · exact le_max_of_le_left h
    · exact le_max_of_le_right (EReal.neg_nonneg.mpr h)
  generalize Finset.fold max (⊥ : EReal) (fun k => max (x k) (-x k)) Finset.univ = A at h0 h1
  rw [top_eq] at h1
  lift A to ℝ using ⟨fun h => by rw [h] at h1; exact absurd h1 (not_le.mpr (EReal.coe_lt_top _)), fun h => by rw [h] at h0; exact absurd h0 (by simp)⟩
  rw [EReal.coe_le_coe_iff] at h1
  have h0' : 0 ≤ A := by exact_mod_cast h0
  refine ⟨A * c, mul_nonneg h0' hc0.le, ?_, by rw [EReal.coe_mul]⟩
  calc A * c ≤ (2 ^ 128 - 2 ^ 120) * c := mul_le_mul_of_nonneg_right h1 hc0.le
    _ < (2 ^ 128) * 2 ^ (-2 : ℤ) := by nlinarith
    _ = 2 ^ (126 : ℤ) := by norm_num

/-- The scale of a row is `2 ^ refE`, and the factor of its codes the reciprocal. -/
theorem pow2_at (x : FVec Ideal S64x4608 .f32) (p : Fin 64) (r : ℝ) (h0 : 0 ≤ r) (h1 : r < 2 ^ (126 : ℤ))
    (hr : absMax (fun k => x (ix2 p k)) = (r : EReal)) :
    pow2 (F := Ideal) (expo x) (ix2 p 0) = (((2 : ℝ) ^ (Scale.refE r) : ℝ) : EReal) ∧
    pow2 (F := Ideal) (subi (broadcast S64x1 0#32) (expo x)) (ix2 p 0) = (((2 : ℝ) ^ (-Scale.refE r) : ℝ) : EReal) := by
  have ha : amax x (ix2 p 0) = (r : EReal) := (amax_at x p 0).trans hr
  obtain ⟨b, hb, hbe, hl, hm⟩ := biased_at (amax x) p 0 (by rw [ha]; exact_mod_cast h0)
  rw [ha] at hl hm
  obtain ⟨hb', he, hlo, hhi⟩ := Scale.exponent r h0 h1 b hb hl hm
  have hb3 : b < 253 := by
    by_contra h
    rw [if_neg (by omega)] at he
    omega
  constructor
  · pointwise [pow2, expo]
    rw [hbe, (words b hb3).1, he]
    rcases Nat.eq_zero_or_pos b with h | h
    · rw [if_pos h, if_pos h, Scale.ofBits_pow _ (by norm_num) (by norm_num)]; norm_num
    · rw [if_neg (by omega), if_neg (by omega), Scale.ofBits_pow _ (by omega) (by omega)]
      rw [(by omega : ((b + 1 : ℕ) : ℤ) - 127 = (b : ℤ) - 126)]
  · pointwise [pow2, expo]
    rw [hbe, (words b hb3).2, he]
    rcases Nat.eq_zero_or_pos b with h | h
    · rw [if_pos h, if_pos h, Scale.ofBits_pow _ (by norm_num) (by norm_num)]; norm_num
    · rw [if_neg (by omega), if_neg (by omega), Scale.ofBits_pow _ (by omega) (by omega)]
      rw [(by omega : ((253 - b : ℕ) : ℤ) - 127 = -((b : ℤ) - 126))]

/-- The scale of a row, as the reference has it. -/
def scaleOf (x : Fin 4608 → EReal) : EReal :=
  Ideal.exp2 (if absMax x < Ideal.ofBits FTy.f32 0x00800000#32 then 0 else
    Ideal.liftRound Int.floor (Ideal.div (Ideal.log (absMax x)) ((Real.log 2 : ℝ) : EReal)) + Ideal.ofBits FTy.f32 0x3F800000#32)

/-- The factor of a row's codes, as the reference has it. -/
def factorOf (x : Fin 4608 → EReal) : EReal :=
  Ideal.exp2 (0 - (if absMax x < Ideal.ofBits FTy.f32 0x00800000#32 then 0 else
    Ideal.liftRound Int.floor (Ideal.div (Ideal.log (absMax x)) ((Real.log 2 : ℝ) : EReal)) + Ideal.ofBits FTy.f32 0x3F800000#32))

theorem refE_eq (y : EReal) (r : ℝ) (h0 : 0 ≤ r) (hr : y = (r : EReal)) :
    (if y < Ideal.ofBits FTy.f32 0x00800000#32 then (0 : EReal) else
      Ideal.liftRound Int.floor (Ideal.div (Ideal.log y) ((Real.log 2 : ℝ) : EReal)) + Ideal.ofBits FTy.f32 0x3F800000#32) =
    (((Scale.refE r : ℤ) : ℝ) : EReal) := by
  have e1 : Ideal.ofBits FTy.f32 0x00800000#32 = (((2 : ℝ) ^ (-126 : ℤ) : ℝ) : EReal) := by
    have := Scale.ofBits_pow 1 (by norm_num) (by norm_num); simpa using this
  have e2 : Ideal.ofBits FTy.f32 0x3F800000#32 = (((1 : ℝ) : ℝ) : EReal) := by
    have := Scale.ofBits_pow 127 (by norm_num) (by norm_num); simpa using this
  simp only [e1, e2, hr, EReal.coe_lt_coe_iff]
  unfold Scale.refE
  split
  · simp
  · rename_i h
    rw [not_lt] at h
    have hpos : 0 < r := lt_of_lt_of_le (by positivity) h
    have l2 : Real.log 2 ≠ 0 := (Real.log_pos (by norm_num)).ne'
    have hd : Ideal.div (Ideal.log (r : EReal)) ((Real.log 2 : ℝ) : EReal) = ((Real.log r / Real.log 2 : ℝ) : EReal) := by
      have hg : Ideal.log (r : EReal) = ((Real.log r : ℝ) : EReal) := if_neg (not_le.mpr hpos)
      rw [hg]
      simp [Ideal.div, l2, div_eq_mul_inv]
      rw [EReal.coe_inv]
    have hf : ∀ t : ℝ, Ideal.liftRound Int.floor (t : EReal) = (((⌊t⌋ : ℤ) : ℝ) : EReal) := fun _ => rfl
    rw [hd, hf]
    push_cast
    rfl

theorem exp2_int (e : ℤ) : Ideal.exp2 (((e : ℝ)) : EReal) = (((2 : ℝ) ^ e : ℝ) : EReal) := by
  exact congrArg (fun t : ℝ => (t : EReal)) (Real.rpow_intCast 2 e)

theorem scaleOf_eq (x : Fin 4608 → EReal) (r : ℝ) (h0 : 0 ≤ r) (hr : absMax x = (r : EReal)) :
    scaleOf x = (((2 : ℝ) ^ (Scale.refE r) : ℝ) : EReal) := by
  rw [scaleOf, refE_eq _ r h0 hr, exp2_int]

theorem factorOf_eq (x : Fin 4608 → EReal) (r : ℝ) (h0 : 0 ≤ r) (hr : absMax x = (r : EReal)) :
    factorOf x = (((2 : ℝ) ^ (-Scale.refE r) : ℝ) : EReal) := by
  rw [factorOf, refE_eq _ r h0 hr, zero_sub, ← EReal.coe_neg, ← Int.cast_neg, exp2_int]

theorem scaleTile_at (x : FVec Ideal S64x4608 .f32) (p : Fin 64) (q : Fin 128) (hx : ∀ k, max (x (ix2 p k)) (-x (ix2 p k)) ≤ top) :
    scaleTile x (ix2 p q) = scaleOf (fun k => x (ix2 p k)) := by
  obtain ⟨r, h0, h1, hr⟩ := absMax_real (fun k => x (ix2 p k)) hx
  rw [scaleOf_eq _ r h0 hr, ← (pow2_at x p r h0 h1 hr).1]
  pointwise [scaleTile]

/-- A code, as the reference has it. -/
def codeOf (x : Fin 4608 → EReal) (k : Fin 4608) : EReal :=
  min (Ideal.ofBits FTy.f32 1138753536#32) (max (Ideal.ofBits FTy.f32 3286237184#32) (x k * factorOf x))

theorem codes_at (x : FVec Ideal S64x4608 .f32) (p : Fin 64) (q : Fin 4608) (hx : ∀ k, max (x (ix2 p k)) (-x (ix2 p k)) ≤ top) :
    KS.codes x (ix2 p q) = codeOf (fun k => x (ix2 p k)) q := by
  obtain ⟨r, h0, h1, hr⟩ := absMax_real (fun k => x (ix2 p k)) hx
  unfold codeOf
  rw [factorOf_eq _ r h0 hr, ← (pow2_at x p r h0 h1 hr).2]
  pointwise [KS.codes]

theorem row_at (x : Vec Ideal S64x128 .f32) (p : Fin 1) (q : Fin 64) : scaleRow x (ix2 p q) = x (ix2 q 0) := by
  pointwise [scaleRow]

end Cert.VQ

end
-- ==== Proof.ValPay.lean ====
module

public import proofs.«01_k».proof.Proof.ValQuant
public import proofs.«01_k».proof.Proof.Gen.ReferenceIdeal.Skeleton

/-! The reference's scale, codes and logits at an index. -/

@[expose] public section

set_option maxRecDepth 16384

noncomputable section

namespace Cert.VP

open Idealize.ShloMosaic Cert.ReferenceIdeal Cert.ReferenceIdeal.Gen

theorem one_eq : Ideal.ofBits FTy.f32 0x3F800000#32 = 1 := by
  have := Scale.ofBits_pow 127 (by norm_num) (by norm_num)
  simpa using this

theorem ln2_eq : (Named.named κ "ln2" 1060205080#32 : Ideal .f32) = ((Real.log 2 : ℝ) : EReal) := rfl

theorem pay3_at (x : Vec Ideal S64x4608 .bf16) (p : Fin 64) (q : Fin 1) : k0_pay3 x (ix2 p q) = VQ.scaleOf (fun k => x (ix2 p k)) := by
  pointwise [k0_pay3, k0_pay2, k0_pay1]
  rw [VQ.scaleOf, one_eq, ln2_eq]
  rfl

theorem pay4_at (x : Vec Ideal S64x4608 .bf16) (p : Fin 64) (q : Fin 4608) : k0_pay4 x (ix2 p q) = VQ.codeOf (fun k => x (ix2 p k)) q := by
  pointwise [k0_pay4, k0_pay2, k0_pay1]
  rw [VQ.codeOf, VQ.factorOf, one_eq, ln2_eq]
  rfl

theorem pay5_at (x : Vec Ideal S64x4608 .bf16) (w : Vec Ideal S4608x32000 .fp8e4m3) (s b : Vec Ideal S1x32000 .f32) (p : Fin 64) (c : Fin 32000) :
    k0_pay5 x w s b (ix2 p c) = (∑ k : Fin 4608, k0_pay4 x (ix2 p k) * w (ix2 k c)) * k0_pay3 x (ix2 p 0) * s (ix2 0 c) + b (ix2 0 c) := by
  pointwise [k0_pay5]

end Cert.VP

end
-- ==== Proof.ValSort.lean ====
module

public import Idealize.ShloMosaic.Lib.Pointwise
public import Idealize.ShloMosaic.Lib.SortFacts
public import Idealize.ShloMosaic.Lib.SortNet.TopList
public import Idealize.ShloMosaic.PureOps.Ideal

/-! The values of a stable sort, whatever repeats among them. -/

@[expose] public section

set_option maxRecDepth 16384

noncomputable section

namespace Cert.VS

open Idealize.ShloMosaic Idealize.ShloMosaic.SortNet

theorem entry_sortedFrom {n : ℕ} (e : Fin n → EReal) (B : Fin n → Fin n → Bool) (hB : ∀ a b, B a b = decide (e b < e a)) (k : ℕ) (i : Fin n) (hik : i.val < k) :
    some (e (sortedFrom B i)) = (topList k (List.ofFn e))[i.val]? := by
  have hB' : B = fun a b => decide (e b < e a) := by funext a b; exact hB a b
  have h : (stableSort B (List.finRange n)).map e = (List.ofFn e).insertionSort (· ≥ ·) := by
    refine eq_of_perm_of_descending ?_ ?_ (List.pairwise_insertionSort (· ≥ ·) _)
    · have h1 : ((stableSort B (List.finRange n)).map e).Perm ((List.finRange n).map e) := (perm_stableSort _ _).map e
      rw [← List.ofFn_eq_map] at h1
      exact h1.trans (List.perm_insertionSort _ _).symm
    · have hs := pairwise_stableSort B B (fun a b h => by rw [hB] at h ⊢; simp only [decide_eq_true_eq, decide_eq_false_iff_not, not_lt] at h ⊢; exact h.le)
        (fun _ _ h => h) (fun a b c h1 h2 => by
          rw [hB] at h1 h2 ⊢; simp only [decide_eq_false_iff_not, not_lt] at h1 h2 ⊢; exact h1.trans h2) (List.finRange n)
      rw [List.pairwise_map]
      refine hs.imp fun {a b} hab => ?_
      rw [hB] at hab
      simpa only [decide_eq_false_iff_not, not_lt] using hab
  unfold topList
  rw [← h, List.getElem?_take_of_lt hik, List.getElem?_map]
  unfold sortedFrom sortPositions
  rw [List.get_eq_getElem, List.getElem?_eq_getElem]
  rfl

abbrev S64x32000 : Shape := ⟨2, ![64, 32000]⟩
abbrev S64x8 : Shape := ⟨2, ![64, 8]⟩

theorem along_row (p : Fin 64) (q c : Fin 32000) (h : 1 < S64x32000.rank) : (ix2 p q : S64x32000.Idx).along ⟨1, h⟩ c = ix2 p c := by
  funext a
  match a with
  | ⟨0, _⟩ => rfl
  | ⟨1, _⟩ => rfl

theorem total_gt (a b : Ideal .f32) : (FloatOps.cmpfTotal (F := Ideal) .gt a b == 1#1) = decide ((b : EReal) < a) := by
  show (BitVec.ofBool (decide ((a : EReal) > b)) == 1#1) = _
  by_cases h : (b : EReal) < a <;> simp [h]

/-- The values of the greatest eight of each row. -/
theorem topK_at (x : FVec Ideal S64x32000 .f32) (h : S64x32000.Slices (fun _ => 0) S64x8) (p : Fin 64) (q : Fin 8) :
    some ((Host.topK S64x8 1 (FloatOps.cmpfTotal .gt) x h).1 (ix2 p q)) = (topList 8 (List.ofFn fun c => x (ix2 p c)))[q.val]? := by
  have e : (Host.topK S64x8 1 (FloatOps.cmpfTotal .gt) x h).1 (ix2 p q) =
      x (ix2 p (sortedFrom (fun a b : Fin 32000 => FloatOps.cmpfTotal (F := Ideal) .gt (x (ix2 p a)) (x (ix2 p b)) == 1#1) ⟨q.val, by omega⟩)) := by
    have hs : ∀ v : FVec Ideal S64x32000 .f32, extractStridedSlice S64x8 (fun _ => 0) v h (ix2 p q) = v (ix2 p ⟨q.val, by omega⟩) := by
      intro v
      refine congrArg v ?_
      funext a
      match a with
      | ⟨0, _⟩ => exact Fin.ext (Nat.zero_add _)
      | ⟨1, _⟩ => exact Fin.ext (Nat.zero_add _)
    unfold Host.topK
    dsimp only
    rw [hs]
    unfold Host.sort2
    rw [dif_pos (by decide)]
    refine (congrArg x (along_row p ⟨q.val, by omega⟩ _ _)).trans ?_
    refine congrArg (fun B : Fin 32000 → Fin 32000 → Bool => x (ix2 p (sortedFrom B ⟨q.val, by omega⟩))) ?_
    funext a b
    exact congrArg₂ (fun i j => FloatOps.cmpfTotal (F := Ideal) .gt (x i) (x j) == 1#1) (along_row p _ a _) (along_row p _ b _)
  rw [e]
  exact entry_sortedFrom (fun c => x (ix2 p c)) _ (fun a b => total_gt _ _) 8 ⟨q.val, by omega⟩ q.isLt

end Cert.VS

end
-- ==== Proof.ValRef.lean ====
module

public import proofs.«01_k».proof.Proof.ValPay
public import proofs.«01_k».proof.Proof.ValSort
public import proofs.«01_k».proof.Proof.Gen.ReferenceIdeal.Frame
public import Idealize.ShloMosaic.Lib.Pipeline.ValueKit
public import Idealize.ShloMosaic.Lib.StableHlo.ReadAt

/-! What the reference ends with. -/

@[expose] public section

set_option maxRecDepth 16384

noncomputable section

namespace Cert.VRef

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ)

theorem idx : win0_0.index t0_0 = ![0, 0] ∧ win0_1.index t0_0 = ![0, 0] ∧ win0_2.index t0_0 = ![0, 0] ∧ win0_3.index t0_0 = ![0, 0] := by decide +kernel

theorem iblk0 (c : Dev nD) : iblk m c 0 t0_0 = V m c main_v0 := by
  funext j
  blk_ext [iblk, idx]

theorem iblk1 (c : Dev nD) : iblk m c 1 t0_0 = V m c main_arg1 := by
  funext j
  blk_ext [iblk, idx]

theorem iblk2 (c : Dev nD) : iblk m c 2 t0_0 = V m c main_v1 := by
  funext j
  blk_ext [iblk, idx]

theorem iblk3 (c : Dev nD) : iblk m c 3 t0_0 = V m c main_v2 := by
  funext j
  blk_ext [iblk, idx]

theorem final4 (c : Dev nD) : (dats m 0 c).arrAt 4 (cfgs 0).N = k0_pay5 (V m c main_v0) (V m c main_arg1) (V m c main_v1) (V m c main_v2) := by
  refine (dats m 0 c).arrAt_eq_of_after_last 4 t0_0 (by decide +kernel) _ fun j => ?_
  blk_simp
  rw [after0_4]
  frame_out
  rw [iblk0, iblk1, iblk2, iblk3]

theorem final5 (c : Dev nD) : (dats m 0 c).arrAt 5 (cfgs 0).N = k0_pay4 (V m c main_v0) := by
  refine (dats m 0 c).arrAt_eq_of_after_last 5 t0_0 (by decide +kernel) _ fun j => ?_
  blk_simp
  rw [after0_5]
  frame_out
  rw [iblk0]

theorem final6 (c : Dev nD) : (dats m 0 c).arrAt 6 (cfgs 0).N = k0_pay3 (V m c main_v0) := by
  refine (dats m 0 c).arrAt_eq_of_after_last 6 t0_0 (by decide +kernel) _ fun j => ?_
  blk_simp
  rw [after0_6]
  frame_out
  rw [iblk0]

end Cert.VRef

end
-- ==== Proof.ValRefEnd.lean ====
module

public import proofs.«01_k».proof.Proof.ValRef

/-! The reference's results at an index. -/

@[expose] public section

set_option maxRecDepth 16384

noncomputable section

namespace Cert.VRef

open Idealize.ShloMosaic Idealize.ShloMosaic.TcCoe Idealize.SL.Sem Idealize.ShloMosaic.SortNet
open Idealize.ShloMosaic.Pipeline (Dat)
open Cert.ReferenceIdeal Cert.ReferenceIdeal.Gen

variable (m : (ℓ : Loc nD τ sig) → Buf (Elt Ideal) ℓ)

/-- A row of the tokens. -/
abbrev row (X : S64x1x4608.Idx → EReal) (p : Fin 64) : Fin 4608 → EReal := fun k => X (ix3 p 0 k)

/-- A logit. -/
def logit (X : S64x1x4608.Idx → EReal) (W : S4608x32000.Idx → EReal) (S B : S32000.Idx → EReal) (p : Fin 64) (c : Fin 32000) : EReal :=
  (∑ k : Fin 4608, VQ.codeOf (row X p) k * W (ix2 k c)) * VQ.scaleOf (row X p) * S (ix1 c) + B (ix1 c)

abbrev arg0 (c : Dev nD) : S64x1x4608.Idx → EReal := m ((c : Thread nD τ).loc main_arg0)
abbrev arg1 (c : Dev nD) : S4608x32000.Idx → EReal := m ((c : Thread nD τ).loc main_arg1)
abbrev arg2 (c : Dev nD) : S32000.Idx → EReal := m ((c : Thread nD τ).loc main_arg2)
abbrev arg3 (c : Dev nD) : S32000.Idx → EReal := m ((c : Thread nD τ).loc main_arg3)

theorem V0_at (c : Dev nD) (p : Fin 64) (k : Fin 4608) : (V m c main_v0 : S64x4608.Idx → EReal) (ix2 p k) = arg0 m c (ix3 p 0 k) := by
  unfold V V0
  after_reads_at

theorem V1_at (c : Dev nD) (q : Fin 1) (k : Fin 32000) : (V m c main_v1 : S1x32000.Idx → EReal) (ix2 q k) = arg2 m c (ix1 k) := by
  unfold V V0
  after_reads_at

theorem V2_at (c : Dev nD) (q : Fin 1) (k : Fin 32000) : (V m c main_v2 : S1x32000.Idx → EReal) (ix2 q k) = arg3 m c (ix1 k) := by
  unfold V V0
  after_reads_at

/-- The greatest eight of each row. -/
abbrev tops (x : FVec Ideal S64x32000 .f32) : FVec Ideal S64x8 .f32 := (Host.topK S64x8 1 (FloatOps.cmpfTotal .gt) x sliceFits_S64x32000_S64x8).1

theorem tail4 (c : Dev nD) : Pipeline.afterTail₀ cfgs (dats m) 0 (V0 m) [hostOps1] c main_v4 =
    shapeCast S64x1x8 (tops ((dats m 0 c).arrAt 4 (cfgs 0).N)) shapeCasts_S64x8_S64x1x8 := by
  unfold Pipeline.afterTail₀
  after_reads_simp
  rw [← Pipeline.withArrays_arr spec0 launch0.win.arr_inj c (V0 m c) (fun w => (dats m 0 c).arrAt w (cfgs 0).N) 4]
  rfl

theorem tail5 (c : Dev nD) : Pipeline.afterTail₀ cfgs (dats m) 0 (V0 m) [hostOps1] c main_v5 =
    shapeCast S64x1x4608 ((dats m 0 c).arrAt 5 (cfgs 0).N : FVec Ideal S64x4608 .fp8e4m3) shapeCasts_S64x4608_S64x1x4608 := by
  unfold Pipeline.afterTail₀
  after_reads_simp
  rw [← Pipeline.withArrays_arr spec0 launch0.win.arr_inj c (V0 m c) (fun w => (dats m 0 c).arrAt w (cfgs 0).N) 5]
  rfl

theorem tail6 (c : Dev nD) : Pipeline.afterTail₀ cfgs (dats m) 0 (V0 m) [hostOps1] c main_v6 =
    shapeCast S64x1x1 ((dats m 0 c).arrAt 6 (cfgs 0).N : FVec Ideal S64x1 .f32) shapeCasts_S64x1_S64x1x1 := by
  unfold Pipeline.afterTail₀
  after_reads_simp
  rw [← Pipeline.withArrays_arr spec0 launch0.win.arr_inj c (V0 m c) (fun w => (dats m 0 c).arrAt w (cfgs 0).N) 6]
  rfl

theorem castA (x : S64x4608.Idx → EReal) (h : S64x4608.ShapeCasts S64x1x4608) (p : Fin 64) (q : Fin 1) (k : Fin 4608) : shapeCast S64x1x4608 x h (ix3 p q k) = x (ix2 p k) := by
  pointwise []

theorem castB (x : S64x1.Idx → EReal) (h : S64x1.ShapeCasts S64x1x1) (p : Fin 64) (q r : Fin 1) : shapeCast S64x1x1 x h (ix3 p q r) = x (ix2 p 0) := by
  pointwise []

theorem castC (x : S64x8.Idx → EReal) (h : S64x8.ShapeCasts S64x1x8) (p : Fin 64) (q : Fin 1) (r : Fin 8) : shapeCast S64x1x8 x h (ix3 p q r) = x (ix2 p r) := by
  pointwise []

theorem res5 (c : Dev nD) (p : Fin 64) (q : Fin 1) (k : Fin 4608) :
    (Pipeline.afterTail₀ cfgs (dats m) 0 (V0 m) [hostOps1] c main_v5 : S64x1x4608.Idx → EReal) (ix3 p q k) = VQ.codeOf (row (arg0 m c) p) k := by
  rw [tail5, final5]
  exact (castA (k0_pay4 (V m c main_v0)) _ p q k).trans ((VP.pay4_at (V m c main_v0) p k).trans
    (congrArg (fun f => VQ.codeOf f k) (funext fun j => V0_at m c p j)))

theorem res6 (c : Dev nD) (p : Fin 64) (q r : Fin 1) :
    (Pipeline.afterTail₀ cfgs (dats m) 0 (V0 m) [hostOps1] c main_v6 : S64x1x1.Idx → EReal) (ix3 p q r) = VQ.scaleOf (row (arg0 m c) p) := by
  rw [tail6, final6]
  exact (castB (k0_pay3 (V m c main_v0)) _ p q r).trans ((VP.pay3_at (V m c main_v0) p 0).trans
    (congrArg VQ.scaleOf (funext fun j => V0_at m c p j)))

theorem logit_at (c : Dev nD) (p : Fin 64) (j : Fin 32000) :
    k0_pay5 (V m c main_v0) (V m c main_arg1) (V m c main_v1) (V m c main_v2) (ix2 p j) = logit (arg0 m c) (arg1 m c) (arg2 m c) (arg3 m c) p j := by
  refine (VP.pay5_at _ _ _ _ p j).trans ?_
  have e0 : (fun k => (V m c main_v0 : S64x4608.Idx → EReal) (ix2 p k)) = row (arg0 m c) p := funext fun k => V0_at m c p k
  simp only [VP.pay4_at, VP.pay3_at]
  rw [V_main_arg1]
  unfold logit
  rw [← e0]
  exact congrArg₂ (· + ·) (congrArg₂ (· * ·) rfl (V1_at m c 0 j)) (V2_at m c 0 j)

theorem res4 (c : Dev nD) (p : Fin 64) (q : Fin 1) (r : Fin 8) :
    some ((Pipeline.afterTail₀ cfgs (dats m) 0 (V0 m) [hostOps1] c main_v4 : S64x1x8.Idx → EReal) (ix3 p q r)) =
      (topList 8 (List.ofFn fun j => logit (arg0 m c) (arg1 m c) (arg2 m c) (arg3 m c) p j))[r.val]? := by
  rw [tail4, final4]
  exact (congrArg some (castC (tops (k0_pay5 (V m c main_v0) (V m c main_arg1) (V m c main_v1) (V m c main_v2))) _ p q r)).trans
    ((VS.topK_at (k0_pay5 (V m c main_v0) (V m c main_arg1) (V m c main_v1) (V m c main_v2)) sliceFits_S64x32000_S64x8 p r).trans
    (congrArg (fun f : Fin 32000 → EReal => (topList 8 (List.ofFn f))[r.val]?) (funext fun j => logit_at m c p j)))

end Cert.VRef

end
-- ==== Proof.ValKer.lean ====
module

public import proofs.«01_k».proof.Proof.ValAll
public import proofs.«01_k».proof.Proof.ValRefEnd
public import proofs.«01_k».proof.Proof.Launch

/-! The kernel's results at an index. -/

@[expose] public section

set_option maxRecDepth 16384

noncomputable section

namespace Cert.VKer

open Idealize.ShloMosaic Idealize.ShloMosaic.TcCoe Idealize.SL.Sem Idealize.ShloMosaic.SortNet
open Idealize.ShloMosaic.Pipeline (Dat)
open Cert.Kernel Cert.Kernel.Gen Cert.KS Cert.KL

variable (m : (ℓ : Loc nD τ sig) → Buf (Elt Ideal) ℓ)

abbrev arg0 (c : Dev nD) : S64x1x4608.Idx → EReal := m ((c : Thread nD τ).loc main_arg0)
abbrev arg1 (c : Dev nD) : S4608x32000.Idx → EReal := m ((c : Thread nD τ).loc main_arg1)
abbrev arg2 (c : Dev nD) : S32000.Idx → EReal := m ((c : Thread nD τ).loc main_arg2)
abbrev arg3 (c : Dev nD) : S32000.Idx → EReal := m ((c : Thread nD τ).loc main_arg3)

theorem after0 (c : Dev nD) (t : Fin cfg0.N) : (dats m 0 c).after 0 t = valsOf (tokens m c) (weights m c) (colScale m c) (biases m c) := by dsimp only [dats]
theorem after2 (c : Dev nD) (t : Fin cfg0.N) : (dats m 0 c).after 2 t = scaleRow (scaleOf (tokens m c)) := by dsimp only [dats]

theorem final0 (c : Dev nD) : (dats m 0 c).arrAt 0 cfg0.N = valsOf (tokens m c) (weights m c) (colScale m c) (biases m c) := by
  refine (dats m 0 c).arrAt_eq_of_after_last 0 t0_0 (by decide +kernel) _ fun j => ?_
  blk_simp
  rw [after0]

theorem final2 (c : Dev nD) : (dats m 0 c).arrAt 2 cfg0.N = scaleRow (scaleOf (tokens m c)) := by
  refine (dats m 0 c).arrAt_eq_of_after_last 2 t0_0 (by decide +kernel) _ fun j => ?_
  blk_simp
  rw [after2]

theorem tokens_at (c : Dev nD) (p : Fin 64) (k : Fin 4608) : (tokens m c : S64x4608.Idx → EReal) (ix2 p k) = arg0 m c (ix3 p 0 k) := by
  unfold tokens V V0
  after_reads_at

theorem colScale_at (c : Dev nD) (g : Fin 250) (l : Fin 128) : (colScale m c : S250x128.Idx → EReal) (ix2 g l) = arg2 m c (ix1 ⟨128 * g.val + l.val, by omega⟩) := by
  unfold colScale V V0
  after_reads_at
  exact congrArg (arg2 m c) (congrArg ix1 (Fin.ext (by show g.val * 128 + l.val = 128 * g.val + l.val; omega)))

theorem biases_at (c : Dev nD) (g : Fin 250) (l : Fin 128) : (biases m c : S250x128.Idx → EReal) (ix2 g l) = arg3 m c (ix1 ⟨128 * g.val + l.val, by omega⟩) := by
  unfold biases V V0
  after_reads_at
  exact congrArg (arg3 m c) (congrArg ix1 (Fin.ext (by show g.val * 128 + l.val = 128 * g.val + l.val; omega)))

theorem end5 (c : Dev nD) : endAt m c main_v5 =
    shapeCast S64x1x8 (transpose S64x8 [1, 0] ((dats m 0 c).arrAt 0 cfg0.N : FVec Ideal S8x64 .f32) transposes_S8x64_S64x8_1_0 : FVec Ideal S64x8 .f32) shapeCasts_S64x8_S64x1x8 := by
  unfold endAt
  after_reads_simp
  rw [← Pipeline.withArrays_arr spec0 launch0.win.arr_inj c (Pipeline.withR (V0 m c) R0 c (G0 m c)) (fun w => (dats m 0 c).arrAt w cfg0.N) 0]
  rfl

theorem end7 (c : Dev nD) : endAt m c main_v7 =
    shapeCast S64x1x1 ((dats m 0 c).arrAt 2 cfg0.N : FVec Ideal S1x64 .f32) shapeCasts_S1x64_S64x1x1 := by
  unfold endAt
  after_reads_simp
  rw [← Pipeline.withArrays_arr spec0 launch0.win.arr_inj c (Pipeline.withR (V0 m c) R0 c (G0 m c)) (fun w => (dats m 0 c).arrAt w cfg0.N) 2]
  rfl

theorem end6 (c : Dev nD) : endAt m c main_v6 =
    shapeCast S64x1x4608 (codesOf (tokens m c) : FVec Ideal S64x4608 .fp8e4m3) shapeCasts_S64x4608_S64x1x4608 := by
  have e : (Pipeline.withArrays spec0 c (Pipeline.withR (V0 m c) R0 c (G0 m c)) (fun w => (dats m 0 c).arrAt w cfg0.N) (Proc.devRef .tc main_v3_2) : S64x4608.Idx → EReal) = codesOf (tokens m c) :=
    (Pipeline.withArrays_of_ne spec0 c (Pipeline.withR (V0 m c) R0 c (G0 m c)) (fun w => (dats m 0 c).arrAt w cfg0.N) main_v3_2 (by exact (by decide : ∀ w, Pipeline.arrRef spec0 w ≠ main_v3_2))).trans
      ((Pipeline.withR_of_mem (V0 m c) R0 c (G0 m c) main_v3_2 (by decide)).trans (G0_codes m c))
  rw [← e]
  unfold endAt
  generalize Pipeline.withArrays spec0 c (Pipeline.withR (V0 m c) R0 c (G0 m c)) (fun w => (dats m 0 c).arrAt w cfg0.N) = U
  after_reads_simp
  rfl

theorem castR (x : S1x64.Idx → EReal) (h : S1x64.ShapeCasts S64x1x1) (p : Fin 64) (q r : Fin 1) : shapeCast S64x1x1 x h (ix3 p q r) = x (ix2 0 p) := by
  pointwise []

theorem castT (x : S8x64.Idx → EReal) (h : S8x64.Transposes [1, 0] S64x8) (p : Fin 64) (r : Fin 8) : transpose S64x8 [1, 0] x h (ix2 p r) = x (ix2 r p) := by
  pointwise []

variable (c : Dev nD) (hx : ∀ p k, max (arg0 m c (ix3 p 0 k)) (-arg0 m c (ix3 p 0 k)) ≤ VQ.top)

include hx in
theorem codes_at (p : Fin 64) (k : Fin 4608) : (codesOf (tokens m c) : S64x4608.Idx → EReal) (ix2 p k) = VQ.codeOf (VRef.row (arg0 m c) p) k := by
  have e : (fun k => (tokens m c : S64x4608.Idx → EReal) (ix2 p k)) = VRef.row (arg0 m c) p := funext fun k => tokens_at m c p k
  rw [← e]
  exact VQ.codes_at (tokens m c) p k fun k => by rw [tokens_at]; exact hx p k

include hx in
theorem scale_at (p : Fin 64) (l : Fin 128) : (scaleOf (tokens m c) : S64x128.Idx → EReal) (ix2 p l) = VQ.scaleOf (VRef.row (arg0 m c) p) := by
  have e : (fun k => (tokens m c : S64x4608.Idx → EReal) (ix2 p k)) = VRef.row (arg0 m c) p := funext fun k => tokens_at m c p k
  rw [← e]
  exact VQ.scaleTile_at (tokens m c) p l fun k => by rw [tokens_at]; exact hx p k

include hx in
theorem res6 (p : Fin 64) (q : Fin 1) (k : Fin 4608) : (endAt m c main_v6 : S64x1x4608.Idx → EReal) (ix3 p q k) = VQ.codeOf (VRef.row (arg0 m c) p) k := by
  rw [end6]
  exact (VRef.castA (codesOf (tokens m c)) _ p q k).trans (codes_at m c hx p k)

include hx in
theorem res7 (p : Fin 64) (q r : Fin 1) : (endAt m c main_v7 : S64x1x1.Idx → EReal) (ix3 p q r) = VQ.scaleOf (VRef.row (arg0 m c) p) := by
  rw [end7, final2]
  exact (castR (scaleRow (scaleOf (tokens m c))) _ p q r).trans ((VQ.row_at (scaleOf (tokens m c)) 0 p).trans (scale_at m c hx p 0))

include hx in
theorem logit_at (p : Fin 64) (g : Fin 250) (l : Fin 128) :
    VRef.logit (arg0 m c) (arg1 m c) (arg2 m c) (arg3 m c) p ⟨128 * g.val + l.val, by omega⟩ =
      VL.logit (scaleOf (tokens m c)) (colScale m c) (biases m c) (codesOf (tokens m c)) (weights m c) p g l := by
  unfold VRef.logit VL.logit
  rw [colScale_at, biases_at, scale_at m c hx]
  refine congrArg₂ (· + ·) (congrArg₂ (· * ·) (congrArg₂ (· * ·) (Finset.sum_congr rfl fun k _ => ?_) rfl) rfl) rfl
  rw [codes_at m c hx]
  exact congrArg₂ (· * ·) rfl (congrFun (V_main_arg1 m c).symm _)

include hx in
theorem res5 (p : Fin 64) (q : Fin 1) (r : Fin 8) : some ((endAt m c main_v5 : S64x1x8.Idx → EReal) (ix3 p q r)) =
    (topList 8 (List.ofFn fun j => VRef.logit (arg0 m c) (arg1 m c) (arg2 m c) (arg3 m c) p j))[r.val]? := by
  rw [end5, final0]
  exact (congrArg some ((VRef.castC _ _ p q r).trans (castT (valsOf (tokens m c) (weights m c) (colScale m c) (biases m c)) _ p r))).trans
    (VA.vals_at (scaleOf (tokens m c)) (colScale m c) (biases m c) (codesOf (tokens m c)) (weights m c) p r _ fun g l => logit_at m c hx p g l)

end Cert.VKer

end
-- ==== Proof.ValEnd.lean ====
module

public import proofs.«01_k».proof.Defs
public import proofs.«01_k».proof.Proof.ValKer
public import proofs.«01_k».proof.Proof.Kernels

/-! The kernel's results are the reference's. -/

@[expose] public section

set_option maxRecDepth 16384

noncomputable section

namespace Cert.VEnd

open Idealize.ShloMosaic Idealize.ShloMosaic.TcCoe Idealize.SL.Sem Idealize.ShloMosaic.SortNet

theorem preFacts : Cert.Pre_finite_tokens.Facts := ⟨by decide, by decide⟩

attribute [local instance] preFacts

/-- A magnitude at most the greatest finite one. -/
theorem finite_at (x : FVec Ideal Cert.Pre_finite_tokens.S64x1x4608 .bf16) (w : FVec Ideal Cert.Pre_finite_tokens.S4608x32000 .fp8e4m3)
    (s b : FVec Ideal Cert.Pre_finite_tokens.S32000 .f32) (h : Cert.Pre_finite_tokens.fn (F := Ideal) x w s b = fun _ => 1#1)
    (p : Fin 64) (k : Fin 4608) : max (x (ix3 p 0 k) : EReal) (-x (ix3 p 0 k)) ≤ VQ.top := by
  have h1 := congrFun h (ix3 p 0 k)
  have h2 : Cert.Pre_finite_tokens.fn (F := Ideal) x w s b (ix3 p 0 k) = BitVec.ofBool (decide (max (x (ix3 p 0 k) : EReal) (-x (ix3 p 0 k)) ≤ VQ.top)) := by
    rfl
  rw [h2] at h1
  by_contra hn
  rw [decide_eq_false hn] at h1
  exact absurd h1 (by decide)

section
variable (m : (ℓ : Loc Cert.Kernel.nD Cert.Kernel.τ Cert.Kernel.sig) → Buf (Elt Ideal) ℓ)
  (m' : (ℓ : Loc Cert.ReferenceIdeal.nD Cert.ReferenceIdeal.τ Cert.ReferenceIdeal.sig) → Buf (Elt Ideal) ℓ) (c : Dev Cert.Kernel.nD)

/-- What the reference ends with. -/
abbrev refAt (b : Ref Cert.ReferenceIdeal.sig .tc) : Buf (Elt Ideal) ((c : Thread Cert.ReferenceIdeal.nD Cert.ReferenceIdeal.τ).loc b) :=
  Pipeline.afterTail₀ Cert.ReferenceIdeal.cfgs (Cert.ReferenceIdeal.Gen.dats m') 0 (Cert.ReferenceIdeal.Gen.V0 m') [Cert.ReferenceIdeal.Gen.hostOps1] c b

variable (hx : ∀ p k, max (VKer.arg0 m c (ix3 p 0 k)) (-VKer.arg0 m c (ix3 p 0 k)) ≤ VQ.top)
  (h0 : VRef.arg0 m' c = VKer.arg0 m c) (h1 : VRef.arg1 m' c = VKer.arg1 m c) (h2 : VRef.arg2 m' c = VKer.arg2 m c) (h3 : VRef.arg3 m' c = VKer.arg3 m c)

include hx h0 h1 h2 h3 in
theorem same_values : (refAt m' c Cert.ReferenceIdeal.main_v4 : Cert.Kernel.S64x1x8.Idx → EReal) = Cert.KL.endAt m c Cert.Kernel.main_v5 := by
  funext i
  obtain ⟨p, q, r, rfl⟩ : ∃ (p : Fin 64) (q : Fin 1) (r : Fin 8), i = ix3 p q r := ⟨i 0, i 1, i 2, eq_ix3 i⟩
  have e := VRef.res4 m' c p q r
  rw [h0, h1, h2, h3, ← VKer.res5 m c hx p q r] at e
  exact Option.some.inj e

include hx h0 in
theorem same_codes : (refAt m' c Cert.ReferenceIdeal.main_v5 : Cert.Kernel.S64x1x4608.Idx → EReal) = Cert.KL.endAt m c Cert.Kernel.main_v6 := by
  funext i
  obtain ⟨p, q, r, rfl⟩ : ∃ (p : Fin 64) (q : Fin 1) (r : Fin 4608), i = ix3 p q r := ⟨i 0, i 1, i 2, eq_ix3 i⟩
  have e := VRef.res5 m' c p q r
  rw [h0, ← VKer.res6 m c hx p q r] at e
  exact e

include hx h0 in
theorem same_scale : (refAt m' c Cert.ReferenceIdeal.main_v6 : Cert.Kernel.S64x1x1.Idx → EReal) = Cert.KL.endAt m c Cert.Kernel.main_v7 := by
  funext i
  obtain ⟨p, q, r, rfl⟩ : ∃ (p : Fin 64) (q : Fin 1) (r : Fin 1), i = ix3 p q r := ⟨i 0, i 1, i 2, eq_ix3 i⟩
  have e := VRef.res6 m' c p q r
  rw [h0, ← VKer.res7 m c hx p q r] at e
  exact e

end

theorem algebraic : Cert.algebraic_KernelIdeal_ReferenceIdeal_pre_finite_tokens (hKernelIdeal := Cert.KernelIdeal.Gen.facts)
    (hReferenceIdeal := Cert.ReferenceIdeal.Gen.facts) (hPre_finite_tokens := preFacts) := by
  intro m g m' g' hpre hargs
  refine ⟨fun c => Cert.KL.endAt m c Cert.Kernel.main_v5, fun c => Cert.KL.endAt m c Cert.Kernel.main_v6, fun c => Cert.KL.endAt m c Cert.Kernel.main_v7, ?_, ?_⟩
  · rw [Cert.KL.defsIdeal, Cert.KL.mainIdeal]
    exact (θ_run Cert.Kernel.defs _ _).mono (fun r h c => ⟨
      h.1 c Cert.Kernel.main_v5 (Pipeline.mem_restRefs_of Cert.Kernel.main_v5 (by decide) (by decide)),
      h.1 c Cert.Kernel.main_v6 (Pipeline.mem_restRefs_of Cert.Kernel.main_v6 (by decide) (by decide)),
      h.1 c Cert.Kernel.main_v7 (Pipeline.mem_restRefs_of Cert.Kernel.main_v7 (by decide) (by decide)),
      (h.1 c Cert.Kernel.main_arg0 (Pipeline.mem_restRefs_of Cert.Kernel.main_arg0 (by decide) (by decide))).trans (Cert.KL.end_arg0 m c),
      (h.1 c Cert.Kernel.main_arg1 (Pipeline.mem_restRefs_of Cert.Kernel.main_arg1 (by decide) (by decide))).trans (Cert.KL.end_arg1 m c),
      (h.1 c Cert.Kernel.main_arg2 (Pipeline.mem_restRefs_of Cert.Kernel.main_arg2 (by decide) (by decide))).trans (Cert.KL.end_arg2 m c),
      (h.1 c Cert.Kernel.main_arg3 (Pipeline.mem_restRefs_of Cert.Kernel.main_arg3 (by decide) (by decide))).trans (Cert.KL.end_arg3 m c)⟩) (Cert.KL.run_main m g Cert.KL.same_ideal)
  · have hx : ∀ c, ∀ p k, max (VKer.arg0 m c (ix3 p 0 k)) (-VKer.arg0 m c (ix3 p 0 k)) ≤ VQ.top := fun c p k =>
      finite_at _ _ _ _ (hpre c) p k
    exact (θ_run Cert.ReferenceIdeal.defs _ _).mono (fun r h c => ⟨
      ((h c).2 Cert.ReferenceIdeal.main_v4 (Pipeline.mem_restRefs_of Cert.ReferenceIdeal.main_v4 (by decide) (by decide))).trans
        (same_values m m' c (hx c) (hargs c).1 (hargs c).2.1 (hargs c).2.2.1 (hargs c).2.2.2),
      ((h c).2 Cert.ReferenceIdeal.main_v5 (Pipeline.mem_restRefs_of Cert.ReferenceIdeal.main_v5 (by decide) (by decide))).trans (same_codes m m' c (hx c) (hargs c).1),
      ((h c).2 Cert.ReferenceIdeal.main_v6 (Pipeline.mem_restRefs_of Cert.ReferenceIdeal.main_v6 (by decide) (by decide))).trans (same_scale m m' c (hx c) (hargs c).1),
      ((h c).2 Cert.ReferenceIdeal.main_arg0 (Pipeline.mem_restRefs_of Cert.ReferenceIdeal.main_arg0 (by decide) (by decide))).trans (Cert.ReferenceIdeal.Gen.W_main_arg0 m' _ c),
      ((h c).1 1).trans (((Cert.ReferenceIdeal.Gen.dats m' 0 c).arrAt_in 1 rfl _).trans ((Cert.ReferenceIdeal.Gen.A_eq m' c 1).trans (Cert.ReferenceIdeal.Gen.V_main_arg1 m' c))),
      ((h c).2 Cert.ReferenceIdeal.main_arg2 (Pipeline.mem_restRefs_of Cert.ReferenceIdeal.main_arg2 (by decide) (by decide))).trans (Cert.ReferenceIdeal.Gen.W_main_arg2 m' _ c),
      ((h c).2 Cert.ReferenceIdeal.main_arg3 (Pipeline.mem_restRefs_of Cert.ReferenceIdeal.main_arg3 (by decide) (by decide))).trans (Cert.ReferenceIdeal.Gen.W_main_arg3 m' _ c)⟩)
      (Cert.ReferenceIdeal.Gen.run_main m' g')

end Cert.VEnd

end
-- ==== Proof.lean ====
module

public import proofs.«01_k».proof.Defs
public import proofs.«01_k».proof.Proof.Kernels
public import proofs.«01_k».proof.Proof.ValEnd
public import proofs.«01_k».proof.Proof.Gen.ReferenceIdeal.Frame

/-! The claims. -/

@[expose] public section

noncomputable section

theorem Cert.Proof.claim : Cert.Claim :=
  ⟨Cert.Kernel.Gen.facts, Cert.KernelIdeal.Gen.facts, Cert.ReferenceIdeal.Gen.facts, Cert.VEnd.preFacts,
    fun m g _ => Cert.KL.quiescent m g Cert.KL.same_bits,
    fun m g _ => by rw [Cert.KL.defsIdeal, Cert.KL.mainIdeal]; exact Cert.KL.quiescent m g Cert.KL.same_ideal,
    fun m g _ => by rw [Cert.KL.defsIdeal, Cert.KL.mainIdeal]; exact Cert.KL.quiescent m g Cert.KL.same_ideal,
    fun m g _ => Cert.ReferenceIdeal.Gen.frame m g,
    fun m g _ => Cert.ReferenceIdeal.Gen.frame m g,
    trivial,
    Cert.VEnd.algebraic⟩

end
